-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "chunk_g0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "log_g1" .f32 0xBC8102B3#32 ((Real.log (63 / 64) : ℝ) : EReal)
  ∧ IdealRules.named_const.Statement Cert.KernelIdeal.κ "chunk_g1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "log_g2" .f32 0xBC0080AC#32 ((Real.log (127 / 128) : ℝ) : EReal)
  ∧ IdealRules.named_const.Statement Cert.KernelIdeal.κ "chunk_g2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "log_g3" .f32 0xBB80402B#32 ((Real.log (255 / 256) : ℝ) : EReal)
  ∧ IdealRules.named_const.Statement Cert.KernelIdeal.κ "chunk_g3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v55) = v4 c
          ∧ r.2.mem ((c.tc : Thread Cert.Reference3Ideal.nD Cert.Reference3Ideal.τ).loc Cert.Reference3Ideal.main_v56) = v5 c
          ∧ r.2.mem ((c.tc : Thread Cert.Reference3Ideal.nD Cert.Reference3Ideal.τ).loc Cert.Reference3Ideal.main_v57) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v20_1)) (v1 : (c : Dev Cert.Kernel5Ideal.nD) → Buf (Elt Ideal) ((c.tc : Thread Cert.Kernel5Ideal.nD Cert.Kernel5Ideal.τ).loc Cert.Kernel5Ideal.main_v22)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_1) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v90) = v2 c
          ∧ r.2.mem ((c.tc : Thread Cert.Reference5Ideal.nD Cert.Reference5Ideal.τ).loc Cert.Reference5Ideal.main_v91) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v78) = v2 c
          ∧ r.2.mem ((c.tc : Thread Cert.Reference6Ideal.nD Cert.Reference6Ideal.τ).loc Cert.Reference6Ideal.main_v80) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x2048x1024 : Shape := ⟨3, ![8, 2048, 1024]⟩
abbrev S1x1024 : Shape := ⟨2, ![1, 1024]⟩
abbrev S1x1024x6144 : Shape := ⟨3, ![1, 1024, 6144]⟩
abbrev S2048x128 : Shape := ⟨2, ![2048, 128]⟩
abbrev S1x2048 : Shape := ⟨2, ![1, 2048]⟩
abbrev S1x2048x1024 : Shape := ⟨3, ![1, 2048, 1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x128 .f32) (main_v14 : IVec S_ 1) (main_v15 : FVec F S2048x128 .f32) (main_v16 : FVec F S2048x128 .f32) : IVec S_ 1 :=
  let main_v17 : IVec S2048x128 1 := cmpf .olt main_v15 main_v16
  let main_c_5 : IVec S_ 1 := constantI S_ 1 1#1
  let main_v18 : IVec S_ 1 := (fun x v => Host.reduce IntOp.andi x v reducesTo_S2048x128_S_d0_1 h_S_) main_v17 main_c_5
  let main_v19 : IVec S_ 1 := andi main_v14 main_v18
  let main_v20 : FVec F S2048x128 .f32 := Host.absf main_arg4
  let main_cst_6 : FVec F S_ .f32 := constant S_ .f32 0x7F800000#32
  let main_v21 : FVec F S2048x128 .f32 := broadcastInDim S2048x128 ![] bcast_S_S2048x128 main_cst_6
  let main_v22 : IVec S2048x128 1 := cmpf .olt main_v20 main_v21
  let main_c_7 : IVec S_ 1 := constantI S_ 1 1#1
  let main_v23 : IVec S_ 1 := (fun x v => Host.reduce IntOp.andi x v reducesTo_S2048x128_S_d0_1 h_S_) main_v22 main_c_7
  let main_v24 : IVec S_ 1 := andi main_v19 main_v23
  main_v24

def fn {F : FTy → Type} [FloatOps F] (main_arg0 : FVec F S8x2048x1024 .f32) (main_arg1 : FVec F S1x1024 .f32) (main_arg2 : FVec F S1x1024x6144 .bf16) (main_arg3 : FVec F S2048x128 .f32) (main_arg4 : FVec F S2048x128 .f32) (main_arg5 : FVec F S1x2048 .f32) (main_arg6 : FVec F S1x2048x1024 .bf16) (main_arg7 : FVec F S2x1024x2816 .f32) (main_arg8 : FVec F S2x1024x2816 .f32) (main_arg9 : FVec F S2x2816x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6144 .f32 := (extf .f32 · bitsLt_bf16_f32) main_arg2
  let main_v10 : FVec F S1x1024x6144 .f32 := Host.absf main_v9
  let main_cst_2 : FVec F S_ .f32 := constant S_ .f32 0x7F800000#32
  let main_v11 : FVec F S1x1024x6144 .f32 := broadcastInDim S1x1024x6144 ![] bcast_S_S1x1024x6144 main_cst_2
  let main_v12 : IVec S1x1024x6144 1 := cmpf .olt main_v10 main_v11
  let main_c_3 : IVec S_ 1 := constantI S_ 1 1#1
  let main_v13 : IVec S_ 1 := (fun x v => Host.reduce IntOp.andi x v reducesTo_S1x1024x6144_S_d0_1_2 h_S_) main_v12 main_c_3
  let main_v14 : IVec S_ 1 := andi main_v8 main_v13
  let main_v15 : FVec F S2048x128 .f32 := Host.absf main_arg3
  let main_cst_4 : FVec F S_ .f32 := constant S_ .f32 0x7F800000#32
  let main_v16 : FVec F S2048x128 .f32 := broadcastInDim S2048x128 ![] bcast_S_S2048x128 main_cst_4
  fn_part1 (F := F) main_arg4 main_v14 main_v15 main_v16
-- ==== Kernel.lean ====
abbrev S8x2048x1024 : Shape := ⟨3, ![8, 2048, 1024]⟩
abbrev S1x1024 : Shape := ⟨2, ![1, 1024]⟩
abbrev S1x1024x6144 : Shape := ⟨3, ![1, 1024, 6144]⟩
abbrev S2048x128 : Shape := ⟨2, ![2048, 128]⟩
abbrev S1x2048 : Shape := ⟨2, ![1, 2048]⟩
abbrev S1x2048x1024 : Shape := ⟨3, ![1, 2048, 1024]⟩
abbrev S2x1024x2816 : Shape := ⟨3, ![2, 1024, 2816]⟩
abbrev S2x2816x1024 : Shape := ⟨3, ![2, 2816, 1024]⟩
abbrev S8x4x256x512 : Shape := ⟨4, ![8, 4, 256, 512]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x128 : Shape := ⟨2, ![512, 128]⟩
abbrev S1x64x2816 : Shape := ⟨3, ![1, 64, 2816]⟩
abbrev S1x176x1024 : Shape := ⟨3, ![1, 176, 1024]⟩
abbrev S1x4x256x512 : Shape := ⟨4, ![1, 4, 256, 512]⟩
abbrev S512x2048 : Shape := ⟨2, ![512, 2048]⟩
abbrev S64x2816 : Shape := ⟨2, ![64, 2816]⟩
abbrev S176x1024 : Shape := ⟨2, ![176, 1024]⟩
abbrev S256x256 : Shape := ⟨2, ![256, 256]⟩
abbrev S256x1 : Shape := ⟨2, ![256, 1]⟩
abbrev S1x256x1024 : Shape := ⟨3, ![1, 256, 1024]⟩
abbrev S256x1024 : Shape := ⟨2, ![256, 1024]⟩
abbrev S256 : Shape := ⟨1, ![256]⟩
abbrev S256x128 : Shape := ⟨2, ![256, 128]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S256x512 : Shape := ⟨2, ![256, 512]⟩
abbrev S1x1x256x512 : Shape := ⟨4, ![1, 1, 256, 512]⟩
abbrev S1x512 : Shape := ⟨2, ![1, 512]⟩
abbrev S256x2048 : Shape := ⟨2, ![256, 2048]⟩
abbrev S2048x1024 : Shape := ⟨2, ![2048, 1024]⟩

abbrev nBuf : Space → Nat
  | .hbm => 15
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6144, .bf16⟩
  | .hbm, ⟨3, _⟩ => ⟨S2048x128, .f32⟩
  | .hbm, ⟨4, _⟩ => ⟨S2048x128, .f32⟩
  | .hbm, ⟨5, _⟩ => ⟨S1x2048, .f32⟩
  | .hbm, ⟨6, _⟩ => ⟨S1x2048x1024, .bf16⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S8x2048x1024, .f32⟩
  | .hbm, ⟨11, _⟩ => ⟨S8x4x256x512, .f32⟩
  | .hbm, ⟨12, _⟩ => ⟨S1x1024x2816, .bf16⟩
  | .hbm, ⟨13, _⟩ => ⟨S1x1024x2816, .bf16⟩
  | .hbm, ⟨14, _⟩ => ⟨S1x2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S1x2048x1024, .bf16⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x176x1024, .f32⟩
  | .local _ .vmem, ⟨15, _⟩ => ⟨S1x176x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x4x256x512, .f32⟩
  | .local _ .vmem, ⟨19, _⟩ => ⟨S1x4x256x512, .f32⟩
  | .local _ .vmem, ⟨20, _⟩ => ⟨S1x64x2816, .bf16⟩
  | .local _ .vmem, ⟨21, _⟩ => ⟨S1x64x2816, .bf16⟩
  | .local _ .vmem, ⟨22, _⟩ => ⟨S1x64x2816, .bf16⟩
  | .local _ .vmem, ⟨23, _⟩ => ⟨S1x64x2816, .bf16⟩
  | .local _ .vmem, ⟨24, _⟩ => ⟨S1x176x1024, .bf16⟩
  | .local _ .vmem, ⟨25, _⟩ => ⟨S1x176x1024, .bf16⟩
  | .local _ .vmem, ⟨26, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c1_i32 : BitVec 32 := 1#32
  let c0_i32 : BitVec 32 := 0#32
  let c0_i32_0 : BitVec 32 := 0#32
  ![c1_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c1_i32 : BitVec 32 := 1#32
  let c0_i32 : BitVec 32 := 0#32
  let c0_i32_0 : BitVec 32 := 0#32
  ![c1_i32.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c1_i32 : BitVec 32 := 1#32
  let c0_i32 : BitVec 32 := 0#32
  let c0_i32_0 : BitVec 32 := 0#32
  ![c1_i32.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "chunk_g0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_g1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "chunk_g2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "chunk_g3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S8x2048x1024 : Shape := ⟨3, ![8, 2048, 1024]⟩
abbrev S1x1024 : Shape := ⟨2, ![1, 1024]⟩
abbrev S1x1024x6144 : Shape := ⟨3, ![1, 1024, 6144]⟩
abbrev S2048x128 : Shape := ⟨2, ![2048, 128]⟩
abbrev S1x2048 : Shape := ⟨2, ![1, 2048]⟩
abbrev S1x2048x1024 : Shape := ⟨3, ![1, 2048, 1024]⟩
abbrev S2x1024x2816 : Shape := ⟨3, ![2, 1024, 2816]⟩
abbrev S2x2816x1024 : Shape := ⟨3, ![2, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6144 : Shape := ⟨2, ![1024, 6144]⟩
abbrev S8x2048x6144 : Shape := ⟨3, ![8, 2048, 6144]⟩
abbrev S8x2048x2048 : Shape := ⟨3, ![8, 2048, 2048]⟩
abbrev S8x2048x4x256 : Shape := ⟨4, ![8, 2048, 4, 256]⟩
abbrev S8x4x2048x256 : Shape := ⟨4, ![8, 4, 2048, 256]⟩
abbrev S8x2048x4x512 : Shape := ⟨4, ![8, 2048, 4, 512]⟩
abbrev S8x4x2048x512 : Shape := ⟨4, ![8, 4, 2048, 512]⟩
abbrev S8x4x2048x128 : Shape := ⟨4, ![8, 4, 2048, 128]⟩
abbrev S1x1x2048x128 : Shape := ⟨4, ![1, 1, 2048, 128]⟩
abbrev S4 : Shape := ⟨1, ![4]⟩
abbrev S2048 : Shape := ⟨1, ![2048]⟩
abbrev S2048x1 : Shape := ⟨2, ![2048, 1]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S8x4x2048x2048 : Shape := ⟨4, ![8, 4, 2048, 2048]⟩
abbrev S1x4x2048x2048 : Shape := ⟨4, ![1, 4, 2048, 2048]⟩
abbrev S4x1 : Shape := ⟨2, ![4, 1]⟩
abbrev S4x2048 : Shape := ⟨2, ![4, 2048]⟩
abbrev S4x2048x1 : Shape := ⟨3, ![4, 2048, 1]⟩
abbrev S1x4x2048x1 : Shape := ⟨4, ![1, 4, 2048, 1]⟩
abbrev S8x4x256x512 : Shape := ⟨4, ![8, 4, 256, 512]⟩
abbrev S8x4x2048 : Shape := ⟨3, ![8, 4, 2048]⟩
abbrev S8x4x2048x1 : Shape := ⟨4, ![8, 4, 2048, 1]⟩
abbrev S1x1x2048 : Shape := ⟨3, ![1, 1, 2048]⟩
abbrev S2048x1024 : Shape := ⟨2, ![2048, 1024]⟩
abbrev S1x1024x2816 : Shape := ⟨3, ![1, 1024, 2816]⟩
abbrev S1x2816x1024 : Shape := ⟨3, ![1, 2816, 1024]⟩

abbrev nBuf : Space → Nat
  | .hbm => 178
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x6144, .bf16⟩
  | 3 => ⟨S2048x128, .f32⟩
  | 4 => ⟨S2048x128, .f32⟩
  | 5 => ⟨S1x2048, .f32⟩
  | 6 => ⟨S1x2048x1024, .bf16⟩
  | 7 => ⟨S2x1024x2816, .f32⟩
  | 8 => ⟨S2x1024x2816, .f32⟩
  | 9 => ⟨S2x2816x1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S1024x6144, .bf16⟩
  | 27 => ⟨S1024x6144, .f32⟩
  | 28 => ⟨S8x2048x6144, .f32⟩
  | 29 => ⟨S8x2048x1024, .f32⟩
  | 30 => ⟨S8x2048x1024, .f32⟩
  | 31 => ⟨S8x2048x2048, .f32⟩
  | 32 => ⟨S8x2048x2048, .f32⟩
  | 33 => ⟨S8x2048x4x256, .f32⟩
  | 34 => ⟨S8x4x2048x256, .f32⟩
  | 35 => ⟨S8x2048x4x256, .f32⟩
  | 36 => ⟨S8x4x2048x256, .f32⟩
  | 37 => ⟨S8x2048x4x512, .f32⟩
  | 38 => ⟨S8x4x2048x512, .f32⟩
  | 39 => ⟨S8x4x2048x128, .f32⟩
  | 40 => ⟨S8x4x2048x128, .f32⟩
  | 41 => ⟨S1x1x2048x128, .f32⟩
  | 42 => ⟨S8x4x2048x128, .f32⟩
  | 43 => ⟨S8x4x2048x128, .f32⟩
  | 44 => ⟨S1x1x2048x128, .f32⟩
  | 45 => ⟨S8x4x2048x128, .f32⟩
  | 46 => ⟨S8x4x2048x128, .f32⟩
  | 47 => ⟨S8x4x2048x128, .f32⟩
  | 48 => ⟨S1x1x2048x128, .f32⟩
  | 49 => ⟨S8x4x2048x128, .f32⟩
  | 50 => ⟨S8x4x2048x128, .f32⟩
  | 51 => ⟨S1x1x2048x128, .f32⟩
  | 52 => ⟨S8x4x2048x128, .f32⟩
  | 53 => ⟨S8x4x2048x128, .f32⟩
  | 54 => ⟨S8x4x2048x128, .f32⟩
  | 55 => ⟨S8x4x2048x256, .f32⟩
  | 56 => ⟨S8x4x2048x128, .f32⟩
  | 57 => ⟨S8x4x2048x128, .f32⟩
  | 58 => ⟨S1x1x2048x128, .f32⟩
  | 59 => ⟨S8x4x2048x128, .f32⟩
  | 60 => ⟨S8x4x2048x128, .f32⟩
  | 61 => ⟨S1x1x2048x128, .f32⟩
  | 62 => ⟨S8x4x2048x128, .f32⟩
  | 63 => ⟨S8x4x2048x128, .f32⟩
  | 64 => ⟨S8x4x2048x128, .f32⟩
  | 65 => ⟨S1x1x2048x128, .f32⟩
  | 66 => ⟨S8x4x2048x128, .f32⟩
  | 67 => ⟨S8x4x2048x128, .f32⟩
  | 68 => ⟨S1x1x2048x128, .f32⟩
  | 69 => ⟨S8x4x2048x128, .f32⟩
  | 70 => ⟨S8x4x2048x128, .f32⟩
  | 71 => ⟨S8x4x2048x128, .f32⟩
  | 72 => ⟨S8x4x2048x256, .f32⟩
  | 73 => ⟨S_, .f32⟩
  | 74 => ⟨S8x4x2048x256, .f32⟩
  | 75 => ⟨S8x4x2048x256, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S2048, .f32⟩
  | 88 => ⟨S2048x1, .f32⟩
  | 89 => ⟨S1x2048, .f32⟩
  | 90 => ⟨S2048x2048, .f32⟩
  | 91 => ⟨S2048x2048, .f32⟩
  | 92 => ⟨S2048x2048, .f32⟩
  | 93 => ⟨S1x2048x2048, .f32⟩
  | 94 => ⟨S_, .f32⟩
  | 95 => ⟨S1x2048x2048, .f32⟩
  | 96 => ⟨S1x2048x2048, .i1⟩
  | 97 => ⟨S_, .f32⟩
  | 98 => ⟨S2048x2048, .f32⟩
  | 99 => ⟨S2048x2048, .f32⟩
  | 100 => ⟨S1x2048x2048, .f32⟩
  | 101 => ⟨S4x1x1, .f32⟩
  | 102 => ⟨S4x2048x2048, .f32⟩
  | 103 => ⟨S4x2048x2048, .f32⟩
  | 104 => ⟨S4x2048x2048, .f32⟩
  | 105 => ⟨S4x2048x2048, .f32⟩
  | 106 => ⟨S_, .f32⟩
  | 107 => ⟨S_, .f32⟩
  | 108 => ⟨S4x2048x2048, .i1⟩
  | 109 => ⟨S4x2048x2048, .f32⟩
  | 110 => ⟨S4x2048x2048, .f32⟩
  | 111 => ⟨S8x4x2048x2048, .f32⟩
  | 112 => ⟨S1x4x2048x2048, .f32⟩
  | 113 => ⟨S8x4x2048x2048, .f32⟩
  | 114 => ⟨S8x4x2048x2048, .f32⟩
  | 115 => ⟨S8x4x2048x512, .f32⟩
  | 116 => ⟨S1x2048, .f32⟩
  | 117 => ⟨S_, .f32⟩
  | 118 => ⟨S1x2048, .f32⟩
  | 119 => ⟨S1x2048, .f32⟩
  | 120 => ⟨S4x1, .f32⟩
  | 121 => ⟨S4x2048, .f32⟩
  | 122 => ⟨S4x2048, .f32⟩
  | 123 => ⟨S4x2048, .f32⟩
  | 124 => ⟨S4x2048, .f32⟩
  | 125 => ⟨S4x2048x1, .f32⟩
  | 126 => ⟨S1x4x2048x1, .f32⟩
  | 127 => ⟨S8x4x2048x256, .f32⟩
  | _ => ⟨S8x2048x1024, .f32⟩

abbrev hbmTy0_1 (i : Nat) : BufTy := match i % 128 with
  | 0 => ⟨S8x4x2048x256, .f32⟩
  | 1 => ⟨S8x4x256x512, .f32⟩
  | 2 => ⟨S_, .f32⟩
  | 3 => ⟨S8x4x2048, .f32⟩
  | 4 => ⟨S8x4x2048x1, .f32⟩
  | 5 => ⟨S_, .f32⟩
  | 6 => ⟨S8x4x2048x1, .f32⟩
  | 7 => ⟨S8x4x2048x1, .f32⟩
  | 8 => ⟨S8x4x2048x512, .f32⟩
  | 9 => ⟨S8x4x2048x512, .f32⟩
  | 10 => ⟨S8x4x2048x512, .f32⟩
  | 11 => ⟨S_, .f32⟩
  | 12 => ⟨S8x4x2048, .f32⟩
  | 13 => ⟨S8x4x2048x1, .f32⟩
  | 14 => ⟨S_, .f32⟩
  | 15 => ⟨S8x4x2048x1, .f32⟩
  | 16 => ⟨S8x4x2048x1, .f32⟩
  | 17 => ⟨S8x4x2048x512, .f32⟩
  | 18 => ⟨S8x4x2048x512, .f32⟩
  | 19 => ⟨S_, .f32⟩
  | 20 => ⟨S8x4x2048x1, .f32⟩
  | 21 => ⟨S8x4x2048x1, .f32⟩
  | 22 => ⟨S8x4x2048x1, .f32⟩
  | 23 => ⟨S8x4x2048x512, .f32⟩
  | 24 => ⟨S8x4x2048x512, .f32⟩
  | 25 => ⟨S8x2048x4x512, .f32⟩
  | 26 => ⟨S8x2048x2048, .f32⟩
  | 27 => ⟨S1x1x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S_, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x2048, .f32⟩
  | 39 => ⟨S8x2048x2048, .f32⟩
  | 40 => ⟨S2048x1024, .bf16⟩
  | 41 => ⟨S2048x1024, .f32⟩
  | 42 => ⟨S8x2048x1024, .f32⟩
  | 43 => ⟨S8x2048x1024, .f32⟩
  | 44 => ⟨S1x1024x2816, .f32⟩
  | 45 => ⟨S1x1024x2816, .bf16⟩
  | 46 => ⟨S1x1024x2816, .f32⟩
  | 47 => ⟨S1x1024x2816, .bf16⟩
  | 48 => ⟨S1x2816x1024, .f32⟩
  | 49 => ⟨S1x2816x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_cst_4 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_6 : Ref sig .tc := ⟨.hbm, 94, rfl⟩
abbrev main_v77 : Ref sig .tc := ⟨.hbm, 95, rfl⟩
abbrev main_v78 : Ref sig .tc := ⟨.hbm, 96, rfl⟩
abbrev main_cst_7 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_8 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_10 : Ref sig .tc := ⟨.hbm, 130, rfl⟩
abbrev main_v106 : Ref sig .tc := ⟨.hbm, 131, rfl⟩
abbrev main_v107 : Ref sig .tc := ⟨.hbm, 132, rfl⟩
abbrev main_cst_11 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_12 : Ref sig .tc := ⟨.hbm, 139, rfl⟩
abbrev main_v113 : Ref sig .tc := ⟨.hbm, 140, rfl⟩
abbrev main_v114 : Ref sig .tc := ⟨.hbm, 141, rfl⟩
abbrev main_cst_13 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_14 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_call1_v0 : Ref sig .tc := ⟨.hbm, 158, rfl⟩
abbrev main_call1_v1 : Ref sig .tc := ⟨.hbm, 159, rfl⟩
abbrev main_call1_cst : Ref sig .tc := ⟨.hbm, 160, rfl⟩
abbrev main_call1_v2 : Ref sig .tc := ⟨.hbm, 161, rfl⟩
abbrev main_call1_v3 : Ref sig .tc := ⟨.hbm, 162, rfl⟩
abbrev main_call1_cst_0 : Ref sig .tc := ⟨.hbm, 163, rfl⟩
abbrev main_call1_v4 : Ref sig .tc := ⟨.hbm, 164, rfl⟩
abbrev main_call1_v5 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .bf16⟩
  | .hbm, ⟨3, _⟩ => ⟨S1x1024x2816, .bf16⟩
  | .hbm, ⟨4, _⟩ => ⟨S1x2816x1024, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .bf16⟩
  | .hbm, ⟨3, _⟩ => ⟨S1x1024x2816, .bf16⟩
  | .hbm, ⟨4, _⟩ => ⟨S1x2816x1024, .bf16⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x2816, .bf16⟩
  | .hbm, ⟨22, _⟩ => ⟨S1024x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S1024x2816, .bf16⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S2816x1024, .bf16⟩
  | .hbm, ⟨38, _⟩ => ⟨S2816x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x1024x6144 : Shape := ⟨3, ![1, 1024, 6144]⟩
abbrev S1x2048x1024 : Shape := ⟨3, ![1, 2048, 1024]⟩
abbrev S1x1024 : Shape := ⟨2, ![1, 1024]⟩
abbrev S1024 : Shape := ⟨1, ![1024]⟩
abbrev S8x2x1024 : Shape := ⟨3, ![8, 2, 1024]⟩
abbrev S1x1024x2816 : Shape := ⟨3, ![1, 1024, 2816]⟩
abbrev S1x2816x1024 : Shape := ⟨3, ![1, 2816, 1024]⟩
abbrev S1x64x2816 : Shape := ⟨3, ![1, 64, 2816]⟩
abbrev S1x176x1024 : Shape := ⟨3, ![1, 176, 1024]⟩
abbrev S1x64x6144 : Shape := ⟨3, ![1, 64, 6144]⟩
abbrev S1x128x1024 : Shape := ⟨3, ![1, 128, 1024]⟩
abbrev S1x2x1024 : Shape := ⟨3, ![1, 2, 1024]⟩
abbrev S1032x1024 : Shape := ⟨2, ![1032, 1024]⟩
abbrev S1024x1024 : Shape := ⟨2, ![1024, 1024]⟩
abbrev S8x1024 : Shape := ⟨2, ![8, 1024]⟩
abbrev S64x2816 : Shape := ⟨2, ![64, 2816]⟩
abbrev S176x1024 : Shape := ⟨2, ![176, 1024]⟩
abbrev S64x6144 : Shape := ⟨2, ![64, 6144]⟩
abbrev S128x1024 : Shape := ⟨2, ![128, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 22
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S1x1024x6144, .f32⟩
  | .hbm, ⟨9, _⟩ => ⟨S1x2048x1024, .f32⟩
  | .hbm, ⟨10, _⟩ => ⟨S1x1024x3072, .bf16⟩
  | .hbm, ⟨11, _⟩ => ⟨S1x1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8x2048x1024, .f32⟩
  | .hbm, ⟨16, _⟩ => ⟨S8x2x1024, .f32⟩
  | .hbm, ⟨17, _⟩ => ⟨S1x1024x2816, .bf16⟩
  | .hbm, ⟨18, _⟩ => ⟨S1x1024x2816, .bf16⟩
  | .hbm, ⟨19, _⟩ => ⟨S1x2816x1024, .bf16⟩
  | .hbm, ⟨20, _⟩ => ⟨S1x1024x6144, .bf16⟩
  | .hbm, ⟨21, _⟩ => ⟨S1x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x3x1024, .f32⟩
  | .local _ .vmem, ⟨5, _⟩ => ⟨S1x1024x1024, .bf16⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x176x1024, .f32⟩
  | .local _ .vmem, ⟨11, _⟩ => ⟨S1x176x1024, .f32⟩
  | .local _ .vmem, ⟨12, _⟩ => ⟨S1x64x6144, .f32⟩
  | .local _ .vmem, ⟨13, _⟩ => ⟨S1x64x6144, .f32⟩
  | .local _ .vmem, ⟨14, _⟩ => ⟨S1x128x1024, .f32⟩
  | .local _ .vmem, ⟨15, _⟩ => ⟨S1x128x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x2x1024, .f32⟩
  | .local _ .vmem, ⟨19, _⟩ => ⟨S1x2x1024, .f32⟩
  | .local _ .vmem, ⟨20, _⟩ => ⟨S1x64x2816, .bf16⟩
  | .local _ .vmem, ⟨21, _⟩ => ⟨S1x64x2816, .bf16⟩
  | .local _ .vmem, ⟨22, _⟩ => ⟨S1x64x2816, .bf16⟩
  | .local _ .vmem, ⟨23, _⟩ => ⟨S1x64x2816, .bf16⟩
  | .local _ .vmem, ⟨24, _⟩ => ⟨S1x176x1024, .bf16⟩
  | .local _ .vmem, ⟨25, _⟩ => ⟨S1x176x1024, .bf16⟩
  | .local _ .vmem, ⟨26, _⟩ => ⟨S1x64x6144, .bf16⟩
  | .local _ .vmem, ⟨27, _⟩ => ⟨S1x64x6144, .bf16⟩
  | .local _ .vmem, ⟨28, _⟩ => ⟨S1x128x1024, .bf16⟩
  | .local _ .vmem, ⟨29, _⟩ => ⟨S1x128x1024, .bf16⟩
  | .local _ .vmem, ⟨30, _⟩ => ⟨S1032x1024, .f32⟩
  | .local _ .vmem, ⟨31, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x6144 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x1024x6144 : Shape := ⟨3, ![1, 1024, 6144]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2x1024 : Shape := ⟨3, ![8, 2, 1024]⟩
abbrev S8x2050x1024 : Shape := ⟨3, ![8, 2050, 1024]⟩
abbrev S1024x1024 : Shape := ⟨2, ![1024, 1024]⟩
abbrev S1x1024x2816 : Shape := ⟨3, ![1, 1024, 2816]⟩
abbrev S1x2816x1024 : Shape := ⟨3, ![1, 2816, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S1x1024x6144, .f32⟩
  | .hbm, ⟨9, _⟩ => ⟨S1x2048x1024, .f32⟩
  | .hbm, ⟨10, _⟩ => ⟨S1x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S1024x3072, .f32⟩
  | .hbm, ⟨29, _⟩ => ⟨S8x2048x3072, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2x1024, .f32⟩
  | .hbm, ⟨36, _⟩ => ⟨S8x2050x1024, .f32⟩
  | .hbm, ⟨37, _⟩ => ⟨S1x1x1024, .f32⟩
  | .hbm, ⟨38, _⟩ => ⟨S1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S1024x1024, .f32⟩
  | .hbm, ⟨62, _⟩ => ⟨S8x2048x1024, .f32⟩
  | .hbm, ⟨63, _⟩ => ⟨S8x2048x1024, .f32⟩
  | .hbm, ⟨64, _⟩ => ⟨S8x2x1024, .f32⟩
  | .hbm, ⟨65, _⟩ => ⟨S1x1024x2816, .f32⟩
  | .hbm, ⟨66, _⟩ => ⟨S1x1024x2816, .bf16⟩
  | .hbm, ⟨67, _⟩ => ⟨S1x1024x2816, .f32⟩
  | .hbm, ⟨68, _⟩ => ⟨S1x1024x2816, .bf16⟩
  | .hbm, ⟨69, _⟩ => ⟨S1x2816x1024, .f32⟩
  | .hbm, ⟨70, _⟩ => ⟨S1x2816x1024, .bf16⟩
  | .hbm, ⟨71, _⟩ => ⟨S1x1024x6144, .bf16⟩
  | .hbm, ⟨72, _⟩ => ⟨S1x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel4.lean ====
abbrev S512x1024 : Shape := ⟨2, ![512, 1024]⟩
abbrev S512x2048 : Shape := ⟨2, ![512, 2048]⟩
abbrev S1x2048 : Shape := ⟨2, ![1, 2048]⟩
abbrev S1x2048x1024 : Shape := ⟨3, ![1, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S2048x1024 : Shape := ⟨2, ![2048, 1024]⟩
abbrev S1024x2816 : Shape := ⟨2, ![1024, 2816]⟩
abbrev S2816x1024 : Shape := ⟨2, ![2816, 1024]⟩
abbrev S512x2816 : Shape := ⟨2, ![512, 2816]⟩
abbrev S4 : Shape := ⟨1, ![4]⟩
abbrev S1 : Shape := ⟨1, ![1]⟩
abbrev S_ : Shape := ⟨0, ![]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048x1024, .bf16⟩
  | .hbm, ⟨5, _⟩ => ⟨S1x1024, .f32⟩
  | .hbm, ⟨6, _⟩ => ⟨S1x1024x2816, .bf16⟩
  | .hbm, ⟨7, _⟩ => ⟨S1x1024x2816, .bf16⟩
  | .hbm, ⟨8, _⟩ => ⟨S1x2816x1024, .bf16⟩
  | .hbm, ⟨9, _⟩ => ⟨S1x1024, .f32⟩
  | .hbm, ⟨10, _⟩ => ⟨S512x1024, .f32⟩
  | .local _ .vmem, ⟨0, _⟩ => ⟨S512x1024, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S2048x1024, .bf16⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x2048, .bf16⟩
  | .local _ .vmem, ⟨13, _⟩ => ⟨S512x2816, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S512x1024 : Shape := ⟨2, ![512, 1024]⟩
abbrev S512x2048 : Shape := ⟨2, ![512, 2048]⟩
abbrev S1x2048 : Shape := ⟨2, ![1, 2048]⟩
abbrev S1x2048x1024 : Shape := ⟨3, ![1, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512x4x512 : Shape := ⟨3, ![512, 4, 512]⟩
abbrev S_ : Shape := ⟨0, ![]⟩
abbrev S512x4 : Shape := ⟨2, ![512, 4]⟩
abbrev S512x4x1 : Shape := ⟨3, ![512, 4, 1]⟩
abbrev S2048x1024 : Shape := ⟨2, ![2048, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048x1024, .bf16⟩
  | .hbm, ⟨5, _⟩ => ⟨S1x1024, .f32⟩
  | .hbm, ⟨6, _⟩ => ⟨S1x1024x2816, .bf16⟩
  | .hbm, ⟨7, _⟩ => ⟨S1x1024x2816, .bf16⟩
  | .hbm, ⟨8, _⟩ => ⟨S1x2816x1024, .bf16⟩
  | .hbm, ⟨9, _⟩ => ⟨S1x1024, .f32⟩
  | .hbm, ⟨10, _⟩ => ⟨S512x4x512, .f32⟩
  | .hbm, ⟨11, _⟩ => ⟨S_, .f32⟩
  | .hbm, ⟨12, _⟩ => ⟨S512x4, .f32⟩
  | .hbm, ⟨13, _⟩ => ⟨S512x4x1, .f32⟩
  | .hbm, ⟨14, _⟩ => ⟨S_, .f32⟩
  | .hbm, ⟨15, _⟩ => ⟨S512x4x1, .f32⟩
  | .hbm, ⟨16, _⟩ => ⟨S512x4x1, .f32⟩
  | .hbm, ⟨17, _⟩ => ⟨S512x4x512, .f32⟩
  | .hbm, ⟨18, _⟩ => ⟨S512x4x512, .f32⟩
  | .hbm, ⟨19, _⟩ => ⟨S512x4x512, .f32⟩
  | .hbm, ⟨20, _⟩ => ⟨S_, .f32⟩
  | .hbm, ⟨21, _⟩ => ⟨S512x4, .f32⟩
  | .hbm, ⟨22, _⟩ => ⟨S512x4x1, .f32⟩
  | .hbm, ⟨23, _⟩ => ⟨S_, .f32⟩
  | .hbm, ⟨24, _⟩ => ⟨S512x4x1, .f32⟩
  | .hbm, ⟨25, _⟩ => ⟨S512x4x1, .f32⟩
  | .hbm, ⟨26, _⟩ => ⟨S512x4x512, .f32⟩
  | .hbm, ⟨27, _⟩ => ⟨S512x4x512, .f32⟩
  | .hbm, ⟨28, _⟩ => ⟨S_, .f32⟩
  | .hbm, ⟨29, _⟩ => ⟨S512x4x1, .f32⟩
  | .hbm, ⟨30, _⟩ => ⟨S512x4x1, .f32⟩
  | .hbm, ⟨31, _⟩ => ⟨S512x4x1, .f32⟩
  | .hbm, ⟨32, _⟩ => ⟨S512x4x512, .f32⟩
  | .hbm, ⟨33, _⟩ => ⟨S512x4x512, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S2048x1024, .bf16⟩
  | .hbm, ⟨39, _⟩ => ⟨S2048x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S512x1, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S1024x2816, .bf16⟩
  | .hbm, ⟨58, _⟩ => ⟨S1024x2816, .f32⟩
  | .hbm, ⟨59, _⟩ => ⟨S512x2816, .f32⟩
  | .hbm, ⟨60, _⟩ => ⟨S512x2816, .f32⟩
  | .hbm, ⟨61, _⟩ => ⟨S512x2816, .f32⟩
  | .hbm, ⟨62, _⟩ => ⟨S_, .f32⟩
  | .hbm, ⟨63, _⟩ => ⟨S512x2816, .f32⟩
  | .hbm, ⟨64, _⟩ => ⟨S512x2816, .f32⟩
  | .hbm, ⟨65, _⟩ => ⟨S_, .f32⟩
  | .hbm, ⟨66, _⟩ => ⟨S512x2816, .f32⟩
  | .hbm, ⟨67, _⟩ => ⟨S512x2816, .f32⟩
  | .hbm, ⟨68, _⟩ => ⟨S512x2816, .f32⟩
  | .hbm, ⟨69, _⟩ => ⟨S1024x2816, .bf16⟩
  | .hbm, ⟨70, _⟩ => ⟨S1024x2816, .f32⟩
  | .hbm, ⟨71, _⟩ => ⟨S512x2816, .f32⟩
  | .hbm, ⟨72, _⟩ => ⟨S512x2816, .f32⟩
  | .hbm, ⟨73, _⟩ => ⟨S2816x1024, .bf16⟩
  | .hbm, ⟨74, _⟩ => ⟨S2816x1024, .f32⟩
  | .hbm, ⟨75, _⟩ => ⟨S512x1024, .f32⟩
  | .hbm, ⟨76, _⟩ => ⟨S512x1024, .f32⟩
  | .hbm, ⟨77, _⟩ => ⟨S512x1024, .f32⟩
  | .hbm, ⟨78, _⟩ => ⟨S_, .f32⟩
  | .hbm, ⟨79, _⟩ => ⟨S512, .f32⟩
  | .hbm, ⟨80, _⟩ => ⟨S512x1, .f32⟩
  | .hbm, ⟨81, _⟩ => ⟨S_, .f32⟩
  | .hbm, ⟨82, _⟩ => ⟨S512x1, .f32⟩
  | .hbm, ⟨83, _⟩ => ⟨S512x1, .f32⟩
  | .hbm, ⟨84, _⟩ => ⟨S_, .f32⟩
  | .hbm, ⟨85, _⟩ => ⟨S512x1, .f32⟩
  | .hbm, ⟨86, _⟩ => ⟨S512x1, .f32⟩
  | .hbm, ⟨87, _⟩ => ⟨S512x1, .f32⟩
  | .hbm, ⟨88, _⟩ => ⟨S512x1024, .f32⟩
  | .hbm, ⟨89, _⟩ => ⟨S512x1024, .f32⟩
  | .hbm, ⟨90, _⟩ => ⟨S512x1024, .f32⟩
  | .hbm, ⟨91, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Kernel5.lean ====
abbrev S128x4x1024 : Shape := ⟨3, ![128, 4, 1024]⟩
abbrev S1x128x2x1024 : Shape := ⟨4, ![1, 128, 2, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S128 : Shape := ⟨1, ![128]⟩
abbrev S_ : Shape := ⟨0, ![]⟩
abbrev S1x128 : Shape := ⟨2, ![1, 128]⟩
abbrev S512x1024 : Shape := ⟨2, ![512, 1024]⟩
abbrev S128x2x1024 : Shape := ⟨3, ![128, 2, 1024]⟩
abbrev S1x1024 : Shape := ⟨2, ![1, 1024]⟩
abbrev S2048x128 : Shape := ⟨2, ![2048, 128]⟩
abbrev S1024x3072 : Shape := ⟨2, ![1024, 3072]⟩
abbrev S1024x1024 : Shape := ⟨2, ![1024, 1024]⟩
abbrev S1024x2816 : Shape := ⟨2, ![1024, 2816]⟩
abbrev S2816x1024 : Shape := ⟨2, ![2816, 1024]⟩
abbrev S512x2816 : Shape := ⟨2, ![512, 2816]⟩
abbrev S5 : Shape := ⟨1, ![5]⟩
abbrev S1 : Shape := ⟨1, ![1]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S512x256 : Shape := ⟨2, ![512, 256]⟩

abbrev nBuf : Space → Nat
  | .hbm => 41
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S1x128x2x1024, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S1x1024x2816, .bf16⟩
  | .hbm, ⟨8, _⟩ => ⟨S1x1024x2816, .bf16⟩
  | .hbm, ⟨9, _⟩ => ⟨S1x2816x1024, .bf16⟩
  | .hbm, ⟨10, _⟩ => ⟨S1024, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S1x1024x3072, .bf16⟩
  | .hbm, ⟨21, _⟩ => ⟨S1x1024x1024, .bf16⟩
  | .hbm, ⟨22, _⟩ => ⟨S512x1024, .f32⟩
  | .hbm, ⟨23, _⟩ => ⟨S128x2x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S128x4x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S2048x128, .f32⟩
  | .hbm, ⟨38, _⟩ => ⟨S2048x128, .f32⟩
  | .hbm, ⟨39, _⟩ => ⟨S128x4x1024, .f32⟩
  | .hbm, ⟨40, _⟩ => ⟨S128x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S2048x128, .f32⟩
  | .local _ .vmem, ⟨10, _⟩ => ⟨S2048x128, .f32⟩
  | .local _ .vmem, ⟨11, _⟩ => ⟨S1024x3072, .bf16⟩
  | .local _ .vmem, ⟨12, _⟩ => ⟨S1024x1024, .bf16⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S512x1024, .f32⟩
  | .local _ .vmem, ⟨17, _⟩ => ⟨S512x2816, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S128x4x1024 : Shape := ⟨3, ![128, 4, 1024]⟩
abbrev S1x128x2x1024 : Shape := ⟨4, ![1, 128, 2, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1x1024 : Shape := ⟨2, ![1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x3072 : Shape := ⟨2, ![1024, 3072]⟩
abbrev S128x4x3072 : Shape := ⟨3, ![128, 4, 3072]⟩
abbrev S128x2x1024 : Shape := ⟨3, ![128, 2, 1024]⟩
abbrev S128x6x1024 : Shape := ⟨3, ![128, 6, 1024]⟩
abbrev S1024x1024 : Shape := ⟨2, ![1024, 1024]⟩
abbrev S1024x2816 : Shape := ⟨2, ![1024, 2816]⟩
abbrev S128x4x2816 : Shape := ⟨3, ![128, 4, 2816]⟩
abbrev S2816x1024 : Shape := ⟨2, ![2816, 1024]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S512x1024 : Shape := ⟨2, ![512, 1024]⟩

abbrev nBuf : Space → Nat
  | .hbm => 120
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x2x1024, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S1x1024x2816, .bf16⟩
  | .hbm, ⟨8, _⟩ => ⟨S1x1024x2816, .bf16⟩
  | .hbm, ⟨9, _⟩ => ⟨S1x2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S128x4x1024, .f32⟩
  | .hbm, ⟨14, _⟩ => ⟨S_, .f32⟩
  | .hbm, ⟨15, _⟩ => ⟨S128x4, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S128x4x1, .f32⟩
  | .hbm, ⟨24, _⟩ => ⟨S128x4x1024, .f32⟩
  | .hbm, ⟨25, _⟩ => ⟨S128x4x1024, .f32⟩
  | .hbm, ⟨26, _⟩ => ⟨S1x1x1024, .f32⟩
  | .hbm, ⟨27, _⟩ => ⟨S128x4x1024, .f32⟩
  | .hbm, ⟨28, _⟩ => ⟨S128x4x1024, .f32⟩
  | .hbm, ⟨29, _⟩ => ⟨S1024x3072, .f32⟩
  | .hbm, ⟨30, _⟩ => ⟨S128x4x3072, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S128x4x1024, .f32⟩
  | .hbm, ⟨35, _⟩ => ⟨S128x2x1024, .f32⟩
  | .hbm, ⟨36, _⟩ => ⟨S128x6x1024, .f32⟩
  | .hbm, ⟨37, _⟩ => ⟨S1x1x1024, .f32⟩
  | .hbm, ⟨38, _⟩ => ⟨S1024, .f32⟩
  | .hbm, ⟨39, _⟩ => ⟨S128x4x1024, .f32⟩
  | .hbm, ⟨40, _⟩ => ⟨S1x1x1024, .f32⟩
  | .hbm, ⟨41, _⟩ => ⟨S128x4x1024, .f32⟩
  | .hbm, ⟨42, _⟩ => ⟨S128x4x1024, .f32⟩
  | .hbm, ⟨43, _⟩ => ⟨S_, .f32⟩
  | .hbm, ⟨44, _⟩ => ⟨S128x4x1024, .f32⟩
  | .hbm, ⟨45, _⟩ => ⟨S128x4x1024, .f32⟩
  | .hbm, ⟨46, _⟩ => ⟨S1x1x1024, .f32⟩
  | .hbm, ⟨47, _⟩ => ⟨S1024, .f32⟩
  | .hbm, ⟨48, _⟩ => ⟨S128x4x1024, .f32⟩
  | .hbm, ⟨49, _⟩ => ⟨S1x1x1024, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S1x1x1024, .f32⟩
  | .hbm, ⟨54, _⟩ => ⟨S1024, .f32⟩
  | .hbm, ⟨55, _⟩ => ⟨S128x4x1024, .f32⟩
  | .hbm, ⟨56, _⟩ => ⟨S1x1x1024, .f32⟩
  | .hbm, ⟨57, _⟩ => ⟨S128x4x1024, .f32⟩
  | .hbm, ⟨58, _⟩ => ⟨S128x4x1024, .f32⟩
  | .hbm, ⟨59, _⟩ => ⟨S128x4x1024, .f32⟩
  | .hbm, ⟨60, _⟩ => ⟨S128x4x1024, .f32⟩
  | .hbm, ⟨61, _⟩ => ⟨S1024x1024, .f32⟩
  | .hbm, ⟨62, _⟩ => ⟨S128x4x1024, .f32⟩
  | .hbm, ⟨63, _⟩ => ⟨S128x4x1024, .f32⟩
  | .hbm, ⟨64, _⟩ => ⟨S1x1024, .f32⟩
  | .hbm, ⟨65, _⟩ => ⟨S1024, .f32⟩
  | .hbm, ⟨66, _⟩ => ⟨S128x4x1024, .f32⟩
  | .hbm, ⟨67, _⟩ => ⟨S_, .f32⟩
  | .hbm, ⟨68, _⟩ => ⟨S128x4, .f32⟩
  | .hbm, ⟨69, _⟩ => ⟨S128x4x1, .f32⟩
  | .hbm, ⟨70, _⟩ => ⟨S_, .f32⟩
  | .hbm, ⟨71, _⟩ => ⟨S128x4x1, .f32⟩
  | .hbm, ⟨72, _⟩ => ⟨S128x4x1, .f32⟩
  | .hbm, ⟨73, _⟩ => ⟨S_, .f32⟩
  | .hbm, ⟨74, _⟩ => ⟨S128x4x1, .f32⟩
  | .hbm, ⟨75, _⟩ => ⟨S128x4x1, .f32⟩
  | .hbm, ⟨76, _⟩ => ⟨S128x4x1, .f32⟩
  | .hbm, ⟨77, _⟩ => ⟨S128x4x1024, .f32⟩
  | .hbm, ⟨78, _⟩ => ⟨S128x4x1024, .f32⟩
  | .hbm, ⟨79, _⟩ => ⟨S1x1x1024, .f32⟩
  | .hbm, ⟨80, _⟩ => ⟨S128x4x1024, .f32⟩
  | .hbm, ⟨81, _⟩ => ⟨S128x4x1024, .f32⟩
  | .hbm, ⟨82, _⟩ => ⟨S1024x2816, .bf16⟩
  | .hbm, ⟨83, _⟩ => ⟨S1024x2816, .f32⟩
  | .hbm, ⟨84, _⟩ => ⟨S128x4x2816, .f32⟩
  | .hbm, ⟨85, _⟩ => ⟨S128x4x2816, .f32⟩
  | .hbm, ⟨86, _⟩ => ⟨S128x4x2816, .f32⟩
  | .hbm, ⟨87, _⟩ => ⟨S_, .f32⟩
  | .hbm, ⟨88, _⟩ => ⟨S128x4x2816, .f32⟩
  | .hbm, ⟨89, _⟩ => ⟨S128x4x2816, .f32⟩
  | .hbm, ⟨90, _⟩ => ⟨S_, .f32⟩
  | .hbm, ⟨91, _⟩ => ⟨S128x4x2816, .f32⟩
  | .hbm, ⟨92, _⟩ => ⟨S128x4x2816, .f32⟩
  | .hbm, ⟨93, _⟩ => ⟨S128x4x2816, .f32⟩
  | .hbm, ⟨94, _⟩ => ⟨S1024x2816, .bf16⟩
  | .hbm, ⟨95, _⟩ => ⟨S1024x2816, .f32⟩
  | .hbm, ⟨96, _⟩ => ⟨S128x4x2816, .f32⟩
  | .hbm, ⟨97, _⟩ => ⟨S128x4x2816, .f32⟩
  | .hbm, ⟨98, _⟩ => ⟨S2816x1024, .bf16⟩
  | .hbm, ⟨99, _⟩ => ⟨S2816x1024, .f32⟩
  | .hbm, ⟨100, _⟩ => ⟨S128x4x1024, .f32⟩
  | .hbm, ⟨101, _⟩ => ⟨S128x4x1024, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S2048, .f32⟩
  | .hbm, ⟨111, _⟩ => ⟨S2048x1, .f32⟩
  | .hbm, ⟨112, _⟩ => ⟨S1x128, .f32⟩
  | .hbm, ⟨113, _⟩ => ⟨S2048x128, .f32⟩
  | .hbm, ⟨114, _⟩ => ⟨S2048x128, .f32⟩
  | .hbm, ⟨115, _⟩ => ⟨S2048x128, .f32⟩
  | .hbm, ⟨116, _⟩ => ⟨S512x1024, .f32⟩
  | .hbm, ⟨117, _⟩ => ⟨S128x2x1024, .f32⟩
  | .hbm, ⟨118, _⟩ => ⟨S2048x128, .f32⟩
  | .hbm, ⟨119, _⟩ => ⟨S2048x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel6.lean ====
abbrev S512x1024 : Shape := ⟨2, ![512, 1024]⟩
abbrev S1x1024 : Shape := ⟨2, ![1, 1024]⟩
abbrev S1x1024x6144 : Shape := ⟨3, ![1, 1024, 6144]⟩
abbrev S128 : Shape := ⟨1, ![128]⟩
abbrev S_ : Shape := ⟨0, ![]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x1024x256 : Shape := ⟨3, ![1, 1024, 256]⟩
abbrev S1024x256 : Shape := ⟨2, ![1024, 256]⟩
abbrev S512x256 : Shape := ⟨2, ![512, 256]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x6144, .bf16⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S512x1024, .f32⟩
  | .hbm, ⟨13, _⟩ => ⟨S512x1024, .f32⟩
  | .hbm, ⟨14, _⟩ => ⟨S512x2048, .f32⟩
  | .hbm, ⟨15, _⟩ => ⟨S512x2048, .f32⟩
  | .local _ .vmem, ⟨0, _⟩ => ⟨S512x1024, .f32⟩
  | .local _ .vmem, ⟨1, _⟩ => ⟨S1x1024, .f32⟩
  | .local _ .vmem, ⟨2, _⟩ => ⟨S1x1024x6144, .bf16⟩
  | .local _ .vmem, ⟨3, _⟩ => ⟨S1x128, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S512x1024 : Shape := ⟨2, ![512, 1024]⟩
abbrev S1x1024 : Shape := ⟨2, ![1, 1024]⟩
abbrev S1x1024x6144 : Shape := ⟨3, ![1, 1024, 6144]⟩
abbrev S_ : Shape := ⟨0, ![]⟩
abbrev S512 : Shape := ⟨1, ![512]⟩
abbrev S512x1 : Shape := ⟨2, ![512, 1]⟩
abbrev S1024x6144 : Shape := ⟨2, ![1024, 6144]⟩
abbrev S512x6144 : Shape := ⟨2, ![512, 6144]⟩
abbrev S128x4x6144 : Shape := ⟨3, ![128, 4, 6144]⟩
abbrev S128x4x1024 : Shape := ⟨3, ![128, 4, 1024]⟩
abbrev S128x4x2048 : Shape := ⟨3, ![128, 4, 2048]⟩
abbrev S128 : Shape := ⟨1, ![128]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S4x1x128 : Shape := ⟨3, ![4, 1, 128]⟩
abbrev S128x4x4x256 : Shape := ⟨4, ![128, 4, 4, 256]⟩
abbrev S128x4x4x128 : Shape := ⟨4, ![128, 4, 4, 128]⟩
abbrev S1x4x1x128 : Shape := ⟨4, ![1, 4, 1, 128]⟩
abbrev S512x2048 : Shape := ⟨2, ![512, 2048]⟩

abbrev nBuf : Space → Nat
  | .hbm => 99
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x6144, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x6144, .bf16⟩
  | .hbm, ⟨19, _⟩ => ⟨S1024x6144, .f32⟩
  | .hbm, ⟨20, _⟩ => ⟨S512x6144, .f32⟩
  | .hbm, ⟨21, _⟩ => ⟨S128x4x6144, .f32⟩
  | .hbm, ⟨22, _⟩ => ⟨S128x4x1024, .f32⟩
  | .hbm, ⟨23, _⟩ => ⟨S128x4x1024, .f32⟩
  | .hbm, ⟨24, _⟩ => ⟨S128x4x2048, .f32⟩
  | .hbm, ⟨25, _⟩ => ⟨S128x4x2048, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4x1, .f32⟩
  | .hbm, ⟨39, _⟩ => ⟨S1x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x1x128, .f32⟩
  | .hbm, ⟨45, _⟩ => ⟨S4x128, .f32⟩
  | .hbm, ⟨46, _⟩ => ⟨S4x1x128, .f32⟩
  | .hbm, ⟨47, _⟩ => ⟨S128x4x4x256, .f32⟩
  | .hbm, ⟨48, _⟩ => ⟨S128x4x4x128, .f32⟩
  | .hbm, ⟨49, _⟩ => ⟨S128x4x4x128, .f32⟩
  | .hbm, ⟨50, _⟩ => ⟨S1x4x1x128, .f32⟩
  | .hbm, ⟨51, _⟩ => ⟨S128x4x4x128, .f32⟩
  | .hbm, ⟨52, _⟩ => ⟨S128x4x4x128, .f32⟩
  | .hbm, ⟨53, _⟩ => ⟨S1x4x1x128, .f32⟩
  | .hbm, ⟨54, _⟩ => ⟨S128x4x4x128, .f32⟩
  | .hbm, ⟨55, _⟩ => ⟨S128x4x4x128, .f32⟩
  | .hbm, ⟨56, _⟩ => ⟨S128x4x4x128, .f32⟩
  | .hbm, ⟨57, _⟩ => ⟨S1x4x1x128, .f32⟩
  | .hbm, ⟨58, _⟩ => ⟨S128x4x4x128, .f32⟩
  | .hbm, ⟨59, _⟩ => ⟨S128x4x4x128, .f32⟩
  | .hbm, ⟨60, _⟩ => ⟨S1x4x1x128, .f32⟩
  | .hbm, ⟨61, _⟩ => ⟨S128x4x4x128, .f32⟩
  | .hbm, ⟨62, _⟩ => ⟨S128x4x4x128, .f32⟩
  | .hbm, ⟨63, _⟩ => ⟨S128x4x4x128, .f32⟩
  | .hbm, ⟨64, _⟩ => ⟨S128x4x4x256, .f32⟩
  | .hbm, ⟨65, _⟩ => ⟨S128x4x4x256, .f32⟩
  | .hbm, ⟨66, _⟩ => ⟨S128x4x4x128, .f32⟩
  | .hbm, ⟨67, _⟩ => ⟨S128x4x4x128, .f32⟩
  | .hbm, ⟨68, _⟩ => ⟨S1x4x1x128, .f32⟩
  | .hbm, ⟨69, _⟩ => ⟨S128x4x4x128, .f32⟩
  | .hbm, ⟨70, _⟩ => ⟨S128x4x4x128, .f32⟩
  | .hbm, ⟨71, _⟩ => ⟨S1x4x1x128, .f32⟩
  | .hbm, ⟨72, _⟩ => ⟨S128x4x4x128, .f32⟩
  | .hbm, ⟨73, _⟩ => ⟨S128x4x4x128, .f32⟩
  | .hbm, ⟨74, _⟩ => ⟨S128x4x4x128, .f32⟩
  | .hbm, ⟨75, _⟩ => ⟨S1x4x1x128, .f32⟩
  | .hbm, ⟨76, _⟩ => ⟨S128x4x4x128, .f32⟩
  | .hbm, ⟨77, _⟩ => ⟨S128x4x4x128, .f32⟩
  | .hbm, ⟨78, _⟩ => ⟨S1x4x1x128, .f32⟩
  | .hbm, ⟨79, _⟩ => ⟨S128x4x4x128, .f32⟩
  | .hbm, ⟨80, _⟩ => ⟨S128x4x4x128, .f32⟩
  | .hbm, ⟨81, _⟩ => ⟨S128x4x4x128, .f32⟩
  | .hbm, ⟨82, _⟩ => ⟨S128x4x4x256, .f32⟩
  | .hbm, ⟨83, _⟩ => ⟨S_, .f32⟩
  | .hbm, ⟨84, _⟩ => ⟨S128x4x4x256, .f32⟩
  | .hbm, ⟨85, _⟩ => ⟨S128x4x4x256, .f32⟩
  | .hbm, ⟨86, _⟩ => ⟨S512x1024, .f32⟩
  | .hbm, ⟨87, _⟩ => ⟨S512x1024, .f32⟩
  | .hbm, ⟨88, _⟩ => ⟨S512x2048, .f32⟩
  | .hbm, ⟨89, _⟩ => ⟨S128x4x2048, .f32⟩
  | .hbm, ⟨90, _⟩ => ⟨S128x4x2048, .f32⟩
  | .hbm, ⟨91, _⟩ => ⟨S_, .f32⟩
  | .hbm, ⟨92, _⟩ => ⟨S128x4x2048, .f32⟩
  | .hbm, ⟨93, _⟩ => ⟨S128x4x2048, .f32⟩
  | .hbm, ⟨94, _⟩ => ⟨S_, .f32⟩
  | .hbm, ⟨95, _⟩ => ⟨S128x4x2048, .f32⟩
  | .hbm, ⟨96, _⟩ => ⟨S128x4x2048, .f32⟩
  | .hbm, ⟨97, _⟩ => ⟨S128x4x2048, .f32⟩
  | .hbm, ⟨98, _⟩ => ⟨S512x2048, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Proof.Layer.Tile.lean ====
module

public import proofs.«01_k».proof.Proof.Gen.KernelIdeal.Skeleton
public import Idealize.ShloMosaic.Lib.Pipeline.Value
public import Idealize.ShloMosaic.Lib.ValueIdxCore

@[expose] public section

set_option maxRecDepth 16384

noncomputable section

namespace Cert.KernelIdeal.Layer

open Cert.KernelIdeal.Gen
open Idealize.ShloMosaic Idealize.ShloMosaic.ValueIdx

variable {F : FTy → Type} [FloatOps F] [Named F]

/-! # What one grid point computes

A grid point has a row tile of 512 tokens, worked off in two chunks of 256; each of the four heads carries a state
through both chunks. The functions below take the head `h` and the chunk `r` as parameters. -/

/-- The logarithm of a head's decay. -/
def lg : Fin 4 → F .f32
  | 0 => Named.named κ "log_g0" 0xBD020AEC#32
  | 1 => Named.named κ "log_g1" 0xBC8102B3#32
  | 2 => Named.named κ "log_g2" 0xBC0080AC#32
  | 3 => Named.named κ "log_g3" 0xBB80402B#32

/-- A head's decay over a whole chunk. -/
def cg : Fin 4 → F .f32
  | 0 => Named.named κ "chunk_g0" 0x399ACCA1#32
  | 1 => Named.named κ "chunk_g1" 0x3C9160A5#32
  | 2 => Named.named κ "chunk_g2" 0x3E097FCE#32
  | 3 => Named.named κ "chunk_g3" 0x3EBBFC5D#32

/-- The decay between two tokens of a chunk: zero above the diagonal. -/
def decayW (l : F .f32) : FVec F S256x256 .f32 := k0_pay12 (k0_pay10 (F := F)) k0_pay11 l

/-- What a token takes from the state before the chunk. -/
def crossW (l : F .f32) : FVec F S256x1 .f32 :=
  exp (mulf (addf (k0_pay7 (F := F)) (broadcast S256x1 (Scalar.ofBits (F := F) .f32 0x3F800000#32))) (broadcast S256x1 l))

/-- What a token leaves in the state after the chunk. -/
def stateW (l : F .f32) : FVec F S256x1 .f32 :=
  exp (mulf (subf (broadcast S256x1 (Scalar.ofBits (F := F) .f32 0x437F0000#32)) (k0_pay7 (F := F))) (broadcast S256x1 l))

/-- The state after a chunk: the decayed state before it and the chunk's own keys and values. -/
def nextState (l g : F .f32) (hn : FVec F S256x1024 .bf16) (C S : Vec F S256x128 .f32) (wk : Vec F S1x1024x256 .bf16)
    (wv : Vec F S1x1024x512 .bf16) (st : Vec F S1x1x256x512 .f32) : FVec F S1x1x256x512 .f32 :=
  shapeCast S1x1x256x512 (addf (mulf (k0_pay20 st) (broadcast S256x512 g))
    (matmul dot_S256x256_S256x512_S256x512_0_0_1_1_n_n none
      (truncf .bf16 (mulf (k0_pay16 hn C S wk) (broadcastTo S256x256 (stateW l) broadcasts_S256x1_S256x256)) bitsLt_bf16_f32)
      (k0_pay19 hn (k0_pay17 wv)) (constant S256x512 .f32 0x00000000#32))) shapeCasts_S256x512_S1x1x256x512

/-- A head's output before its normalisation. -/
def headOut (l : F .f32) (hn : FVec F S256x1024 .bf16) (C S : Vec F S256x128 .f32) (wq wk : Vec F S1x1024x256 .bf16)
    (wv : Vec F S1x1024x512 .bf16) (st : Vec F S1x1x256x512 .f32) : FVec F S256x512 .f32 :=
  k0_pay21 hn (decayW l) (crossW l) (k0_pay15 hn C S wq) (k0_pay16 hn C S wk) (k0_pay17 wv) st

/-- A head's output, normalised and gated. -/
def headAct (l : F .f32) (hn : FVec F S256x1024 .bf16) (C S : Vec F S256x128 .f32) (wq wk : Vec F S1x1024x256 .bf16)
    (wv wg : Vec F S1x1024x512 .bf16) (gn : Vec F S1x512 .f32) (st : Vec F S1x1x256x512 .f32) : FVec F S256x512 .bf16 :=
  k0_pay25 (k0_pay18 hn wg) (headOut l hn C S wq wk wv st) gn
    (k0_pay23 hn (decayW l) (crossW l) (k0_pay15 hn C S wq) (k0_pay16 hn C S wk) (k0_pay17 wv) st)
    (k0_pay24 hn (decayW l) (crossW l) (k0_pay15 hn C S wq) (k0_pay16 hn C S wk) (k0_pay17 wv) st)

/-! ## The blocks cut into chunks and heads -/

theorem inb_row (r : Fin 2) : ∀ a, (![0, 256 * r.val, 0] : Fin 3 → ℕ) a + S1x256x1024.size a ≤ S1x512x1024.size a := by
  revert r; decide
theorem inb_cs (r : Fin 2) : ∀ a, (![256 * r.val, 0] : Fin 2 → ℕ) a + S256x128.size a ≤ S512x128.size a := by
  revert r; decide
theorem inb_q (h : Fin 4) : ∀ a, (![0, 0, 256 * h.val] : Fin 3 → ℕ) a + S1x1024x256.size a ≤ S1x1024x6144.size a := by
  revert h; decide
theorem inb_k (h : Fin 4) : ∀ a, (![0, 0, 1024 + 256 * h.val] : Fin 3 → ℕ) a + S1x1024x256.size a ≤ S1x1024x6144.size a := by
  revert h; decide
theorem inb_v (h : Fin 4) : ∀ a, (![0, 0, 2048 + 512 * h.val] : Fin 3 → ℕ) a + S1x1024x512.size a ≤ S1x1024x6144.size a := by
  revert h; decide
theorem inb_g (h : Fin 4) : ∀ a, (![0, 0, 4096 + 512 * h.val] : Fin 3 → ℕ) a + S1x1024x512.size a ≤ S1x1024x6144.size a := by
  revert h; decide
theorem inb_gn (h : Fin 4) : ∀ a, (![0, 512 * h.val] : Fin 2 → ℕ) a + S1x512.size a ≤ S1x2048.size a := by
  revert h; decide
theorem inb_st (h : Fin 4) : ∀ a, (![0, h.val, 0, 0] : Fin 4 → ℕ) a + S1x1x256x512.size a ≤ S1x4x256x512.size a := by
  revert h; decide

section
variable (x0 : Vec F S1x512x1024 .f32) (x1 : Vec F S1x1024 .f32) (x2 : Vec F S1x1024x6144 .bf16)
  (x3 x4 : Vec F S512x128 .f32) (x5 : Vec F S1x2048 .f32) (x6 : Vec F S1x2048x1024 .bf16) (s : Vec F S1x4x256x512 .f32)

def rowsOf (r : Fin 2) : Vec F S1x256x1024 .f32 :=
  View.ld x0 (Rect.unit (s := S1x512x1024) ![0, 256 * r.val, 0] S1x256x1024.size (inb_row r))
def csOf (r : Fin 2) : Vec F S256x128 .f32 :=
  View.ld x3 (Rect.unit (s := S512x128) ![256 * r.val, 0] S256x128.size (inb_cs r))
def wqOf (h : Fin 4) : Vec F S1x1024x256 .bf16 :=
  View.ld x2 (Rect.unit (s := S1x1024x6144) ![0, 0, 256 * h.val] S1x1024x256.size (inb_q h))
def wkOf (h : Fin 4) : Vec F S1x1024x256 .bf16 :=
  View.ld x2 (Rect.unit (s := S1x1024x6144) ![0, 0, 1024 + 256 * h.val] S1x1024x256.size (inb_k h))
def wvOf (h : Fin 4) : Vec F S1x1024x512 .bf16 :=
  View.ld x2 (Rect.unit (s := S1x1024x6144) ![0, 0, 2048 + 512 * h.val] S1x1024x512.size (inb_v h))
def wgOf (h : Fin 4) : Vec F S1x1024x512 .bf16 :=
  View.ld x2 (Rect.unit (s := S1x1024x6144) ![0, 0, 4096 + 512 * h.val] S1x1024x512.size (inb_g h))
def gnOf (h : Fin 4) : Vec F S1x512 .f32 :=
  View.ld x5 (Rect.unit (s := S1x2048) ![0, 512 * h.val] S1x512.size (inb_gn h))
def stOf (h : Fin 4) : Vec F S1x1x256x512 .f32 :=
  View.ld s (Rect.unit (s := S1x4x256x512) ![0, h.val, 0, 0] S1x1x256x512.size (inb_st h))

/-- The chunk's rows, normalised. -/
def hnOf (r : Fin 2) : FVec F S256x1024 .bf16 :=
  k0_pay9 (rowsOf x0 r) (View.ld x1 (Rect.unit (s := S1x1024) ![0, 0] S1x1024.size inb_S1x1024_S1x1024_0_0))

/-- One head's state carried through one chunk. -/
def step (r : Fin 2) (h : Fin 4) (st : Vec F S1x1x256x512 .f32) : Vec F S1x1x256x512 .f32 :=
  nextState (lg h) (cg h) (hnOf x0 x1 r) (csOf x3 r) (csOf x4 r) (wkOf x2 h) (wvOf x2 h) st

/-- One head's state between the two chunks. -/
def stMid (h : Fin 4) : Vec F S1x1x256x512 .f32 := step x0 x1 x2 x3 x4 0 h (stOf s h)

/-- One head's state after both. -/
def stEnd (h : Fin 4) : Vec F S1x1x256x512 .f32 := step x0 x1 x2 x3 x4 1 h (stMid x0 x1 x2 x3 x4 s h)

/-- The state block a point leaves. -/
def sTile : Vec F S1x4x256x512 .f32 := fun y => stEnd x0 x1 x2 x3 x4 s (y 1) (ix4 0 0 (y 2) (y 3))

/-- One head's gated output on one chunk. -/
def act (r : Fin 2) (h : Fin 4) (st : Vec F S1x1x256x512 .f32) : FVec F S256x512 .bf16 :=
  headAct (lg h) (hnOf x0 x1 r) (csOf x3 r) (csOf x4 r) (wqOf x2 h) (wkOf x2 h) (wvOf x2 h) (wgOf x2 h) (gnOf x5 h) st

/-- The four heads' outputs side by side. -/
def heads (a : Fin 4 → FVec F S256x512 .bf16) : Vec F S256x2048 .bf16 := fun y =>
  a ⟨(y 1).val / 512, Nat.div_lt_of_lt_mul (y 1).isLt⟩ (ix2 (y 0) ⟨(y 1).val % 512, Nat.mod_lt _ (by decide)⟩)

/-- The chunk's outputs: the rows with the projected heads added. -/
def yChunk (r : Fin 2) (a : Fin 4 → FVec F S256x512 .bf16) : FVec F S1x256x1024 .f32 :=
  k0_pay64 (k0_pay8 (rowsOf x0 r)) (heads a)
    (View.ld x6 (Rect.unit (s := S1x2048x1024) ![0, 0, 0] S1x2048x1024.size inb_S1x2048x1024_S1x2048x1024_0_0_0))

/-- The state with which a head enters a chunk. -/
def stIn (r : Fin 2) (h : Fin 4) : Vec F S1x1x256x512 .f32 := if r = 0 then stOf s h else stMid x0 x1 x2 x3 x4 s h

/-- The row tile a point leaves. -/
def yTile : Vec F S1x512x1024 .f32 := fun y =>
  let r : Fin 2 := ⟨(y 1).val / 256, Nat.div_lt_of_lt_mul (y 1).isLt⟩
  yChunk x0 x6 r (fun h => act x0 x1 x2 x3 x4 x5 r h (stIn x0 x1 x2 x3 x4 s r h))
    (ix3 0 ⟨(y 1).val % 256, Nat.mod_lt _ (by decide)⟩ (y 2))

end

/-! ## The four heads' payloads are one function -/

section
variable (hn : FVec F S256x1024 .bf16) (C S : Vec F S256x128 .f32) (wq wk : Vec F S1x1024x256 .bf16)
    (wv wg : Vec F S1x1024x512 .bf16) (gn : Vec F S1x512 .f32) (st : Vec F S1x1x256x512 .f32)

theorem state_h0 : k0_pay22 hn (k0_pay14 k0_pay7) (k0_pay16 hn C S wk) (k0_pay17 wv) st = nextState (lg 0) (cg 0) hn C S wk wv st := rfl
theorem state_h1 : k0_pay38 (k0_pay28 k0_pay7) (k0_pay31 hn C S wk) (k0_pay34 hn wv) (k0_pay35 st) = nextState (lg 1) (cg 1) hn C S wk wv st := rfl
theorem state_h2 : k0_pay50 hn (k0_pay43 k0_pay7) (k0_pay45 hn C S wk) wv st = nextState (lg 2) (cg 2) hn C S wk wv st := rfl
theorem state_h3 : k0_pay62 (k0_pay55 k0_pay7) (k0_pay56 hn C S wk) (k0_pay59 hn wv) (k0_pay60 st) = nextState (lg 3) (cg 3) hn C S wk wv st := rfl
theorem state_h0' : k0_pay79 (k0_pay71 k0_pay7) (k0_pay73 hn C S wk) (k0_pay74 hn wv) st = nextState (lg 0) (cg 0) hn C S wk wv st := rfl
theorem state_h1' : k0_pay95 (k0_pay85 k0_pay7) (k0_pay90 hn C S wk) (k0_pay92 hn wv) (k0_pay93 st) = nextState (lg 1) (cg 1) hn C S wk wv st := rfl
theorem state_h2' : k0_pay109 hn (k0_pay101 k0_pay7) (k0_pay103 hn C S wk) (k0_pay104 wv) st = nextState (lg 2) (cg 2) hn C S wk wv st := rfl
theorem state_h3' : k0_pay125 (k0_pay115 k0_pay7) (k0_pay118 hn C S wk) (k0_pay121 hn wv) (k0_pay122 st) = nextState (lg 3) (cg 3) hn C S wk wv st := rfl

end
end Cert.KernelIdeal.Layer
end
-- ==== Proof.Value.Recurrence.lean ====
module

public import Idealize.ShloMosaic.PureOps.Ideal
public import Mathlib.Algebra.BigOperators.Fin

@[expose] public section

noncomputable section

namespace Cert.Retention

open Finset

/-! # The retention sum, whole and chunk by chunk, over the reals

With the decay `γ` the parallel form weighs token `m` by `γ ^ (i - m)` at token `i`; the chunked form carries a state
over the chunks. The two are one sum split at the chunk's first token `a`. -/

/-- The decay from token `m` to token `i`: nothing from later tokens. -/
def weight (γ : ℝ) (i m : ℕ) : ℝ := if m ≤ i then γ ^ (i - m) else 0

/-- One cell of the state before token `a`: the tokens below `a`, each decayed to the last of them. -/
def stateAt (γ : ℝ) (k v : ℕ → ℝ) (a : ℕ) : ℝ := ∑ m ∈ range a, (k m * γ ^ (a - 1 - m)) * v m

/-- One cell of the output at token `i`, from the scores `p` of the tokens up to `i`. -/
def outAt (γ : ℝ) (p v : ℕ → ℝ) (i : ℕ) : ℝ := ∑ m ∈ range (i + 1), (p m * γ ^ (i - m)) * v m

theorem stateAt_zero (γ : ℝ) (k v : ℕ → ℝ) : stateAt γ k v 0 = 0 := by simp [stateAt]

/-- The state after a chunk of `n` tokens. -/
theorem stateAt_add (γ : ℝ) (k v : ℕ → ℝ) (a n : ℕ) :
    stateAt γ k v (a + n) = stateAt γ k v a * γ ^ n + ∑ i : Fin n, (k (a + i) * γ ^ (n - 1 - i.val)) * v (a + i) := by
  unfold stateAt
  rw [sum_range_add, sum_mul, Finset.sum_range (fun x => (k (a + x) * γ ^ (a + n - 1 - (a + x))) * v (a + x))]
  refine congrArg₂ (· + ·) (sum_congr rfl fun m hm => ?_) (sum_congr rfl fun i _ => ?_)
  · have hm := mem_range.1 hm
    rw [show a + n - 1 - m = (a - 1 - m) + n by omega, pow_add]; ring
  · have hi := i.isLt
    rw [show a + n - 1 - (a + i.val) = n - 1 - i.val by omega]

/-- The state after all tokens, as one sum. -/
theorem stateAt_full (γ : ℝ) (k v : ℕ → ℝ) (L : ℕ) :
    stateAt γ k v L = ∑ m : Fin L, (k m * γ ^ (L - 1 - m.val)) * v m := by
  unfold stateAt; rw [Finset.sum_range]

/-- The output at a chunk's token `i`: the chunk's own tokens, and the state before the chunk. -/
theorem outAt_add {D : ℕ} (γ : ℝ) (q : Fin D → ℝ) (k : ℕ → Fin D → ℝ) (v : ℕ → ℝ) (a n i : ℕ) (hi : i < n) :
    outAt γ (fun m => ∑ d, q d * k m d) v (a + i)
      = ∑ j : Fin n, ((∑ d, q d * k (a + j) d) * weight γ i j) * v (a + j)
        + (∑ d, q d * stateAt γ (fun m => k m d) v a) * γ ^ (i + 1) := by
  unfold outAt
  rw [show a + i + 1 = a + (i + 1) by omega, sum_range_add, add_comm]
  refine congrArg₂ (· + ·) ?_ ?_
  · rw [← Finset.sum_range (fun j => ((∑ d, q d * k (a + j) d) * weight γ i j) * v (a + j)),
      ← Finset.sum_subset (range_subset_range.2 (show i + 1 ≤ n by omega))
        (fun j _ hj => by rw [weight, if_neg (fun h => hj (mem_range.2 (by omega)))]; ring)]
    refine sum_congr rfl fun j hj => ?_
    have hj := mem_range.1 hj
    rw [weight, if_pos (by omega), show a + i - (a + j) = i - j by omega]
  · unfold stateAt
    simp only [mul_sum, sum_mul]
    rw [sum_comm]
    refine sum_congr rfl fun d _ => sum_congr rfl fun m hm => ?_
    have hm := mem_range.1 hm
    rw [show a + i - m = (a - 1 - m) + (i + 1) by omega, pow_add]; ring

/-- The output as one masked sum over all tokens. -/
theorem outAt_full (γ : ℝ) (p v : ℕ → ℝ) (L i : ℕ) (hi : i < L) :
    outAt γ p v i = ∑ m : Fin L, (p m * weight γ i m) * v m := by
  unfold outAt
  rw [← Finset.sum_range (fun m => (p m * weight γ i m) * v m),
    ← Finset.sum_subset (range_subset_range.2 (show i + 1 ≤ L by omega))
      (fun j _ hj => by rw [weight, if_neg (fun h => hj (mem_range.2 (by omega)))]; ring)]
  refine sum_congr rfl fun m hm => ?_
  have hm := mem_range.1 hm
  rw [weight, if_pos (by omega)]

/-- A power of the decay as the exponential both programs compute. -/
theorem exp_mul_log {γ : ℝ} (hγ : 0 < γ) (n : ℕ) : Real.exp (n * Real.log γ) = γ ^ n := by
  rw [Real.exp_nat_mul, Real.exp_log hγ]

/-! ## Extended reals that are real -/

/-- The sum of reals, read as extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An extended real that is a real. -/
def IsReal (x : EReal) : Prop := ((x.toReal : ℝ) : EReal) = x

theorem isReal_coe (r : ℝ) : IsReal (r : EReal) := by simp [IsReal]
theorem IsReal.exists {x : EReal} (h : IsReal x) : ∃ r : ℝ, x = r := ⟨x.toReal, h.symm⟩
theorem IsReal.add {x y : EReal} (hx : IsReal x) (hy : IsReal y) : IsReal (x + y) := by
  obtain ⟨r, rfl⟩ := hx.exists; obtain ⟨s, rfl⟩ := hy.exists; rw [← EReal.coe_add]; exact isReal_coe _
theorem IsReal.sub {x y : EReal} (hx : IsReal x) (hy : IsReal y) : IsReal (x - y) := by
  obtain ⟨r, rfl⟩ := hx.exists; obtain ⟨s, rfl⟩ := hy.exists; rw [← EReal.coe_sub]; exact isReal_coe _
theorem IsReal.mul {x y : EReal} (hx : IsReal x) (hy : IsReal y) : IsReal (x * y) := by
  obtain ⟨r, rfl⟩ := hx.exists; obtain ⟨s, rfl⟩ := hy.exists; rw [← EReal.coe_mul]; exact isReal_coe _
theorem IsReal.sum {ι : Type*} (s : Finset ι) {f : ι → EReal} (h : ∀ i, IsReal (f i)) : IsReal (∑ i ∈ s, f i) := by
  rw [show (∑ i ∈ s, f i) = ((∑ i ∈ s, (f i).toReal : ℝ) : EReal) by rw [coe_sum]; exact sum_congr rfl fun i _ => (h i).symm]
  exact isReal_coe _

/-- What is below infinity in absolute value is real. -/
theorem isReal_of_abs_lt {x : EReal} (h : max x (-x) < ⊤) : IsReal x := by
  refine EReal.coe_toReal (fun e => ?_) (fun e => ?_) <;> subst e <;> simp at h

end Cert.Retention
end
-- ==== Proof.Value.Rows.lean ====
module

public import proofs.«01_k».proof.Proof.Value.Recurrence
public import Idealize.ShloMosaic.Lib.IdealHost

@[expose] public section

noncomputable section

namespace Cert.Retention

open Idealize.ShloMosaic

/-! # One token's row through the layer

Each function below takes one token's row, or one head's part of it, as a function of its coordinate. Both programs
compute these; they differ only in how a head's output comes from the rows of all tokens. -/

/-- The constant both norms add under the root. -/
def eps : EReal := Ideal.ofBits .f32 0x358637BD#32

/-- The root mean square normalisation, with its weight. -/
def hnRow (x g : Fin 1024 → EReal) (d : Fin 1024) : EReal :=
  x d * Ideal.rsqrt (Ideal.div (∑ k : Fin 1024, x k * x k) (Ideal.ofBits .f32 0x44800000#32) + eps) * g d

/-- The columns of the projection that hold a head's query, key, value and gate. -/
def qCol (h : Fin 4) (j : Fin 256) : Fin 6144 := ⟨256 * h.val + j.val, by omega⟩
def kCol (h : Fin 4) (j : Fin 256) : Fin 6144 := ⟨1024 + 256 * h.val + j.val, by omega⟩
def vCol (h : Fin 4) (e : Fin 512) : Fin 6144 := ⟨2048 + 512 * h.val + e.val, by omega⟩
def gCol (h : Fin 4) (e : Fin 512) : Fin 6144 := ⟨4096 + 512 * h.val + e.val, by omega⟩

/-- The projection of a row. -/
def projRow (hn : Fin 1024 → EReal) (w : Fin 1024 → Fin 6144 → EReal) (n : Fin 6144) : EReal := ∑ k : Fin 1024, hn k * w k n

/-- The rotary embedding: the two halves of a head turned against each other. -/
def rot (u : Fin 256 → EReal) (c s : Fin 128 → EReal) (j : Fin 256) : EReal :=
  if h : j.val < 128 then u j * c ⟨j.val, h⟩ - u ⟨128 + j.val, by omega⟩ * s ⟨j.val, h⟩
  else u ⟨j.val - 128, by omega⟩ * s ⟨j.val - 128, by omega⟩ + u ⟨128 + (j.val - 128), by omega⟩ * c ⟨j.val - 128, by omega⟩

/-- A head's decay. -/
def gam : Fin 4 → ℝ
  | 0 => 31 / 32
  | 1 => 63 / 64
  | 2 => 127 / 128
  | 3 => 255 / 256

theorem gam_pos (h : Fin 4) : 0 < gam h := by fin_cases h <;> norm_num [gam]

/-- A head's output, normalised over the head, weighted and gated. -/
def headRow (o g gn : Fin 512 → EReal) (e : Fin 512) : EReal :=
  let mean := Ideal.div (∑ k : Fin 512, o k) (Ideal.ofBits .f32 0x44000000#32)
  (g e * Ideal.logistic (g e)) *
    ((o e - mean) * Ideal.rsqrt (Ideal.div (∑ k : Fin 512, (o k - mean) * (o k - mean)) (Ideal.ofBits .f32 0x44000000#32) + eps) * gn e)

/-- The row out of the layer: the row in, and the projected heads. -/
def yRow (x : Fin 1024 → EReal) (a : Fin 2048 → EReal) (w : Fin 2048 → Fin 1024 → EReal) (d : Fin 1024) : EReal :=
  x d + ∑ n : Fin 2048, a n * w n d

/-! ## Finite rows -/

/-- The constant under the root is a positive real. -/
theorem eps_pos : ∃ r : ℝ, 0 < r ∧ eps = r := by
  refine ⟨8796093 * (2 : ℝ) ^ (-43 : ℤ), by positivity, ?_⟩
  simp [eps, Ideal.ofBits, Ideal.ieee, -EReal.coe_mul]

theorem hnRow_real {x g : Fin 1024 → EReal} (hx : ∀ d, IsReal (x d)) (hg : ∀ d, IsReal (g d)) (d : Fin 1024) :
    IsReal (hnRow x g d) := by
  refine ((hx d).mul ?_).mul (hg d)
  obtain ⟨r, hr, he⟩ := eps_pos
  have hs : (∑ k : Fin 1024, x k * x k) = ((∑ k : Fin 1024, (x k).toReal * (x k).toReal : ℝ) : EReal) := by
    rw [coe_sum]; exact Finset.sum_congr rfl fun k _ => by rw [EReal.coe_mul, (hx k)]
  have h0 : (0 : ℝ) ≤ ∑ k : Fin 1024, (x k).toReal * (x k).toReal := Finset.sum_nonneg fun k _ => mul_self_nonneg _
  have hc : Ideal.ofBits .f32 0x44800000#32 = ((1024 : ℝ) : EReal) := by
    simp [Ideal.ofBits, Ideal.ieee, -EReal.coe_mul]; norm_num
  rw [he, hs, hc, Ideal.div_coe (by norm_num), ← EReal.coe_mul, ← EReal.coe_add, Ideal.rsqrt_coe]
  have : 0 < (∑ k : Fin 1024, (x k).toReal * (x k).toReal) * (1 / 1024) + r := by positivity
  rw [if_neg (by linarith), if_neg (by linarith)]
  exact isReal_coe _

theorem projRow_real {hn : Fin 1024 → EReal} {w : Fin 1024 → Fin 6144 → EReal} (hh : ∀ d, IsReal (hn d))
    (hw : ∀ d n, IsReal (w d n)) (n : Fin 6144) : IsReal (projRow hn w n) :=
  IsReal.sum _ fun k => (hh k).mul (hw k n)

theorem rot_real {u : Fin 256 → EReal} {c s : Fin 128 → EReal} (hu : ∀ j, IsReal (u j)) (hc : ∀ j, IsReal (c j))
    (hs : ∀ j, IsReal (s j)) (j : Fin 256) : IsReal (rot u c s j) := by
  unfold rot; split
  · exact ((hu _).mul (hc _)).sub ((hu _).mul (hs _))
  · exact ((hu _).mul (hs _)).add ((hu _).mul (hc _))

end Cert.Retention
end
-- ==== Proof.Value.Weights.lean ====
module

public import proofs.«01_k».proof.Proof.Value.Recurrence
public import Idealize.ShloMosaic.Lib.Pointwise

@[expose] public section

noncomputable section

namespace Cert.Retention

open Idealize.ShloMosaic

/-! # The decay weights as both programs compute them -/

theorem toInt_coord (n : ℕ) (h : n < 2048) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- A coordinate read as a float is the coordinate. -/
theorem sitofp_coord (n : ℕ) (h : n < 2048) : (FloatOps.sitofp .f32 (BitVec.ofNat 32 n) : Ideal .f32) = ((n : ℝ) : EReal) := by
  show (((BitVec.ofNat 32 n).toInt : ℝ) : EReal) = _
  rw [toInt_coord n h]; simp

/-- The difference of two coordinates taken on words is the difference. -/
theorem sitofp_sub (i j : ℕ) (hi : i < 2048) (hj : j < 2048) :
    (FloatOps.sitofp .f32 (IntOp.subi (BitVec.ofNat 32 i) (BitVec.ofNat 32 j)) : Ideal .f32) = (((i : ℝ) - (j : ℝ) : ℝ) : EReal) := by
  show (((BitVec.ofNat 32 i - BitVec.ofNat 32 j).toInt : ℝ) : EReal) = _
  rw [BitVec.toInt_sub, toInt_coord i hi, toInt_coord j hj, Int.bmod_eq_of_le (by omega) (by omega)]
  push_cast; rfl

variable {γ : ℝ} (hγ : 0 < γ)
include hγ

/-- The masked exponential of a difference of coordinates is the decay. -/
theorem masked_exp (i j : ℕ) :
    (if (0 : EReal) ≤ (((i : ℝ) - (j : ℝ) : ℝ) : EReal) then Ideal.exp (max (((i : ℝ) - (j : ℝ) : ℝ) : EReal) 0 * ((Real.log γ : ℝ) : EReal)) else 0)
      = ((weight γ i j : ℝ) : EReal) := by
  have h0 : (0 : EReal) ≤ (((i : ℝ) - (j : ℝ) : ℝ) : EReal) ↔ j ≤ i := by
    rw [EReal.coe_nonneg, sub_nonneg, Nat.cast_le]
  by_cases h : j ≤ i
  · rw [if_pos (h0.2 h), max_eq_left (h0.2 h), ← EReal.coe_mul, Ideal.exp_coe, weight, if_pos h, ← Nat.cast_sub h, exp_mul_log hγ]
  · rw [if_neg (fun h' => h (h0.1 h')), weight, if_neg h]; rfl

/-- The exponential of a count of tokens is that power of the decay. -/
theorem exp_count (n : ℕ) : Ideal.exp (((n : ℝ) : EReal) * ((Real.log γ : ℝ) : EReal)) = ((γ ^ n : ℝ) : EReal) := by
  rw [← EReal.coe_mul, Ideal.exp_coe, exp_mul_log hγ]

/-- The decay to the last of `n + 1` tokens. -/
theorem exp_age (n i : ℕ) (hi : i ≤ n) :
    Ideal.exp ((((n : ℝ) : EReal) - ((i : ℝ) : EReal)) * ((Real.log γ : ℝ) : EReal)) = ((γ ^ (n - i) : ℝ) : EReal) := by
  rw [← EReal.coe_sub, ← Nat.cast_sub hi, exp_count hγ]

end Cert.Retention
end
-- ==== Proof.Value.Payloads.lean ====
module

public import proofs.«01_k».proof.Proof.Layer.Tile
public import proofs.«01_k».proof.Proof.Value.Rows
public import proofs.«01_k».proof.Proof.Value.Weights
public import Idealize.ShloMosaic.Lib.Pointwise

@[expose] public section

set_option maxRecDepth 16384

noncomputable section

namespace Cert.KernelIdeal.Layer

open Cert.KernelIdeal.Gen Cert.Retention
open Idealize.ShloMosaic

theorem pay9_apply (v : Vec Ideal S1x256x1024 .f32) (g : Vec Ideal S1x1024 .f32) (i : Fin 256) (d : Fin 1024) :
    k0_pay9 v g (ix2 i d) = hnRow (fun d => v (ix3 0 i d)) (fun d => g (ix2 0 d)) d := by
  pointwise [k0_pay9, k0_pay8, hnRow, eps]

theorem pay15_apply (hn : FVec Ideal S256x1024 .bf16) (C S : Vec Ideal S256x128 .f32) (w : Vec Ideal S1x1024x256 .bf16)
    (i j : Fin 256) : k0_pay15 hn C S w (ix2 i j)
      = rot (fun j => ∑ k : Fin 1024, hn (ix2 i k) * w (ix3 0 k j)) (fun j => C (ix2 i j)) (fun j => S (ix2 i j)) j := by
  pointwise [k0_pay15, rot]

theorem pay16_apply (hn : FVec Ideal S256x1024 .bf16) (C S : Vec Ideal S256x128 .f32) (w : Vec Ideal S1x1024x256 .bf16)
    (i j : Fin 256) : k0_pay16 hn C S w (ix2 i j)
      = rot (fun j => ∑ k : Fin 1024, hn (ix2 i k) * w (ix3 0 k j)) (fun j => C (ix2 i j)) (fun j => S (ix2 i j)) j
        * Ideal.ofBits .f32 0x3D800000#32 := by
  pointwise [k0_pay16, rot]

theorem pay19_apply (hn : FVec Ideal S256x1024 .bf16) (w : Vec Ideal S1x1024x512 .bf16) (i : Fin 256) (e : Fin 512) :
    k0_pay19 hn (k0_pay17 w) (ix2 i e) = ∑ k : Fin 1024, hn (ix2 i k) * w (ix3 0 k e) := by
  pointwise [k0_pay19, k0_pay17]

theorem pay18_apply (hn : FVec Ideal S256x1024 .bf16) (w : Vec Ideal S1x1024x512 .bf16) (i : Fin 256) (e : Fin 512) :
    k0_pay18 hn w (ix2 i e) = (∑ k : Fin 1024, hn (ix2 i k) * w (ix3 0 k e)) * Ideal.logistic (∑ k : Fin 1024, hn (ix2 i k) * w (ix3 0 k e)) := by
  pointwise [k0_pay18]

section
variable {γ : ℝ} (hγ : 0 < γ)
include hγ

theorem decayW_apply (i j : Fin 256) : decayW (F := Ideal) ((Real.log γ : ℝ) : EReal) (ix2 i j) = ((weight γ i j : ℝ) : EReal) := by
  pointwise [decayW, k0_pay12, k0_pay10, k0_pay11, k0_pay6]
  rw [sitofp_sub _ _ (by omega) (by omega), masked_exp hγ]

theorem crossW_apply (i : Fin 256) : crossW (F := Ideal) ((Real.log γ : ℝ) : EReal) (ix2 i 0) = ((γ ^ (i.val + 1) : ℝ) : EReal) := by
  pointwise [crossW, k0_pay7]
  rw [sitofp_coord _ (by omega), ← exp_count hγ]; push_cast; rfl

theorem stateW_apply (i : Fin 256) : stateW (F := Ideal) ((Real.log γ : ℝ) : EReal) (ix2 i 0) = ((γ ^ (256 - 1 - i.val) : ℝ) : EReal) := by
  pointwise [stateW, k0_pay7]
  rw [sitofp_coord _ (by omega), show Ideal.ofBits .f32 0x437F0000#32 = (((255 : ℕ) : ℝ) : EReal) by
    simp [Ideal.ofBits, Ideal.ieee, -EReal.coe_mul]; norm_num, exp_age hγ _ _ (by omega)]

end

theorem nextState_apply (l g : EReal) (hn : FVec Ideal S256x1024 .bf16) (C S : Vec Ideal S256x128 .f32) (wk : Vec Ideal S1x1024x256 .bf16)
    (wv : Vec Ideal S1x1024x512 .bf16) (st : Vec Ideal S1x1x256x512 .f32) (d : Fin 256) (e : Fin 512) :
    nextState l g hn C S wk wv st (ix4 0 0 d e)
      = st (ix4 0 0 d e) * g + ∑ i : Fin 256, (k0_pay16 hn C S wk (ix2 i d) * stateW (F := Ideal) l (ix2 i 0)) * k0_pay19 hn (k0_pay17 wv) (ix2 i e) := by
  pointwise [nextState, k0_pay20]

theorem headOut_apply (l : EReal) (hn : FVec Ideal S256x1024 .bf16) (C S : Vec Ideal S256x128 .f32) (wq wk : Vec Ideal S1x1024x256 .bf16)
    (wv : Vec Ideal S1x1024x512 .bf16) (st : Vec Ideal S1x1x256x512 .f32) (i : Fin 256) (e : Fin 512) :
    headOut l hn C S wq wk wv st (ix2 i e)
      = (∑ j : Fin 256, ((∑ d : Fin 256, k0_pay15 hn C S wq (ix2 i d) * k0_pay16 hn C S wk (ix2 j d)) * decayW (F := Ideal) l (ix2 i j))
            * k0_pay19 hn (k0_pay17 wv) (ix2 j e))
        + (∑ d : Fin 256, k0_pay15 hn C S wq (ix2 i d) * st (ix4 0 0 d e)) * crossW (F := Ideal) l (ix2 i 0) := by
  pointwise [headOut, k0_pay21, k0_pay20]

theorem headAct_apply (l : EReal) (hn : FVec Ideal S256x1024 .bf16) (C S : Vec Ideal S256x128 .f32) (wq wk : Vec Ideal S1x1024x256 .bf16)
    (wv wg : Vec Ideal S1x1024x512 .bf16) (gn : Vec Ideal S1x512 .f32) (st : Vec Ideal S1x1x256x512 .f32) (i : Fin 256) (e : Fin 512) :
    headAct l hn C S wq wk wv wg gn st (ix2 i e)
      = headRow (fun e => headOut l hn C S wq wk wv st (ix2 i e)) (fun e => ∑ k : Fin 1024, hn (ix2 i k) * wg (ix3 0 k e))
          (fun e => gn (ix2 0 e)) e := by
  have h23 : k0_pay23 hn (decayW l) (crossW l) (k0_pay15 hn C S wq) (k0_pay16 hn C S wk) (k0_pay17 wv) st (ix2 i 0)
      = Ideal.div (∑ k : Fin 512, headOut l hn C S wq wk wv st (ix2 i k)) (Ideal.ofBits .f32 0x44000000#32) := by
    unfold headOut; pointwise [k0_pay23]
  have h24 (e : Fin 512) : k0_pay24 hn (decayW l) (crossW l) (k0_pay15 hn C S wq) (k0_pay16 hn C S wk) (k0_pay17 wv) st (ix2 i e)
      = headOut l hn C S wq wk wv st (ix2 i e) - Ideal.div (∑ k : Fin 512, headOut l hn C S wq wk wv st (ix2 i k)) (Ideal.ofBits .f32 0x44000000#32) := by
    unfold headOut at h23 ⊢; rw [← h23]; pointwise [k0_pay24]
  unfold headAct
  pointwise [k0_pay25, headRow, eps]
  simp only [h23, h24, pay18_apply]

theorem pay64_apply (x : Vec Ideal S1x256x1024 .f32) (a : Vec Ideal S256x2048 .bf16) (w : Vec Ideal S1x2048x1024 .bf16) (i : Fin 256) (d : Fin 1024) :
    k0_pay64 (k0_pay8 x) a w (ix3 0 i d) = yRow (fun d => x (ix3 0 i d)) (fun n => a (ix2 i n)) (fun n d => w (ix3 0 n d)) d := by
  pointwise [k0_pay64, k0_pay8, yRow]

end Cert.KernelIdeal.Layer
end
-- ==== Proof.Value.Chunk.lean ====
module

public import proofs.«01_k».proof.Proof.Value.Payloads

@[expose] public section

set_option maxRecDepth 16384

noncomputable section

namespace Cert.KernelIdeal.Layer

open Cert.KernelIdeal.Gen Cert.Retention
open Idealize.ShloMosaic

/-! # A chunk of the recurrence, with real queries, keys and values -/

section
variable {γ : ℝ} (hγ : 0 < γ) (hn : FVec Ideal S256x1024 .bf16) (C S : Vec Ideal S256x128 .f32) (wq wk : Vec Ideal S1x1024x256 .bf16)
  (wv : Vec Ideal S1x1024x512 .bf16) (st : Vec Ideal S1x1x256x512 .f32) (q k : Fin 256 → ℕ → ℝ) (v : Fin 512 → ℕ → ℝ) (a : ℕ)
  (hk : ∀ i d, k0_pay16 hn C S wk (ix2 i d) = ((k d (a + i.val) : ℝ) : EReal))
  (hv : ∀ i e, k0_pay19 hn (k0_pay17 wv) (ix2 i e) = ((v e (a + i.val) : ℝ) : EReal))
  (hst : ∀ d e, st (ix4 0 0 d e) = ((stateAt γ (k d) (v e) a : ℝ) : EReal))
include hγ hk hv hst

/-- The state a chunk leaves is the retention sum up to the chunk's end. -/
theorem nextState_real (d : Fin 256) (e : Fin 512) :
    nextState (F := Ideal) ((Real.log γ : ℝ) : EReal) ((γ ^ 256 : ℝ) : EReal) hn C S wk wv st (ix4 0 0 d e)
      = ((stateAt γ (k d) (v e) (a + 256) : ℝ) : EReal) := by
  rw [nextState_apply, stateAt_add, EReal.coe_add, EReal.coe_mul, coe_sum, hst]
  refine congrArg _ (Finset.sum_congr rfl fun i _ => ?_)
  rw [hk, hv, stateW_apply hγ, EReal.coe_mul, EReal.coe_mul]

/-- A head's output at a chunk's token is the retention sum up to that token. -/
theorem headOut_real (hq : ∀ i d, k0_pay15 hn C S wq (ix2 i d) = ((q d (a + i.val) : ℝ) : EReal)) (i : Fin 256) (e : Fin 512) :
    headOut (F := Ideal) ((Real.log γ : ℝ) : EReal) hn C S wq wk wv st (ix2 i e)
      = ((outAt γ (fun m => ∑ d, q d (a + i.val) * k d m) (v e) (a + i.val) : ℝ) : EReal) := by
  rw [headOut_apply, outAt_add γ (fun d => q d (a + i.val)) (fun m d => k d m) (v e) a 256 i.val i.isLt, EReal.coe_add, coe_sum,
    EReal.coe_mul, coe_sum, crossW_apply hγ]
  refine congrArg₂ (· + ·) (Finset.sum_congr rfl fun j _ => ?_) (congrArg (· * _) (Finset.sum_congr rfl fun d _ => ?_))
  · rw [hv, decayW_apply hγ, EReal.coe_mul, EReal.coe_mul, coe_sum]
    refine congrArg (· * _) (congrArg (· * _) (Finset.sum_congr rfl fun d _ => ?_))
    rw [hq, hk, EReal.coe_mul]
  · rw [hq, hst, EReal.coe_mul]

end

/-! ## The four heads' decays -/

theorem lg_eq (h : Fin 4) : lg (F := Ideal) h = ((Real.log (gam h) : ℝ) : EReal) := by
  fin_cases h <;> exact IdealRules.named_const.ideal_named_scalar _ _ _ _ rfl

theorem cg_eq (h : Fin 4) : cg (F := Ideal) h = ((gam h ^ 256 : ℝ) : EReal) := by
  fin_cases h <;> refine (IdealRules.named_const.ideal_named_scalar _ _ _ _ rfl).trans (congrArg Real.toEReal ?_) <;> norm_num [gam]

end Cert.KernelIdeal.Layer
end
-- ==== Proof.Value.Tokens.lean ====
module

public import proofs.«01_k».proof.Proof.Value.Rows

@[expose] public section

noncomputable section

namespace Cert.Retention

open Idealize.ShloMosaic

/-! # The layer, token by token

The arguments as functions of their coordinates, and the layer's results from them. The retention itself is over the
reals: queries, keys and values are finite, so their real parts carry everything. -/

/-- The arguments: rows, norm weight, projection, rotary tables, head weights, output projection. -/
structure Args where
  x : Fin 8 → Fin 2048 → Fin 1024 → EReal
  g : Fin 1024 → EReal
  w : Fin 1024 → Fin 6144 → EReal
  c : Fin 2048 → Fin 128 → EReal
  s : Fin 2048 → Fin 128 → EReal
  gn : Fin 2048 → EReal
  wo : Fin 2048 → Fin 1024 → EReal

/-- What of the arguments has to be finite. -/
structure Args.Finite (A : Args) : Prop where
  x : ∀ b t d, IsReal (A.x b t d)
  g : ∀ d, IsReal (A.g d)
  w : ∀ k n, IsReal (A.w k n)
  c : ∀ t j, IsReal (A.c t j)
  s : ∀ t j, IsReal (A.s t j)

/-- A token's quantity as a real sequence. -/
def seqOf (f : Fin 2048 → EReal) (a : ℕ) : ℝ := if h : a < 2048 then (f ⟨a, h⟩).toReal else 0

theorem seqOf_eq {f : Fin 2048 → EReal} (hf : ∀ t, IsReal (f t)) (t : Fin 2048) : ((seqOf f t.val : ℝ) : EReal) = f t := by
  rw [seqOf, dif_pos t.isLt]; exact hf t

namespace Args

variable (A : Args) (b : Fin 8) (h : Fin 4)

/-- The projected row of a token. -/
def z (t : Fin 2048) : Fin 6144 → EReal := projRow (hnRow (A.x b t) A.g) A.w
/-- A head's query, key and value at a token. -/
def q (t : Fin 2048) (d : Fin 256) : EReal := rot (fun j => A.z b t (qCol h j)) (A.c t) (A.s t) d
def k (t : Fin 2048) (d : Fin 256) : EReal := rot (fun j => A.z b t (kCol h j)) (A.c t) (A.s t) d * Ideal.ofBits .f32 0x3D800000#32
def v (t : Fin 2048) (e : Fin 512) : EReal := A.z b t (vCol h e)

/-- The same as real sequences over the tokens. -/
def qSeq (d : Fin 256) : ℕ → ℝ := seqOf fun t => A.q b h t d
def kSeq (d : Fin 256) : ℕ → ℝ := seqOf fun t => A.k b h t d
def vSeq (e : Fin 512) : ℕ → ℝ := seqOf fun t => A.v b h t e

/-- A head's state before token `n`. -/
def stateTo (n : ℕ) (d : Fin 256) (e : Fin 512) : EReal := ((stateAt (gam h) (A.kSeq b h d) (A.vSeq b h e) n : ℝ) : EReal)
/-- A head's output at token `n`. -/
def out (n : ℕ) (e : Fin 512) : EReal :=
  ((outAt (gam h) (fun m => ∑ d, A.qSeq b h d n * A.kSeq b h d m) (A.vSeq b h e) n : ℝ) : EReal)

/-- The four heads' outputs at a token, normalised and gated, side by side. -/
def act (t : Fin 2048) (n : Fin 2048) : EReal :=
  let h : Fin 4 := ⟨n.val / 512, by omega⟩
  headRow (A.out b h t.val) (fun e => A.z b t (gCol h e)) (fun e => A.gn ⟨512 * h.val + e.val, by omega⟩) ⟨n.val % 512, by omega⟩
/-- A token's row out of the layer. -/
def y (t : Fin 2048) (d : Fin 1024) : EReal := yRow (A.x b t) (A.act b t) A.wo d

variable {A} (hA : A.Finite)
include hA

theorem z_real (t : Fin 2048) (n : Fin 6144) : IsReal (A.z b t n) := projRow_real (hnRow_real (hA.x b t) hA.g) hA.w n
theorem q_real (t : Fin 2048) (d : Fin 256) : IsReal (A.q b h t d) := rot_real (fun _ => z_real b hA t _) (hA.c t) (hA.s t) d
theorem k_real (t : Fin 2048) (d : Fin 256) : IsReal (A.k b h t d) :=
  (rot_real (fun _ => z_real b hA t _) (hA.c t) (hA.s t) d).mul (by
    rw [show Ideal.ofBits .f32 0x3D800000#32 = ((1 / 16 : ℝ) : EReal) by
      simp [Ideal.ofBits, Ideal.ieee, -EReal.coe_mul]; norm_num]; exact isReal_coe _)
theorem v_real (t : Fin 2048) (e : Fin 512) : IsReal (A.v b h t e) := z_real b hA t _

theorem qSeq_eq (t : Fin 2048) (d : Fin 256) : ((A.qSeq b h d t.val : ℝ) : EReal) = A.q b h t d := seqOf_eq (fun t => q_real b h hA t d) t
theorem kSeq_eq (t : Fin 2048) (d : Fin 256) : ((A.kSeq b h d t.val : ℝ) : EReal) = A.k b h t d := seqOf_eq (fun t => k_real b h hA t d) t
theorem vSeq_eq (t : Fin 2048) (e : Fin 512) : ((A.vSeq b h e t.val : ℝ) : EReal) = A.v b h t e := seqOf_eq (fun t => v_real b h hA t e) t

end Args
end Cert.Retention
end
-- ==== Proof.Value.Tile.lean ====
module

public import proofs.«01_k».proof.Proof.Value.Chunk
public import proofs.«01_k».proof.Proof.Value.Tokens

@[expose] public section

set_option maxRecDepth 16384

noncomputable section

namespace Cert.KernelIdeal.Layer

open Cert.KernelIdeal.Gen Cert.Retention
open Idealize.ShloMosaic

/-! # A row tile of one sequence

`tok τ i` is the token of row `i` in the sequence's tile `τ`. With the blocks read off the arguments, the tile's rows
and state are the layer's at those tokens. -/

/-- The token of a tile's row. -/
def tok (τ : Fin 4) (i : Fin 512) : Fin 2048 := ⟨512 * τ.val + i.val, by omega⟩
/-- A chunk's row within its tile. -/
def chunkRow (r : Fin 2) (i : Fin 256) : Fin 512 := ⟨256 * r.val + i.val, by omega⟩

section
variable (x0 : Vec Ideal S1x512x1024 .f32) (x1 : Vec Ideal S1x1024 .f32) (x2 : Vec Ideal S1x1024x6144 .bf16)
  (x3 x4 : Vec Ideal S512x128 .f32) (x5 : Vec Ideal S1x2048 .f32) (x6 : Vec Ideal S1x2048x1024 .bf16) (s : Vec Ideal S1x4x256x512 .f32)

theorem rowsOf_apply (r : Fin 2) (i : Fin 256) (d : Fin 1024) : rowsOf x0 r (ix3 0 i d) = x0 (ix3 0 (chunkRow r i) d) := by
  pointwise [rowsOf, chunkRow]
theorem csOf_apply (r : Fin 2) (i : Fin 256) (j : Fin 128) : csOf x3 r (ix2 i j) = x3 (ix2 (chunkRow r i) j) := by
  pointwise [csOf, chunkRow]
theorem wqOf_apply (h : Fin 4) (k : Fin 1024) (j : Fin 256) : wqOf x2 h (ix3 0 k j) = x2 (ix3 0 k (qCol h j)) := by
  pointwise [wqOf, qCol]
theorem wkOf_apply (h : Fin 4) (k : Fin 1024) (j : Fin 256) : wkOf x2 h (ix3 0 k j) = x2 (ix3 0 k (kCol h j)) := by
  pointwise [wkOf, kCol]
theorem wvOf_apply (h : Fin 4) (k : Fin 1024) (j : Fin 512) : wvOf x2 h (ix3 0 k j) = x2 (ix3 0 k (vCol h j)) := by
  pointwise [wvOf, vCol]
theorem wgOf_apply (h : Fin 4) (k : Fin 1024) (j : Fin 512) : wgOf x2 h (ix3 0 k j) = x2 (ix3 0 k (gCol h j)) := by
  pointwise [wgOf, gCol]
theorem gnOf_apply (h : Fin 4) (e : Fin 512) : gnOf x5 h (ix2 0 e) = x5 (ix2 0 ⟨512 * h.val + e.val, by omega⟩) := by
  pointwise [gnOf]
theorem stOf_apply (h : Fin 4) (d : Fin 256) (e : Fin 512) : stOf s h (ix4 0 0 d e) = s (ix4 0 h d e) := by
  pointwise [stOf]
end

/-- The blocks are the arguments' parts at sequence `b`, tile `τ`. -/
structure Reads (A : Args) (b : Fin 8) (τ : Fin 4) (x0 : Vec Ideal S1x512x1024 .f32) (x1 : Vec Ideal S1x1024 .f32)
    (x2 : Vec Ideal S1x1024x6144 .bf16) (x3 x4 : Vec Ideal S512x128 .f32) : Prop where
  x : ∀ i d, x0 (ix3 0 i d) = A.x b (tok τ i) d
  g : ∀ d, x1 (ix2 0 d) = A.g d
  w : ∀ k n, x2 (ix3 0 k n) = A.w k n
  c : ∀ i j, x3 (ix2 i j) = A.c (tok τ i) j
  s : ∀ i j, x4 (ix2 i j) = A.s (tok τ i) j

section
variable {A : Args} (hA : A.Finite) {b : Fin 8} {τ : Fin 4} {x0 : Vec Ideal S1x512x1024 .f32} {x1 : Vec Ideal S1x1024 .f32}
  {x2 : Vec Ideal S1x1024x6144 .bf16} {x3 x4 : Vec Ideal S512x128 .f32} (hx : Reads A b τ x0 x1 x2 x3 x4)
include hx

theorem hnOf_apply (r : Fin 2) (i : Fin 256) (d : Fin 1024) :
    hnOf x0 x1 r (ix2 i d) = hnRow (A.x b (tok τ (chunkRow r i))) A.g d := by
  unfold hnOf
  rw [pay9_apply]
  have h1 : ∀ d, View.ld x1 (Rect.unit (s := S1x1024) ![0, 0] S1x1024.size inb_S1x1024_S1x1024_0_0) (ix2 0 d) = A.g d := fun d => by
    rw [← hx.g]; pointwise []
  simp only [rowsOf_apply, hx.x, h1]

theorem q_apply (r : Fin 2) (h : Fin 4) (i d : Fin 256) :
    k0_pay15 (hnOf x0 x1 r) (csOf x3 r) (csOf x4 r) (wqOf x2 h) (ix2 i d) = A.q b h (tok τ (chunkRow r i)) d := by
  rw [pay15_apply]; simp only [hnOf_apply hx, csOf_apply, wqOf_apply, hx.w, hx.c, hx.s]; rfl
theorem k_apply (r : Fin 2) (h : Fin 4) (i d : Fin 256) :
    k0_pay16 (hnOf x0 x1 r) (csOf x3 r) (csOf x4 r) (wkOf x2 h) (ix2 i d) = A.k b h (tok τ (chunkRow r i)) d := by
  rw [pay16_apply]; simp only [hnOf_apply hx, csOf_apply, wkOf_apply, hx.w, hx.c, hx.s]; rfl
theorem v_apply (r : Fin 2) (h : Fin 4) (i : Fin 256) (e : Fin 512) :
    k0_pay19 (hnOf x0 x1 r) (k0_pay17 (wvOf x2 h)) (ix2 i e) = A.v b h (tok τ (chunkRow r i)) e := by
  rw [pay19_apply]; simp only [hnOf_apply hx, wvOf_apply, hx.w]; rfl

omit hx in
theorem tok_val (r : Fin 2) (i : Fin 256) : (tok τ (chunkRow r i)).val = (512 * τ.val + 256 * r.val) + i.val := by
  simp only [tok, chunkRow]; omega

include hA

/-- A head's state carried through one chunk. -/
theorem step_apply (r : Fin 2) (h : Fin 4) {st : Vec Ideal S1x1x256x512 .f32}
    (hst : ∀ d e, st (ix4 0 0 d e) = A.stateTo b h (512 * τ.val + 256 * r.val) d e) (d : Fin 256) (e : Fin 512) :
    step x0 x1 x2 x3 x4 r h st (ix4 0 0 d e) = A.stateTo b h (512 * τ.val + 256 * r.val + 256) d e := by
  unfold step
  rw [lg_eq, cg_eq]
  refine nextState_real (gam_pos h) _ _ _ _ _ st (A.kSeq b h) (A.vSeq b h) _ (fun i d => ?_) (fun i e => ?_) hst d e
  · rw [k_apply hx, ← Args.kSeq_eq b h hA, tok_val]
  · rw [v_apply hx, ← Args.vSeq_eq b h hA, tok_val]

/-- A head's gated output at one chunk's tokens. -/
theorem act_apply (r : Fin 2) (h : Fin 4) {st : Vec Ideal S1x1x256x512 .f32} {x5 : Vec Ideal S1x2048 .f32} (h5 : ∀ n, x5 (ix2 0 n) = A.gn n)
    (hst : ∀ d e, st (ix4 0 0 d e) = A.stateTo b h (512 * τ.val + 256 * r.val) d e) (i : Fin 256) (e : Fin 512) :
    Layer.act x0 x1 x2 x3 x4 x5 r h st (ix2 i e)
      = headRow (A.out b h (tok τ (chunkRow r i)).val) (fun e => A.z b (tok τ (chunkRow r i)) (gCol h e))
          (fun e => A.gn ⟨512 * h.val + e.val, by omega⟩) e := by
  have ho : ∀ e, headOut (lg h) (hnOf x0 x1 r) (csOf x3 r) (csOf x4 r) (wqOf x2 h) (wkOf x2 h) (wvOf x2 h) st (ix2 i e)
      = A.out b h (tok τ (chunkRow r i)).val e := fun e => by
    rw [lg_eq, tok_val]
    refine headOut_real (gam_pos h) _ _ _ _ _ _ st (A.qSeq b h) (A.kSeq b h) (A.vSeq b h) _ (fun i d => ?_) (fun i e => ?_) hst
      (fun i d => ?_) i e
    · rw [k_apply hx, ← Args.kSeq_eq b h hA, tok_val]
    · rw [v_apply hx, ← Args.vSeq_eq b h hA, tok_val]
    · rw [q_apply hx, ← Args.qSeq_eq b h hA, tok_val]
  unfold Layer.act
  rw [headAct_apply]
  simp only [ho, hnOf_apply hx, wgOf_apply, hx.w, gnOf_apply, h5]; rfl

variable {s : Vec Ideal S1x4x256x512 .f32} (hs : ∀ h d e, s (ix4 0 h d e) = A.stateTo b h (512 * τ.val) d e)
include hs

theorem stMid_apply (h : Fin 4) (d : Fin 256) (e : Fin 512) :
    stMid x0 x1 x2 x3 x4 s h (ix4 0 0 d e) = A.stateTo b h (512 * τ.val + 256) d e :=
  step_apply hA hx 0 h (fun d e => by rw [stOf_apply, hs]; rfl) d e

/-- The state block the tile leaves. -/
theorem sTile_apply (h : Fin 4) (d : Fin 256) (e : Fin 512) :
    sTile x0 x1 x2 x3 x4 s (ix4 0 h d e) = A.stateTo b h (512 * (τ.val + 1)) d e :=
  (step_apply hA hx 1 h (fun d e => stMid_apply hA hx hs h d e) d e).trans
    (congrArg (fun n => A.stateTo b h n d e) (by rw [show ((1 : Fin 2) : ℕ) = 1 from rfl]; omega))

theorem stIn_apply (r : Fin 2) (h : Fin 4) (d : Fin 256) (e : Fin 512) :
    stIn x0 x1 x2 x3 x4 s r h (ix4 0 0 d e) = A.stateTo b h (512 * τ.val + 256 * r.val) d e := by
  unfold stIn
  fin_cases r
  · exact (stOf_apply s h d e).trans (hs h d e)
  · exact stMid_apply hA hx hs h d e

/-- The row tile. -/
theorem yTile_apply {x5 : Vec Ideal S1x2048 .f32} {x6 : Vec Ideal S1x2048x1024 .bf16} (h5 : ∀ n, x5 (ix2 0 n) = A.gn n)
    (h6 : ∀ n d, x6 (ix3 0 n d) = A.wo n d) (i : Fin 512) (d : Fin 1024) :
    yTile x0 x1 x2 x3 x4 x5 x6 s (ix3 0 i d) = A.y b (tok τ i) d := by
  have hc : ∀ (r : Fin 2) (j : Fin 256), yChunk x0 x6 r (fun h => Layer.act x0 x1 x2 x3 x4 x5 r h (stIn x0 x1 x2 x3 x4 s r h)) (ix3 0 j d)
      = A.y b (tok τ (chunkRow r j)) d := fun r j => by
    unfold yChunk
    rw [pay64_apply]
    have h6' : ∀ n d, View.ld x6 (Rect.unit (s := S1x2048x1024) ![0, 0, 0] S1x2048x1024.size inb_S1x2048x1024_S1x2048x1024_0_0_0) (ix3 0 n d)
        = A.wo n d := fun n d => by rw [← h6]; pointwise []
    have ha : ∀ n : Fin 2048, heads (fun h => Layer.act x0 x1 x2 x3 x4 x5 r h (stIn x0 x1 x2 x3 x4 s r h)) (ix2 j n)
        = A.act b (tok τ (chunkRow r j)) n := fun n =>
      act_apply hA hx r ⟨n.val / 512, by omega⟩ h5 (stIn_apply hA hx hs r _) j ⟨n.val % 512, by omega⟩
    simp only [rowsOf_apply, hx.x, h6', ha]; rfl
  refine (hc ⟨i.val / 256, by omega⟩ ⟨i.val % 256, by omega⟩).trans (congrArg (fun t => A.y b (tok τ t) d) (Fin.ext ?_))
  simp only [chunkRow]; omega

end
end Cert.KernelIdeal.Layer
end
-- ==== Proof.Layer.Run.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! # The body at one grid point, run once

The first part of the body holds both of its branches (the state's reset and the three casts); it is run alone, by cases.
The rest of the body has no branch and is run from whatever the first part left. -/

/-- The state the body goes on from: zero at the first row tile of a sequence. -/
def start (i : grid0.Coords) (s : Vec F S1x4x256x512 .f32) : Vec F S1x4x256x512 .f32 :=
  if Scalar.cmpi .ne (Scalar.extui (Scalar.cmpi .eq (BitVec.ofNat 32 (i 1).val) 0#32)) 0#32 = 1#1 then k0_pay2 else s

/-- A whole block written over any contents is what the buffer then holds. -/
theorem read_writes_full {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  funext y
  exact View.read_writes_cons_hit_of_coords v f (Rect.unit (s := S) (fun _ => 0) S.size inb) w [] y y fun a => by simp [Rect.unit]

/-- A load from a whole buffer that holds `X` is `X` at the load's box. -/
theorem load_unread {sp : Space} {S : Shape} {e : EltTy} {b : Memref sig .tc sp S e} (h : b.IsWhole) (X : S.Idx → Elt F e) (r : Rect S) :
    b.view.readAt (Elt F) r.toLoadRect (h.unread X) = View.ld X r := by
  rw [View.readAt_eq_ld, h.read_unread]

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

section
variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1x1024x6144 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S1x2048 .f32) (harg7 : arg7.IsWhole)
  (arg8 : Memref sig .tc .vmem S1x2048x1024 .bf16) (harg8 : arg8.IsWhole)
  (arg9 : Memref sig .tc .vmem S1x64x2816 .f32) (harg9 : arg9.IsWhole)
  (arg10 : Memref sig .tc .vmem S1x64x2816 .f32) (harg10 : arg10.IsWhole)
  (arg11 : Memref sig .tc .vmem S1x176x1024 .f32) (harg11 : arg11.IsWhole)
  (arg12 : Memref sig .tc .vmem S1x512x1024 .f32) (harg12 : arg12.IsWhole)
  (arg13 : Memref sig .tc .vmem S1x4x256x512 .f32) (harg13 : arg13.IsWhole)
  (arg14 : Memref sig .tc .vmem S1x64x2816 .bf16) (harg14 : arg14.IsWhole)
  (arg15 : Memref sig .tc .vmem S1x64x2816 .bf16) (harg15 : arg15.IsWhole)
  (arg16 : Memref sig .tc .vmem S1x176x1024 .bf16) (harg16 : arg16.IsWhole)
  (arg17 : Memref sig .tc .vmem S512x2048 .bf16) (harg17 : arg17.IsWhole)
  (x0 : Vec F S1x512x1024 .f32)
  (x1 : Vec F S1x1024 .f32)
  (x2 : Vec F S1x1024x6144 .bf16)
  (x3 : Vec F S512x128 .f32)
  (x4 : Vec F S512x128 .f32)
  (x5 : Vec F S1x2048 .f32)
  (x6 : Vec F S1x2048x1024 .bf16)
  (x7 : Vec F S1x64x2816 .f32)
  (x8 : Vec F S1x64x2816 .f32)
  (x9 : Vec F S1x176x1024 .f32)
  (s : Vec F S1x4x256x512 .f32) (p12 p13 : Vec F S1x64x2816 .bf16) (p14 : Vec F S1x176x1024 .bf16)

set_option maxHeartbeats 2000000 in
/-- The first part: the state reset or kept, the casts stored or not, and the values it hands on. -/
theorem first_part (E : Set ℕ) (K : _ → sProp 𝕄) :
    iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg9 fullShare x7 ∗ owns (c : Thread nD τ) arg10 fullShare x8 ∗ owns (c : Thread nD τ) arg11 fullShare x9
        ∗ owns (c : Thread nD τ) arg13 fullShare s ∗ owns (c : Thread nD τ) arg14 fullShare p12 ∗ owns (c : Thread nD τ) arg15 fullShare p13 ∗ owns (c : Thread nD τ) arg16 fullShare p14
        ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg9 fullShare x7 ∗ owns (c : Thread nD τ) arg10 fullShare x8 ∗ owns (c : Thread nD τ) arg11 fullShare x9
        ∗ owns (c : Thread nD τ) arg13 fullShare (start i s) ∗ owns (c : Thread nD τ) arg14 fullShare (if k0_cond2 i = 1#1 then k0_pay3 x7 else p12) ∗ owns (c : Thread nD τ) arg15 fullShare (if k0_cond2 i = 1#1 then k0_pay4 x8 else p13) ∗ owns (c : Thread nD τ) arg16 fullShare (if k0_cond2 i = 1#1 then k0_pay5 x9 else p14)) -∗
          K ⟨k0_pay6 (F := F), k0_pay7 (F := F),
            k0_pay8 (arg2.view.readAt (Elt F) (Rect.unit (s := S1x512x1024) ![0, 0, 0] S1x256x1024.size inb_S1x512x1024_S1x256x1024_0_0_0).toLoadRect (harg2.unread x0)),
            k0_pay9 (arg2.view.readAt (Elt F) (Rect.unit (s := S1x512x1024) ![0, 0, 0] S1x256x1024.size inb_S1x512x1024_S1x256x1024_0_0_0).toLoadRect (harg2.unread x0)) (arg3.view.readAt (Elt F) (Rect.unit (s := S1x1024) ![0, 0] S1x1024.size inb_S1x1024_S1x1024_0_0).toLoadRect (harg3.unread x1)),
            (arg5.view.readAt (Elt F) (Rect.unit (s := S512x128) ![0, 0] S256x128.size inb_S512x128_S256x128_0_0).toLoadRect (harg5.unread x3)),
            (arg6.view.readAt (Elt F) (Rect.unit (s := S512x128) ![0, 0] S256x128.size inb_S512x128_S256x128_0_0).toLoadRect (harg6.unread x4)),
            k0_pay10 (F := F), k0_pay11 (F := F), Named.named κ "log_g0" 0xBD020AEC#32⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f5, %hf5, H5⟩, ⟨%f6, %hf6, H6⟩, ⟨%f9, %hf9, H9⟩, ⟨%f10, %hf10, H10⟩, ⟨%f11, %hf11, H11⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg5.eq_unread hf5; obtain rfl := harg6.eq_unread hf6; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
  by_cases h1 : Scalar.cmpi .ne (Scalar.extui (Scalar.cmpi .eq (BitVec.ofNat 32 (i 1).val) 0#32)) 0#32 = 1#1 <;>
  by_cases h2 : k0_cond2 i = 1#1 <;>
  simp only [k0_part1_eq_skeleton] <;>
  sl_exec (disch := first | sl_exact h1 | sl_exact h2) <;>
  sl_step <;>
  (first | delta first_part.sl.cst_14 | delta first_part.sl.cst_14_1 | delta first_part.sl.cst_14_2 | delta first_part.sl.cst_14_3) <;>
  iapply Hk
  all_goals (
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H13]
  · iexists _; isplitr; swap
    · iexact H13
    ipureintro; unfold start; first | (rw [if_pos h1]; exact read_writes_full _ _ zero4 _ _) | (rw [if_neg h1]; exact harg13.read_unread _)
  isplitl [H14]
  · iexists _; isplitr; swap
    · iexact H14
    ipureintro; first | (rw [if_neg h2]; exact harg14.read_unread _) | (rw [if_pos h2]; refine (read_writes_full _ _ zero3 _ _).trans ?_; rw [load_unread harg9]; exact congrArg k0_pay3 (View.ld_unit_zero zero3 _ _))
  isplitl [H15]
  · iexists _; isplitr; swap
    · iexact H15
    ipureintro; first | (rw [if_neg h2]; exact harg15.read_unread _) | (rw [if_pos h2]; refine (read_writes_full _ _ zero3 _ _).trans ?_; rw [load_unread harg10]; exact congrArg k0_pay4 (View.ld_unit_zero zero3 _ _))
  iexists _; isplitr; swap
  · iexact H16
  ipureintro; first | (rw [if_neg h2]; exact harg16.read_unread _) | (rw [if_pos h2]; refine (read_writes_full _ _ zero3 _ _).trans ?_; rw [load_unread harg11]; exact congrArg k0_pay5 (View.ld_unit_zero zero3 _ _)))

set_option maxHeartbeats 4000000 in
/-- The whole body at one point: what it leaves in the output row tile and in the state, as the list of its stores (the
last first), with the run that finds these lists. -/
noncomputable def body_run :
    Σ' (L12 : List (View.Piece (Elt F) S1x512x1024 .f32)), Σ' (L13 : List (View.Piece (Elt F) S1x4x256x512 .f32)), { LT : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
          ∗ (∃ d, owns (c : Thread nD τ) arg12 fullShare d) ∗ owns (c : Thread nD τ) arg13 fullShare s ∗ owns (c : Thread nD τ) arg14 fullShare p12 ∗ owns (c : Thread nD τ) arg15 fullShare p13 ∗ owns (c : Thread nD τ) arg16 fullShare p14 ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare (if k0_cond2 i = 1#1 then k0_pay3 x7 else p12) ∗ owns (c : Thread nD τ) arg15 fullShare (if k0_cond2 i = 1#1 then k0_pay4 x8 else p13) ∗ owns (c : Thread nD τ) arg16 fullShare (if k0_cond2 i = 1#1 then k0_pay5 x9 else p14) ∗ (∃ f, arg17.view.loc (c : Thread nD τ) ↦[arg17.view.set]{fullShare} arg17.view.writes (Elt F) f LT)) -∗ K ⟨⟩))
        ⊢ wp frame (wpE (defs₀ (F := F)) Variants.none c none) E (cc0_ret_layer_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_ret_layer_seq_eq_skeleton]; unfold cc0_ret_layer_seq_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    rw [wp_bind]
    iintro ⟨H2, H3, H4, H5, H6, H7, H8, H9, H10, H11, ⟨%d12, H12⟩, H13, H14, H15, H16, ⟨%d17, H17⟩, Hk⟩
    iapply (first_part c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x7 x8 x9 s p12 p13 p14)
    isplitl [H2]; · iexact H2
    isplitl [H3]; · iexact H3
    isplitl [H5]; · iexact H5
    isplitl [H6]; · iexact H6
    isplitl [H9]; · iexact H9
    isplitl [H10]; · iexact H10
    isplitl [H11]; · iexact H11
    isplitl [H13]; · iexact H13
    isplitl [H14]; · iexact H14
    isplitl [H15]; · iexact H15
    isplitl [H16]; · iexact H16
    unfold owns
    iintro ⟨⟨%f2, %hf2, H2⟩, ⟨%f3, %hf3, H3⟩, ⟨%f5, %hf5, H5⟩, ⟨%f6, %hf6, H6⟩, H9, H10, H11, ⟨%f13, %hf13, H13⟩, H14, H15, H16⟩
    icases H4 with ⟨%f4, %hf4, H4⟩
    icases H7 with ⟨%f7, %hf7, H7⟩
    icases H8 with ⟨%f8, %hf8, H8⟩
    icases H12 with ⟨%f12, -, H12⟩
    icases H17 with ⟨%f17, -, H17⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexact H15
    isplitl [H16]; · iexact H16
    iexists _; iexact H17

end
end Cert.KernelIdeal.Layer
end
-- ==== Proof.Layer.Spec.lean ====
module

public import proofs.«01_k».proof.Proof.Layer.Run
public import proofs.«01_k».proof.Proof.Layer.Tile
public import Idealize.ShloMosaic.Lib.Pipeline.ReadBack

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-! # What the run leaves, in closed form

The stores that the run finds are read back: each head's state after each chunk, the gated heads, and the row tile. -/

/-! ## Lists of stores read back -/

/-- One store for each head's state. -/
def statePieces (g : Fin 4 → Vec F S1x1x256x512 .f32) : List (View.Piece (Elt F) S1x4x256x512 .f32) :=
  [⟨Rect.unit (s := S1x4x256x512) ![0, 3, 0, 0] S1x1x256x512.size inb_S1x4x256x512_S1x1x256x512_0_3_0_0, g 3⟩,
   ⟨Rect.unit (s := S1x4x256x512) ![0, 2, 0, 0] S1x1x256x512.size inb_S1x4x256x512_S1x1x256x512_0_2_0_0, g 2⟩,
   ⟨Rect.unit (s := S1x4x256x512) ![0, 1, 0, 0] S1x1x256x512.size inb_S1x4x256x512_S1x1x256x512_0_1_0_0, g 1⟩,
   ⟨Rect.unit (s := S1x4x256x512) ![0, 0, 0, 0] S1x1x256x512.size inb_S1x4x256x512_S1x1x256x512_0_0_0_0, g 0⟩]

theorem state_piece (g : Fin 4 → Vec F S1x1x256x512 .f32) (h : Fin 4) (off : Fin 4 → ℕ) (ho : off = ![0, h.val, 0, 0])
    (inb : ∀ a, off a + S1x1x256x512.size a ≤ S1x4x256x512.size a) (x : (Rect.unit (s := S1x4x256x512) off S1x1x256x512.size inb).shape.Idx) :
    g h x = (fun y : S1x4x256x512.Idx => g (y 1) (ix4 0 0 (y 2) (y 3))) ((Rect.unit (s := S1x4x256x512) off S1x1x256x512.size inb).emb x) := by
  subst ho
  have h0 : (x 0).val < 1 := (x 0).isLt
  have h1 : (x 1).val < 1 := (x 1).isLt
  have e1 : ((Rect.unit (s := S1x4x256x512) ![0, h.val, 0, 0] S1x1x256x512.size inb).emb x 1 : Fin 4) = h :=
    Fin.ext (by rw [Rect.emb_apply]; show h.val + 1 * (x 1).val = h.val; omega)
  show g h x = g ((Rect.unit (s := S1x4x256x512) ![0, h.val, 0, 0] S1x1x256x512.size inb).emb x 1) _
  rw [e1]
  congr 1
  funext a; match a with
  | ⟨0, _⟩ => exact Fin.ext (by show (x 0).val = 0; omega)
  | ⟨1, _⟩ => exact Fin.ext (by show (x 1).val = 0; omega)
  | ⟨2, _⟩ => exact Fin.ext (by show (x 2).val = 0 + 1 * (x 2).val; omega)
  | ⟨3, _⟩ => exact Fin.ext (by show (x 3).val = 0 + 1 * (x 3).val; omega)

theorem canon_state (g : Fin 4 → Vec F S1x1x256x512 .f32) (L : List (View.Piece (Elt F) S1x4x256x512 .f32))
    {sp : Space} (v : View sig .tc sp S1x4x256x512 .f32) (f : v.ty.Contents (Elt F)) :
    v.read (Elt F) (v.writes (Elt F) f (statePieces g ++ L)) = fun y => g (y 1) (ix4 0 0 (y 2) (y 3)) := by
  have hc : ∀ y : S1x4x256x512.Idx, ∃ p ∈ statePieces g, y ∈ p.1.set :=
    View.cover_of_tiled _ S1x1x256x512.size rfl
  funext y
  rw [View.read_writes_apply_eq_canon _ _ _ _ (by obtain ⟨p, hp, hy⟩ := hc y; exact ⟨p, List.mem_append_left _ hp, hy⟩)]
  refine View.canon_append_of_piecesOf (fun y : S1x4x256x512.Idx => g (y 1) (ix4 0 0 (y 2) (y 3))) L (statePieces g) ?_ y (hc y)
  exact ⟨state_piece g 3 ![0, 3, 0, 0] rfl inb_S1x4x256x512_S1x1x256x512_0_3_0_0, state_piece g 2 ![0, 2, 0, 0] rfl inb_S1x4x256x512_S1x1x256x512_0_2_0_0, state_piece g 1 ![0, 1, 0, 0] rfl inb_S1x4x256x512_S1x1x256x512_0_1_0_0, state_piece g 0 ![0, 0, 0, 0] rfl inb_S1x4x256x512_S1x1x256x512_0_0_0_0, trivial⟩

/-- A tile of the gated heads, as one function of the cell. -/
def headCell (a : Fin 4 → FVec F S256x512 .bf16) (b : ℕ) (y : S512x2048.Idx) : F .bf16 :=
  a ⟨(y 1).val / 512, Nat.div_lt_of_lt_mul (y 1).isLt⟩
    (ix2 ⟨((y 0).val - b) % 256, Nat.mod_lt _ (by decide)⟩ ⟨(y 1).val % 512, Nat.mod_lt _ (by decide)⟩)

theorem head_piece (a : Fin 4 → FVec F S256x512 .bf16) (b : ℕ) (h : Fin 4) (off : Fin 2 → ℕ) (ho : off = ![b, 512 * h.val])
    (inb : ∀ a, off a + S256x512.size a ≤ S512x2048.size a) (x : (Rect.unit (s := S512x2048) off S256x512.size inb).shape.Idx) :
    a h x = headCell a b ((Rect.unit (s := S512x2048) off S256x512.size inb).emb x) := by
  subst ho
  have h0 : (x 0).val < 256 := (x 0).isLt
  have h1 : (x 1).val < 512 := (x 1).isLt
  have e0 : ((Rect.unit (s := S512x2048) ![b, 512 * h.val] S256x512.size inb).emb x 0).val = b + (x 0).val := by
    rw [Rect.emb_apply]; show b + 1 * (x 0).val = _; omega
  have e1 : ((Rect.unit (s := S512x2048) ![b, 512 * h.val] S256x512.size inb).emb x 1).val = 512 * h.val + (x 1).val := by
    rw [Rect.emb_apply]; show 512 * h.val + 1 * (x 1).val = _; omega
  generalize (Rect.unit (s := S512x2048) ![b, 512 * h.val] S256x512.size inb).emb x = y at e0 e1
  have eh : (⟨(y 1).val / 512, Nat.div_lt_of_lt_mul (y 1).isLt⟩ : Fin 4) = h := Fin.ext (by show (y 1).val / 512 = h.val; omega)
  show a h x = a _ _
  rw [eh]
  congr 1
  funext c; match c with
  | ⟨0, _⟩ => exact Fin.ext (by show (x 0).val = ((y 0).val - b) % 256; omega)
  | ⟨1, _⟩ => exact Fin.ext (by show (x 1).val = (y 1).val % 512; omega)

/-- One store for each head. -/
def headPieces (a : Fin 4 → FVec F S256x512 .bf16) (b : ℕ)
    (i3 : ∀ a, (![b, 1536] : Fin 2 → ℕ) a + S256x512.size a ≤ S512x2048.size a) (i2 : ∀ a, (![b, 1024] : Fin 2 → ℕ) a + S256x512.size a ≤ S512x2048.size a)
    (i1 : ∀ a, (![b, 512] : Fin 2 → ℕ) a + S256x512.size a ≤ S512x2048.size a) (i0 : ∀ a, (![b, 0] : Fin 2 → ℕ) a + S256x512.size a ≤ S512x2048.size a) : List (View.Piece (Elt F) S512x2048 .bf16) :=
  [⟨Rect.unit (s := S512x2048) ![b, 1536] S256x512.size i3, a 3⟩, ⟨Rect.unit (s := S512x2048) ![b, 1024] S256x512.size i2, a 2⟩,
      ⟨Rect.unit (s := S512x2048) ![b, 512] S256x512.size i1, a 1⟩, ⟨Rect.unit (s := S512x2048) ![b, 0] S256x512.size i0, a 0⟩]

/-- Four heads stored side by side, loaded as one row block. -/
theorem heads_read {sp : Space} (v : View sig .tc sp S512x2048 .bf16) (a : Fin 4 → FVec F S256x512 .bf16) (b : ℕ)
    (L : List (View.Piece (Elt F) S512x2048 .bf16))
    (i3 : ∀ a, (![b, 1536] : Fin 2 → ℕ) a + S256x512.size a ≤ S512x2048.size a) (i2 : ∀ a, (![b, 1024] : Fin 2 → ℕ) a + S256x512.size a ≤ S512x2048.size a)
    (i1 : ∀ a, (![b, 512] : Fin 2 → ℕ) a + S256x512.size a ≤ S512x2048.size a) (i0 : ∀ a, (![b, 0] : Fin 2 → ℕ) a + S256x512.size a ≤ S512x2048.size a)
    (ib : ∀ a, (![b, 0] : Fin 2 → ℕ) a + S256x2048.size a ≤ S512x2048.size a) :
    v.readCov (headPieces a b i3 i2 i1 i0 ++ L)
      (Rect.unit (s := S512x2048) ![b, 0] S256x2048.size ib).toLoadRect = heads a := by
  rw [View.readCov_eq_canon']
  funext j
  have j0 : (j 0).val < 256 := (j 0).isLt
  have j1 : (j 1).val < 2048 := (j 1).isLt
  have e0 : ((Rect.unit (s := S512x2048) ![b, 0] S256x2048.size ib).toLoadRect.idx j 0).val = b + (j 0).val := by
    show b + 1 * (j 0).val = _; omega
  have e1 : ((Rect.unit (s := S512x2048) ![b, 0] S256x2048.size ib).toLoadRect.idx j 1).val = (j 1).val := by
    show 0 + 1 * (j 1).val = _; omega
  generalize (Rect.unit (s := S512x2048) ![b, 0] S256x2048.size ib).toLoadRect.idx j = y at e0 e1
  have hp : View.PiecesOf (headCell a b) (headPieces a b i3 i2 i1 i0) :=
    ⟨head_piece a b 3 ![b, 1536] rfl i3, head_piece a b 2 ![b, 1024] rfl i2, head_piece a b 1 ![b, 512] rfl i1, head_piece a b 0 ![b, 0] rfl i0, trivial⟩
  refine (View.canon_append_of_piecesOf (headCell a b) L (headPieces a b i3 i2 i1 i0) hp y ?_).trans ?_
  · have m (o : ℕ) (io : ∀ a, (![b, o] : Fin 2 → ℕ) a + S256x512.size a ≤ S512x2048.size a) (h : o ≤ (j 1).val ∧ (j 1).val < o + 512) :
        y ∈ (Rect.unit (s := S512x2048) ![b, o] S256x512.size io).set := Rect.mem_set_unit.mpr fun a => by
      match a with
      | ⟨0, _⟩ => show b ≤ (y 0).val ∧ (y 0).val < b + 256; omega
      | ⟨1, _⟩ => show o ≤ (y 1).val ∧ (y 1).val < o + 512; omega
    rcases (by omega : (j 1).val < 512 ∨ (512 ≤ (j 1).val ∧ (j 1).val < 1024) ∨ (1024 ≤ (j 1).val ∧ (j 1).val < 1536) ∨ 1536 ≤ (j 1).val) with h | h | h | h
    · exact ⟨_, .tail _ (.tail _ (.tail _ (.head _))), m 0 i0 (by omega)⟩
    · exact ⟨_, .tail _ (.tail _ (.head _)), m 512 i1 (by omega)⟩
    · exact ⟨_, .tail _ (.head _), m 1024 i2 (by omega)⟩
    · exact ⟨_, .head _, m 1536 i3 (by omega)⟩
  · show a _ _ = a _ _
    have eh : (⟨(y 1).val / 512, Nat.div_lt_of_lt_mul (y 1).isLt⟩ : Fin 4) = ⟨(j 1).val / 512, Nat.div_lt_of_lt_mul (j 1).isLt⟩ := Fin.ext (by show (y 1).val / 512 = (j 1).val / 512; omega)
    rw [eh]
    congr 1
    funext c; match c with
    | ⟨0, _⟩ => exact Fin.ext (by show ((y 0).val - b) % 256 = (j 0).val; omega)
    | ⟨1, _⟩ => exact Fin.ext (by show (y 1).val % 512 = (j 1).val % 512; omega)

/-- A row tile made of two chunks. -/
def rowCell (g : Fin 2 → FVec F S1x256x1024 .f32) (y : S1x512x1024.Idx) : F .f32 :=
  g ⟨(y 1).val / 256, Nat.div_lt_of_lt_mul (y 1).isLt⟩ (ix3 0 ⟨(y 1).val % 256, Nat.mod_lt _ (by decide)⟩ (y 2))

/-- One store for each chunk. -/
def rowPieces (g : Fin 2 → FVec F S1x256x1024 .f32) : List (View.Piece (Elt F) S1x512x1024 .f32) :=
  [⟨Rect.unit (s := S1x512x1024) ![0, 256, 0] S1x256x1024.size inb_S1x512x1024_S1x256x1024_0_256_0, g 1⟩,
      ⟨Rect.unit (s := S1x512x1024) ![0, 0, 0] S1x256x1024.size inb_S1x512x1024_S1x256x1024_0_0_0, g 0⟩]

/-- The two chunks' outputs stored in the row tile. -/
theorem rows_read {sp : Space} (v : View sig .tc sp S1x512x1024 .f32) (f : v.ty.Contents (Elt F)) (g : Fin 2 → FVec F S1x256x1024 .f32) :
    v.read (Elt F) (v.writes (Elt F) f (rowPieces g)) =
      rowCell g := by
  funext y
  have y0 : (y 0).val < 1 := (y 0).isLt
  have y1 : (y 1).val < 512 := (y 1).isLt
  have hc : ∀ y : S1x512x1024.Idx, ∃ p ∈ rowPieces g, y ∈ p.1.set := View.cover_of_tiled _ S1x256x1024.size rfl
  rw [View.read_writes_apply_eq_canon _ _ _ _ (hc y)]
  have hp : View.PiecesOf (rowCell g) (rowPieces g) :=
    ⟨piece 1 ![0, 256, 0] rfl inb_S1x512x1024_S1x256x1024_0_256_0, piece 0 ![0, 0, 0] rfl inb_S1x512x1024_S1x256x1024_0_0_0, trivial⟩
  exact View.canon_append_of_piecesOf (rowCell g) [] (rowPieces g) hp y (hc y)
where
  piece (r : Fin 2) (off : Fin 3 → ℕ) (ho : off = ![0, 256 * r.val, 0]) (inb : ∀ a, off a + S1x256x1024.size a ≤ S1x512x1024.size a)
      (x : (Rect.unit (s := S1x512x1024) off S1x256x1024.size inb).shape.Idx) :
      g r x = rowCell g
        ((Rect.unit (s := S1x512x1024) off S1x256x1024.size inb).emb x) := by
    subst ho
    have h0 : (x 0).val < 1 := (x 0).isLt
    have h1 : (x 1).val < 256 := (x 1).isLt
    have e1 : ((Rect.unit (s := S1x512x1024) ![0, 256 * r.val, 0] S1x256x1024.size inb).emb x 1).val = 256 * r.val + (x 1).val := by
      rw [Rect.emb_apply]; show 256 * r.val + 1 * (x 1).val = _; omega
    have e2 : ((Rect.unit (s := S1x512x1024) ![0, 256 * r.val, 0] S1x256x1024.size inb).emb x 2).val = (x 2).val := by
      rw [Rect.emb_apply]; show 0 + 1 * (x 2).val = _; omega
    generalize (Rect.unit (s := S1x512x1024) ![0, 256 * r.val, 0] S1x256x1024.size inb).emb x = y at e1 e2
    have er : (⟨(y 1).val / 256, Nat.div_lt_of_lt_mul (y 1).isLt⟩ : Fin 2) = r := Fin.ext (by show (y 1).val / 256 = r.val; omega)
    show g r x = g _ _
    rw [er]
    congr 1
    funext c; match c with
    | ⟨0, _⟩ => exact Fin.ext (by show (x 0).val = 0; omega)
    | ⟨1, _⟩ => exact Fin.ext (by show (x 1).val = (y 1).val % 256; omega)
    | ⟨2, _⟩ => exact Fin.ext e2.symm

/-! ## The run's own lists -/

section
variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1x1024x6144 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S1x2048 .f32) (harg7 : arg7.IsWhole)
  (arg8 : Memref sig .tc .vmem S1x2048x1024 .bf16) (harg8 : arg8.IsWhole)
  (arg9 : Memref sig .tc .vmem S1x64x2816 .f32) (harg9 : arg9.IsWhole)
  (arg10 : Memref sig .tc .vmem S1x64x2816 .f32) (harg10 : arg10.IsWhole)
  (arg11 : Memref sig .tc .vmem S1x176x1024 .f32) (harg11 : arg11.IsWhole)
  (arg12 : Memref sig .tc .vmem S1x512x1024 .f32) (harg12 : arg12.IsWhole)
  (arg13 : Memref sig .tc .vmem S1x4x256x512 .f32) (harg13 : arg13.IsWhole)
  (arg14 : Memref sig .tc .vmem S1x64x2816 .bf16) (harg14 : arg14.IsWhole)
  (arg15 : Memref sig .tc .vmem S1x64x2816 .bf16) (harg15 : arg15.IsWhole)
  (arg16 : Memref sig .tc .vmem S1x176x1024 .bf16) (harg16 : arg16.IsWhole)
  (arg17 : Memref sig .tc .vmem S512x2048 .bf16) (harg17 : arg17.IsWhole)
  (x0 : Vec F S1x512x1024 .f32)
  (x1 : Vec F S1x1024 .f32)
  (x2 : Vec F S1x1024x6144 .bf16)
  (x3 : Vec F S512x128 .f32)
  (x4 : Vec F S512x128 .f32)
  (x5 : Vec F S1x2048 .f32)
  (x6 : Vec F S1x2048x1024 .bf16)
  (x7 : Vec F S1x64x2816 .f32)
  (x8 : Vec F S1x64x2816 .f32)
  (x9 : Vec F S1x176x1024 .f32)
  (s : Vec F S1x4x256x512 .f32) (p12 p13 : Vec F S1x64x2816 .bf16) (p14 : Vec F S1x176x1024 .bf16)

theorem mid0 : body_run.sl.v525 (F := F) c i arg2 harg2 arg3 harg3 arg4 harg4 arg5 harg5 arg6 harg6 arg13 harg13 x0 x1 x2 x3 x4 s = stMid x0 x1 x2 x3 x4 (start i s) 0 := by
  unfold body_run.sl.v525
  unfold body_run.sl.H13_4
  refine (View.readCov_skip _ _ _ _ _ rfl).trans ?_
  refine (View.readCov_skip _ _ _ _ _ rfl).trans ?_
  refine (View.readCov_skip _ _ _ _ _ rfl).trans ?_
  refine (View.readCov_cons_toLoadRect _ _ _ _).trans ?_
  simp only [body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, body_run.sl.v190, body_run.sl.v293, body_run.sl.v396, load_unread]
  rfl

theorem mid1 : body_run.sl.v628 (F := F) c i arg2 harg2 arg3 harg3 arg4 harg4 arg5 harg5 arg6 harg6 arg13 harg13 x0 x1 x2 x3 x4 s = stMid x0 x1 x2 x3 x4 (start i s) 1 := by
  unfold body_run.sl.v628
  unfold body_run.sl.H13_5 body_run.sl.H13_4
  refine (View.readCov_skip _ _ _ _ _ rfl).trans ?_
  refine (View.readCov_skip _ _ _ _ _ rfl).trans ?_
  refine (View.readCov_skip _ _ _ _ _ rfl).trans ?_
  refine (View.readCov_cons_toLoadRect _ _ _ _).trans ?_
  simp only [body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, body_run.sl.v190, body_run.sl.v293, body_run.sl.v396, load_unread]
  rfl

theorem mid2 : body_run.sl.v731 (F := F) c i arg2 harg2 arg3 harg3 arg4 harg4 arg5 harg5 arg6 harg6 arg13 harg13 x0 x1 x2 x3 x4 s = stMid x0 x1 x2 x3 x4 (start i s) 2 := by
  unfold body_run.sl.v731
  unfold body_run.sl.H13_6 body_run.sl.H13_5 body_run.sl.H13_4
  refine (View.readCov_skip _ _ _ _ _ rfl).trans ?_
  refine (View.readCov_skip _ _ _ _ _ rfl).trans ?_
  refine (View.readCov_skip _ _ _ _ _ rfl).trans ?_
  refine (View.readCov_cons_toLoadRect _ _ _ _).trans ?_
  simp only [body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, body_run.sl.v190, body_run.sl.v293, body_run.sl.v396, load_unread]
  rfl

theorem mid3 : body_run.sl.v834 (F := F) c i arg2 harg2 arg3 harg3 arg4 harg4 arg5 harg5 arg6 harg6 arg13 harg13 x0 x1 x2 x3 x4 s = stMid x0 x1 x2 x3 x4 (start i s) 3 := by
  unfold body_run.sl.v834
  unfold body_run.sl.H13_7 body_run.sl.H13_6 body_run.sl.H13_5 body_run.sl.H13_4
  refine (View.readCov_skip _ _ _ _ _ rfl).trans ?_
  refine (View.readCov_skip _ _ _ _ _ rfl).trans ?_
  refine (View.readCov_skip _ _ _ _ _ rfl).trans ?_
  refine (View.readCov_cons_toLoadRect _ _ _ _).trans ?_
  simp only [body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, body_run.sl.v190, body_run.sl.v293, body_run.sl.v396, load_unread]
  rfl

/-- The state block, read back: every head's state after both chunks. -/
theorem state_read (f : arg13.view.ty.Contents (Elt F)) :
    arg13.view.read (Elt F) (arg13.view.writes (Elt F) f (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14).2.1) = sTile x0 x1 x2 x3 x4 (start i s) := by
  have hL : (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14).2.1 = statePieces (stEnd x0 x1 x2 x3 x4 (start i s)) ++ body_run.sl.H13_4 (F := F) c i arg2 harg2 arg3 harg3 arg4 harg4 arg5 harg5 arg6 harg6 arg13 harg13 x0 x1 x2 x3 x4 s := by
    unfold body_run
    simp only [body_run.sl.H13_7, body_run.sl.H13_6, body_run.sl.H13_5, body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, mid0, mid1, mid2, mid3, load_unread]
    rfl
  rw [hL]
  exact canon_state _ _ _ f

/-- The gated heads of the first chunk … -/
theorem act_read0 : body_run.sl.v444 (F := F) c i arg2 harg2 arg3 harg3 arg4 harg4 arg5 harg5 arg6 harg6 arg7 harg7 arg13 harg13 arg17 x0 x1 x2 x3 x4 x5 s = heads (fun h => act x0 x1 x2 x3 x4 x5 0 h (stIn x0 x1 x2 x3 x4 (start i s) 0 h)) := by
  unfold body_run.sl.v444
  refine Eq.trans ?_ (heads_read arg17.view (fun h => act x0 x1 x2 x3 x4 x5 0 h (stIn x0 x1 x2 x3 x4 (start i s) 0 h)) 0 []
    inb_S512x2048_S256x512_0_1536 inb_S512x2048_S256x512_0_1024 inb_S512x2048_S256x512_0_512 inb_S512x2048_S256x512_0_0 inb_S512x2048_S256x2048_0_0)
  simp only [body_run.sl.H17_4, body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, body_run.sl.v190, body_run.sl.v293, body_run.sl.v396, load_unread]
  rfl

/-- … and of the second. -/
theorem act_read1 : body_run.sl.v (F := F) c i arg2 harg2 arg3 harg3 arg4 harg4 arg5 harg5 arg6 harg6 arg7 harg7 arg13 harg13 arg17 x0 x1 x2 x3 x4 x5 s = heads (fun h => act x0 x1 x2 x3 x4 x5 1 h (stIn x0 x1 x2 x3 x4 (start i s) 1 h)) := by
  unfold body_run.sl.v
  refine Eq.trans ?_ (heads_read arg17.view (fun h => act x0 x1 x2 x3 x4 x5 1 h (stIn x0 x1 x2 x3 x4 (start i s) 1 h)) 256 (body_run.sl.H17_4 (F := F) c i arg2 harg2 arg3 harg3 arg4 harg4 arg5 harg5 arg6 harg6 arg7 harg7 arg13 harg13 x0 x1 x2 x3 x4 x5 s)
    inb_S512x2048_S256x512_256_1536 inb_S512x2048_S256x512_256_1024 inb_S512x2048_S256x512_256_512 inb_S512x2048_S256x512_256_0 inb_S512x2048_S256x2048_256_0)
  simp only [body_run.sl.H17_8, body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, mid0, mid1, mid2, mid3, load_unread]
  rfl

/-- The row tile, read back. -/
theorem tile_read (f : arg12.view.ty.Contents (Elt F)) :
    arg12.view.read (Elt F) (arg12.view.writes (Elt F) f (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14).1) = yTile x0 x1 x2 x3 x4 x5 x6 (start i s) := by
  refine Eq.trans ?_ (rows_read (F := F) arg12.view f (fun r => yChunk x0 x6 r (fun h => act x0 x1 x2 x3 x4 x5 r h (stIn x0 x1 x2 x3 x4 (start i s) r h))))
  unfold body_run
  simp only [body_run.sl.cst_134, body_run.sl.cst_206, body_run.sl.cst_299, body_run.sl.cst_82, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_34, body_run.sl.r_35, body_run.sl.r_36, body_run.sl.r_37, body_run.sl.r_38, body_run.sl.r_39, body_run.sl.r_4, body_run.sl.r_40, body_run.sl.r_41, body_run.sl.r_42, body_run.sl.r_43, body_run.sl.r_44, body_run.sl.r_45, body_run.sl.r_46, body_run.sl.r_47, body_run.sl.r_48, body_run.sl.r_49, body_run.sl.r_5, body_run.sl.r_50, body_run.sl.r_51, body_run.sl.r_52, body_run.sl.r_53, body_run.sl.r_54, body_run.sl.r_55, body_run.sl.r_56, body_run.sl.r_57, body_run.sl.r_58, body_run.sl.r_59, body_run.sl.r_6, body_run.sl.r_60, body_run.sl.r_61, body_run.sl.r_62, body_run.sl.r_63, body_run.sl.r_64, body_run.sl.r_65, body_run.sl.r_66, body_run.sl.r_67, body_run.sl.r_68, body_run.sl.r_69, body_run.sl.r_7, body_run.sl.r_70, body_run.sl.r_71, body_run.sl.r_72, body_run.sl.r_73, body_run.sl.r_74, body_run.sl.r_75, body_run.sl.r_76, body_run.sl.r_77, body_run.sl.r_78, body_run.sl.r_79, body_run.sl.r_8, body_run.sl.r_80, body_run.sl.r_81, body_run.sl.r_82, body_run.sl.r_83, body_run.sl.r_84, body_run.sl.r_85, body_run.sl.r_86, body_run.sl.r_87, body_run.sl.r_88, body_run.sl.r_89, body_run.sl.r_9, body_run.sl.r_90, body_run.sl.r_91, body_run.sl.r_92, body_run.sl.r_93, body_run.sl.r_94, act_read0, act_read1, load_unread]
  rfl

end
end Cert.KernelIdeal.Layer
end
-- ==== Proof.Layer.Body.lean ====
module

public import proofs.«01_k».proof.Proof.Layer.Spec

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The body at one grid point, in closed form

The run's stores read back: the row tile is `yTile`, the state is `sTile`, each cast block is the cast of its input block
where the point makes it and what it was elsewhere. -/

section
variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1x1024x6144 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S1x2048 .f32) (harg7 : arg7.IsWhole)
  (arg8 : Memref sig .tc .vmem S1x2048x1024 .bf16) (harg8 : arg8.IsWhole)
  (arg9 : Memref sig .tc .vmem S1x64x2816 .f32) (harg9 : arg9.IsWhole)
  (arg10 : Memref sig .tc .vmem S1x64x2816 .f32) (harg10 : arg10.IsWhole)
  (arg11 : Memref sig .tc .vmem S1x176x1024 .f32) (harg11 : arg11.IsWhole)
  (arg12 : Memref sig .tc .vmem S1x512x1024 .f32) (harg12 : arg12.IsWhole)
  (arg13 : Memref sig .tc .vmem S1x4x256x512 .f32) (harg13 : arg13.IsWhole)
  (arg14 : Memref sig .tc .vmem S1x64x2816 .bf16) (harg14 : arg14.IsWhole)
  (arg15 : Memref sig .tc .vmem S1x64x2816 .bf16) (harg15 : arg15.IsWhole)
  (arg16 : Memref sig .tc .vmem S1x176x1024 .bf16) (harg16 : arg16.IsWhole)
  (arg17 : Memref sig .tc .vmem S512x2048 .bf16) (harg17 : arg17.IsWhole)
  (x0 : Vec F S1x512x1024 .f32)  (x1 : Vec F S1x1024 .f32)  (x2 : Vec F S1x1024x6144 .bf16)  (x3 : Vec F S512x128 .f32)  (x4 : Vec F S512x128 .f32)  (x5 : Vec F S1x2048 .f32)  (x6 : Vec F S1x2048x1024 .bf16)  (x7 : Vec F S1x64x2816 .f32)  (x8 : Vec F S1x64x2816 .f32)  (x9 : Vec F S1x176x1024 .f32)
  (s : Vec F S1x4x256x512 .f32) (p12 p13 : Vec F S1x64x2816 .bf16) (p14 : Vec F S1x176x1024 .bf16)

theorem body_spec (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
      ∗ (∃ d, owns (c : Thread nD τ) arg12 fullShare d) ∗ owns (c : Thread nD τ) arg13 fullShare s ∗ owns (c : Thread nD τ) arg14 fullShare p12 ∗ owns (c : Thread nD τ) arg15 fullShare p13 ∗ owns (c : Thread nD τ) arg16 fullShare p14 ∗ (∃ d, owns (c : Thread nD τ) arg17 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare (yTile x0 x1 x2 x3 x4 x5 x6 (start i s)) ∗ owns (c : Thread nD τ) arg13 fullShare (sTile x0 x1 x2 x3 x4 (start i s))
        ∗ owns (c : Thread nD τ) arg14 fullShare (if k0_cond2 i = 1#1 then k0_pay3 x7 else p12) ∗ owns (c : Thread nD τ) arg15 fullShare (if k0_cond2 i = 1#1 then k0_pay4 x8 else p13) ∗ owns (c : Thread nD τ) arg16 fullShare (if k0_cond2 i = 1#1 then k0_pay5 x9 else p14) ∗ (∃ d, owns (c : Thread nD τ) arg17 fullShare d)) -∗ K ⟨⟩))
    ⊢ wp frame (wpE (defs₀ (F := F)) Variants.none c none) E (cc0_ret_layer_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, ⟨%f13, H13⟩, H14, H15, H16, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact tile_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14 f12
  isplitl [H13]
  · unfold owns; iexists _; isplitr
    swap; · iexact H13
    ipureintro; exact state_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 s p12 p13 p14 f13
  isplitl [H14]; · iexact H14
  isplitl [H15]; · iexact H15
  isplitl [H16]; · iexact H16
  iexists _; unfold owns; iexists _; isplitr
  swap; · iexact H17
  ipureintro; rfl

end
end Cert.KernelIdeal.Layer
end
-- ==== Proof.Layer.Frame.lean ====
module

public import proofs.«01_k».proof.Proof.Layer.Body
public import Idealize.ShloMosaic.Lib.Pipeline.TableIdle
public import Idealize.ShloMosaic.Lib.Claim

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The launch: what every point finds and leaves, the run, the frame -/

/-! ## The blocks of the inputs, typed as the body takes them -/

abbrev blk0 (c : Dev nD) (t : Fin cfg0.N) : Vec F S1x512x1024 .f32 := iblk m c 0 t
abbrev blk1 (c : Dev nD) (t : Fin cfg0.N) : Vec F S1x1024 .f32 := iblk m c 1 t
abbrev blk2 (c : Dev nD) (t : Fin cfg0.N) : Vec F S1x1024x6144 .bf16 := iblk m c 2 t
abbrev blk3 (c : Dev nD) (t : Fin cfg0.N) : Vec F S512x128 .f32 := iblk m c 3 t
abbrev blk4 (c : Dev nD) (t : Fin cfg0.N) : Vec F S512x128 .f32 := iblk m c 4 t
abbrev blk5 (c : Dev nD) (t : Fin cfg0.N) : Vec F S1x2048 .f32 := iblk m c 5 t
abbrev blk6 (c : Dev nD) (t : Fin cfg0.N) : Vec F S1x2048x1024 .bf16 := iblk m c 6 t
abbrev blk7 (c : Dev nD) (t : Fin cfg0.N) : Vec F S1x64x2816 .f32 := iblk m c 7 t
abbrev blk8 (c : Dev nD) (t : Fin cfg0.N) : Vec F S1x64x2816 .f32 := iblk m c 8 t
abbrev blk9 (c : Dev nD) (t : Fin cfg0.N) : Vec F S1x176x1024 .f32 := iblk m c 9 t

/-- The state in the output block after the first `n` points; before the first it is not looked at. -/
def held (c : Dev nD) : (n : ℕ) → n ≤ cfg0.N → Vec F S1x4x256x512 .f32
  | 0, _ => k0_pay2
  | n + 1, h => sTile (blk0 m c ⟨n, h⟩) (blk1 m c ⟨n, h⟩) (blk2 m c ⟨n, h⟩) (blk3 m c ⟨n, h⟩) (blk4 m c ⟨n, h⟩)
      (start (grid0.coords ⟨n, h⟩) (held c n (Nat.le_of_lt h)))

/-- The state with which point `t` computes. -/
def entering (c : Dev nD) (t : Fin cfg0.N) : Vec F S1x4x256x512 .f32 := start (grid0.coords t) (held m c t.val (Nat.le_of_lt t.isLt))

theorem held_succ (c : Dev nD) (t : Fin cfg0.N) :
    held m c (t.val + 1) t.isLt = sTile (blk0 m c t) (blk1 m c t) (blk2 m c t) (blk3 m c t) (blk4 m c t) (entering m c t) := rfl

/-- The row tile that point `t` stores. -/
def tileAt (c : Dev nD) (t : Fin cfg0.N) : Vec F S1x512x1024 .f32 :=
  yTile (blk0 m c t) (blk1 m c t) (blk2 m c t) (blk3 m c t) (blk4 m c t) (blk5 m c t) (blk6 m c t) (entering m c t)

/-- The proof data: inputs stay, the outputs as above; a cast block is the cast of the input block at hand (past the last
cast that input block does not move). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileAt m c t
    | ⟨11, _⟩ => held m c (t.val + 1) t.isLt
    | ⟨12, _⟩ => k0_pay3 (blk7 m c t)
    | ⟨13, _⟩ => k0_pay4 (blk8 m c t)
    | ⟨14, _⟩ => k0_pay5 (blk9 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = tileAt m c t := by dsimp only [dats]
theorem after11 (c : Dev nD) (t : Fin cfg0.N) : (dats m 0 c).after 11 t = held m c (t.val + 1) t.isLt := by dsimp only [dats]
theorem after12 (c : Dev nD) (t : Fin cfg0.N) : (dats m 0 c).after 12 t = k0_pay3 (blk7 m c t) := by dsimp only [dats]
theorem after13 (c : Dev nD) (t : Fin cfg0.N) : (dats m 0 c).after 13 t = k0_pay4 (blk8 m c t) := by dsimp only [dats]
theorem after14 (c : Dev nD) (t : Fin cfg0.N) : (dats m 0 c).after 14 t = k0_pay5 (blk9 m c t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d

/-! ## The state carried from point to point -/

/-- The body resets the state at the first of every four points. -/
theorem reset_iff (t : Fin cfg0.N) :
    Scalar.cmpi .ne (Scalar.extui (Scalar.cmpi .eq (BitVec.ofNat 32 (grid0.coords t 1).val) 0#32)) 0#32 = 1#1 ↔ t.val % 4 = 0 := by
  have ht : t.val < 32 := Nat.lt_of_lt_of_eq t.isLt N_0
  have e1 : (grid0.coords t 1).val = t.val / 1 % 4 := Pipeline.Grid.coords_val t 1 (by decide) rfl
  simp only [e1]
  word_cmp

theorem start_before (c : Dev nD) (t : Fin cfg0.N) (d) :
    start (grid0.coords t) ((dats m 0 c).before 11 t d) = entering m c t := by
  unfold entering start
  by_cases h : t.val % 4 = 0
  · rw [if_pos ((reset_iff t).mpr h), if_pos ((reset_iff t).mpr h)]
  · rw [if_neg (fun e => h ((reset_iff t).mp e)), if_neg (fun e => h ((reset_iff t).mp e))]
    have hN : t.val < 32 := Nat.lt_of_lt_of_eq t.isLt N_0
    rw [Dat.before_out_kept _ 11 rfl t (by omega) (Bool.eq_false_iff.mpr fun h' => by have := (flush0_11 _).mp h'; dsimp only at this; omega)
      (fun _ => rfl) (fun _ _ => rfl)]
    rw [after11]
    have e : t.val - 1 + 1 = t.val := by omega
    have g (n : ℕ) (h : n ≤ cfg0.N) (e : n = t.val) : held m c n h = held m c t.val (Nat.le_of_lt t.isLt) := by subst e; rfl
    exact g _ _ e

/-! ## The cast blocks -/

theorem casting_iff : ∀ t : Fin cfg0.N, k0_cond2 (grid0.coords t) = 1#1 ↔ t.val < 16 :=
  (by decide +kernel : ∀ t : Fin grid0.N, k0_cond2 (grid0.coords t) = 1#1 ↔ t.val < 16)

/-- Where a cast block's buffer holds nothing stored since it was last written back, as a bit mask. -/
def freshMask : ℕ → Bool
  | 0 => true
  | n + 1 => (0x80007fff : ℕ).testBit n

theorem fresh12 (t : Fin cfg0.N) : cfg0.fresh 12 t.val = freshMask t.val :=
  Pipeline.Cfg.fresh_tab cfg0 12 freshMask rfl (by decide +kernel) t.val (Nat.le_of_lt t.isLt)

theorem idle12 (t : Fin cfg0.N) : cfg0.idle 12 (grid0.coords t) = !decide (t.val < 16) := by
  revert t; decide +kernel

/-- Past the casts the input block stays the last one. -/
theorem same7 (c : Dev nD) (t t' : Fin cfg0.N) (h : 15 ≤ t.val) (h' : 15 ≤ t'.val) : blk7 m c t = blk7 m c t' := by
  have e : (cfg0.win 7).index t = (cfg0.win 7).index t' :=
    (by decide +kernel : ∀ t t' : Fin grid0.N, 15 ≤ t.val → 15 ≤ t'.val → cc0_transform_7 (grid0.coords t) = cc0_transform_7 (grid0.coords t')) t t' h h'
  exact (dats m 0 c).fetched_congr 7 e rfl (blk7 m c t)

theorem before12 (c : Dev nD) (t : Fin cfg0.N) (h : 16 ≤ t.val) (d) : (dats m 0 c).before 12 t d = (dats m 0 c).after 12 t := by
  have hN : t.val < 32 := Nat.lt_of_lt_of_eq t.isLt N_0
  rw [Dat.before_out_traj _ 12 rfl (fun _ _ => rfl) (fun t' _ hi _ => ?_) t.val t rfl d, if_neg]
  · rw [after12, after12, same7 m c _ t (show 15 ≤ t.val - 1 by omega) (by omega)]
  · rw [fresh12]
    exact (by decide +kernel : ∀ t : Fin grid0.N, 16 ≤ t.val → ¬freshMask t.val = true) t h
  · rw [idle12] at hi
    have : 16 ≤ t'.val := by simpa using hi
    rw [after12, after12, same7 m c ⟨t'.val - 1, by omega⟩ t' (show 15 ≤ t'.val - 1 by omega) (by omega)]

/-- What the body leaves in the block is what the pipeline is owed. -/
theorem leave12 (c : Dev nD) (t : Fin cfg0.N) (d) :
    owns (c : Thread nD τ) (win0_12.stage (cfg0.slots t 12)) fullShare
        (if k0_cond2 (grid0.coords t) = 1#1 then k0_pay3 (blk7 m c t) else (dats m 0 c).before 12 t d)
      ⊢ ((dats m 0 c).leavesExact 12 t : sProp 𝕄) := by
  unfold Dat.leavesExact
  by_cases h : t.val < 16
  · rw [if_pos ((casting_iff t).mpr h), idle12 t, decide_eq_true h, ← after12]
    exact .rfl
  · rw [if_neg (fun e => h ((casting_iff t).mp e)), idle12 t, decide_eq_false h]
    cases hf : (cfg0.win 12).flush t
    · show _ ⊢ iprop(∃ d, owns (c : Thread nD τ) (win0_12.stage (cfg0.slots t 12)) fullShare ((dats m 0 c).before 12 t d))
      iintro H
      iexists d
      iexact H
    · rw [before12 m c t (by omega) d]
      exact .rfl

theorem fresh13 (t : Fin cfg0.N) : cfg0.fresh 13 t.val = freshMask t.val :=
  Pipeline.Cfg.fresh_tab cfg0 13 freshMask rfl (by decide +kernel) t.val (Nat.le_of_lt t.isLt)

theorem idle13 (t : Fin cfg0.N) : cfg0.idle 13 (grid0.coords t) = !decide (t.val < 16) := by
  revert t; decide +kernel

/-- Past the casts the input block stays the last one. -/
theorem same8 (c : Dev nD) (t t' : Fin cfg0.N) (h : 15 ≤ t.val) (h' : 15 ≤ t'.val) : blk8 m c t = blk8 m c t' := by
  have e : (cfg0.win 8).index t = (cfg0.win 8).index t' :=
    (by decide +kernel : ∀ t t' : Fin grid0.N, 15 ≤ t.val → 15 ≤ t'.val → cc0_transform_8 (grid0.coords t) = cc0_transform_8 (grid0.coords t')) t t' h h'
  exact (dats m 0 c).fetched_congr 8 e rfl (blk8 m c t)

theorem before13 (c : Dev nD) (t : Fin cfg0.N) (h : 16 ≤ t.val) (d) : (dats m 0 c).before 13 t d = (dats m 0 c).after 13 t := by
  have hN : t.val < 32 := Nat.lt_of_lt_of_eq t.isLt N_0
  rw [Dat.before_out_traj _ 13 rfl (fun _ _ => rfl) (fun t' _ hi _ => ?_) t.val t rfl d, if_neg]
  · rw [after13, after13, same8 m c _ t (show 15 ≤ t.val - 1 by omega) (by omega)]
  · rw [fresh13]
    exact (by decide +kernel : ∀ t : Fin grid0.N, 16 ≤ t.val → ¬freshMask t.val = true) t h
  · rw [idle13] at hi
    have : 16 ≤ t'.val := by simpa using hi
    rw [after13, after13, same8 m c ⟨t'.val - 1, by omega⟩ t' (show 15 ≤ t'.val - 1 by omega) (by omega)]

/-- What the body leaves in the block is what the pipeline is owed. -/
theorem leave13 (c : Dev nD) (t : Fin cfg0.N) (d) :
    owns (c : Thread nD τ) (win0_13.stage (cfg0.slots t 13)) fullShare
        (if k0_cond2 (grid0.coords t) = 1#1 then k0_pay4 (blk8 m c t) else (dats m 0 c).before 13 t d)
      ⊢ ((dats m 0 c).leavesExact 13 t : sProp 𝕄) := by
  unfold Dat.leavesExact
  by_cases h : t.val < 16
  · rw [if_pos ((casting_iff t).mpr h), idle13 t, decide_eq_true h, ← after13]
    exact .rfl
  · rw [if_neg (fun e => h ((casting_iff t).mp e)), idle13 t, decide_eq_false h]
    cases hf : (cfg0.win 13).flush t
    · show _ ⊢ iprop(∃ d, owns (c : Thread nD τ) (win0_13.stage (cfg0.slots t 13)) fullShare ((dats m 0 c).before 13 t d))
      iintro H
      iexists d
      iexact H
    · rw [before13 m c t (by omega) d]
      exact .rfl

theorem fresh14 (t : Fin cfg0.N) : cfg0.fresh 14 t.val = freshMask t.val :=
  Pipeline.Cfg.fresh_tab cfg0 14 freshMask rfl (by decide +kernel) t.val (Nat.le_of_lt t.isLt)

theorem idle14 (t : Fin cfg0.N) : cfg0.idle 14 (grid0.coords t) = !decide (t.val < 16) := by
  revert t; decide +kernel

/-- Past the casts the input block stays the last one. -/
theorem same9 (c : Dev nD) (t t' : Fin cfg0.N) (h : 15 ≤ t.val) (h' : 15 ≤ t'.val) : blk9 m c t = blk9 m c t' := by
  have e : (cfg0.win 9).index t = (cfg0.win 9).index t' :=
    (by decide +kernel : ∀ t t' : Fin grid0.N, 15 ≤ t.val → 15 ≤ t'.val → cc0_transform_9 (grid0.coords t) = cc0_transform_9 (grid0.coords t')) t t' h h'
  exact (dats m 0 c).fetched_congr 9 e rfl (blk9 m c t)

theorem before14 (c : Dev nD) (t : Fin cfg0.N) (h : 16 ≤ t.val) (d) : (dats m 0 c).before 14 t d = (dats m 0 c).after 14 t := by
  have hN : t.val < 32 := Nat.lt_of_lt_of_eq t.isLt N_0
  rw [Dat.before_out_traj _ 14 rfl (fun _ _ => rfl) (fun t' _ hi _ => ?_) t.val t rfl d, if_neg]
  · rw [after14, after14, same9 m c _ t (show 15 ≤ t.val - 1 by omega) (by omega)]
  · rw [fresh14]
    exact (by decide +kernel : ∀ t : Fin grid0.N, 16 ≤ t.val → ¬freshMask t.val = true) t h
  · rw [idle14] at hi
    have : 16 ≤ t'.val := by simpa using hi
    rw [after14, after14, same9 m c ⟨t'.val - 1, by omega⟩ t' (show 15 ≤ t'.val - 1 by omega) (by omega)]

/-- What the body leaves in the block is what the pipeline is owed. -/
theorem leave14 (c : Dev nD) (t : Fin cfg0.N) (d) :
    owns (c : Thread nD τ) (win0_14.stage (cfg0.slots t 14)) fullShare
        (if k0_cond2 (grid0.coords t) = 1#1 then k0_pay5 (blk9 m c t) else (dats m 0 c).before 14 t d)
      ⊢ ((dats m 0 c).leavesExact 14 t : sProp 𝕄) := by
  unfold Dat.leavesExact
  by_cases h : t.val < 16
  · rw [if_pos ((casting_iff t).mpr h), idle14 t, decide_eq_true h, ← after14]
    exact .rfl
  · rw [if_neg (fun e => h ((casting_iff t).mp e)), idle14 t, decide_eq_false h]
    cases hf : (cfg0.win 14).flush t
    · show _ ⊢ iprop(∃ d, owns (c : Thread nD τ) (win0_14.stage (cfg0.slots t 14)) fullShare ((dats m 0 c).before 14 t d))
      iintro H
      iexists d
      iexact H
    · rw [before14 m c t (by omega) d]
      exact .rfl

/-! ## The obligation at a point -/

theorem scratch_eq (c : Dev nD) :
    (Pipeline.ΦA spec0 c : sProp 𝕄)
      = iprop(iprop((∃ d, owns (c : Thread nD τ) (Memref.whole cc0_scratch0 : Memref sig .tc .vmem S512x2048 .bf16) fullShare d)) ∗ (∃ r, prngReg c r)) := by
  unfold Pipeline.ΦA; rw [scopedRest0_eq]; simp only [owns_whole]; try rfl

theorem live_leave (c : Dev nD) (w : Fin cfg0.W) (t : Fin cfg0.N) (h : cfg0.idle w (grid0.coords t) = false) :
    ((dats m 0 c).leavesExact w t : sProp 𝕄) = owns (c : Thread nD τ) ((cfg0.win w).stage (cfg0.slots t w)) fullShare ((dats m 0 c).after w t) := by
  unfold Dat.leavesExact; rw [h]

set_option maxHeartbeats 4000000 in
theorem point_run (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
    ⊢ wp frame (wpE (defs₀ (F := F)) Variants.none c none) Set.univ (bodyAt0 t) (fun _ =>
    iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)) := by
  unfold bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  rw [live_leave m c 0 t rfl, live_leave m c 1 t rfl, live_leave m c 2 t rfl, live_leave m c 3 t rfl, live_leave m c 4 t rfl, live_leave m c 5 t rfl, live_leave m c 6 t rfl, live_leave m c 7 t rfl, live_leave m c 8 t rfl, live_leave m c 9 t rfl, live_leave m c 10 t rfl, live_leave m c 11 t rfl]
  rw [after0, after1, after2, after3, after4, after5, after6, after7, after8, after9, after10, after11]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_spec c (grid0.coords t) _ _ _ _ _ _ _ _ _ _ _ _ _ _ _ _ _ _ _ _ _ _ _ _ _ _ _ _ _ _ _ _ (blk0 m c t) (blk1 m c t) (blk2 m c t) (blk3 m c t) (blk4 m c t) (blk5 m c t) (blk6 m c t) (blk7 m c t) (blk8 m c t) (blk9 m c t) ((dats m 0 c).before 11 t d11) ((dats m 0 c).before 12 t d12) ((dats m 0 c).before 13 t d13) ((dats m 0 c).before 14 t d14) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [HS]; · iexact HS
  rw [start_before m c t d11]
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (leave12 m c t d12); iexact H12
  isplitl [H13]; · iapply (leave13 m c t d13); iexact H13
  iapply (leave14 m c t d14); iexact H14

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as they began, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Layer
end
-- ==== Proof.Value.Blocks.lean ====
module

public import proofs.«01_k».proof.Proof.Value.Tile
public import proofs.«01_k».proof.Proof.Layer.Frame
public import Idealize.ShloMosaic.Lib.Pipeline.ValueKit.Geometry

@[expose] public section

set_option maxRecDepth 16384

noncomputable section

namespace Cert.KernelIdeal.Layer

open Cert.KernelIdeal.Gen Cert.Retention
open Idealize.ShloMosaic Idealize.ShloMosaic.TcCoe
open Idealize.ShloMosaic.Pipeline (Dat)

variable (m : (ℓ : Loc nD τ sig) → Buf (Elt Ideal) ℓ) (c : Dev nD)

/-! # The blocks of the launch, at their coordinates -/

/-- The arguments by coordinates. -/
def args : Args where
  x b t d := m ((c : Thread nD τ).loc main_arg0) (ix3 b t d)
  g d := m ((c : Thread nD τ).loc main_arg1) (ix2 0 d)
  w k n := m ((c : Thread nD τ).loc main_arg2) (ix3 0 k n)
  c t j := m ((c : Thread nD τ).loc main_arg3) (ix2 t j)
  s t j := m ((c : Thread nD τ).loc main_arg4) (ix2 t j)
  gn n := m ((c : Thread nD τ).loc main_arg5) (ix2 0 n)
  wo n d := m ((c : Thread nD τ).loc main_arg6) (ix3 0 n d)

/-- The sequence and the tile of a grid point. -/
def seqAt (t : Fin cfg0.N) : Fin 8 := ⟨t.val / 4, Nat.div_lt_of_lt_mul t.isLt⟩
def tileOf (t : Fin cfg0.N) : Fin 4 := ⟨t.val % 4, Nat.mod_lt _ (by decide)⟩

theorem idx0 : ∀ t : Fin cfg0.N, win0_0.index t = ![t.val / 4, t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![1, min t.val 15, 0] := (by decide +kernel : ∀ t : Fin grid0.N, _)
theorem idx8 : ∀ t : Fin cfg0.N, win0_8.index t = ![1, min t.val 15, 0] := (by decide +kernel : ∀ t : Fin grid0.N, _)
theorem idx9 : ∀ t : Fin cfg0.N, win0_9.index t = ![1, min t.val 15, 0] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, 0, 0, 0] := (by decide +kernel : ∀ t : Fin grid0.N, _)
theorem idx12 : ∀ t : Fin cfg0.N, win0_12.index t = ![0, min t.val 15, 0] := (by decide +kernel : ∀ t : Fin grid0.N, _)
theorem idx13 : ∀ t : Fin cfg0.N, win0_13.index t = ![0, min t.val 15, 0] := (by decide +kernel : ∀ t : Fin grid0.N, _)
theorem idx14 : ∀ t : Fin cfg0.N, win0_14.index t = ![0, min t.val 15, 0] := (by decide +kernel : ∀ t : Fin grid0.N, _)

theorem blk0_apply (t : Fin cfg0.N) (i : Fin 512) (d : Fin 1024) : blk0 m c t (ix3 0 i d) = (args m c).x (seqAt t) (tok (tileOf t) i) d := by
  unfold blk0
  blk_simp [iblk, args]
  refine congrArg _ ?_
  blk_ext [idx0, seqAt, tileOf, tok]

theorem blk1_apply (t : Fin cfg0.N) (d : Fin 1024) : blk1 m c t (ix2 0 d) = (args m c).g d := by
  unfold blk1
  blk_simp [iblk, args]
  refine congrArg _ ?_
  blk_ext [idx1, seqAt, tileOf, tok]

theorem blk2_apply (t : Fin cfg0.N) (k : Fin 1024) (n : Fin 6144) : blk2 m c t (ix3 0 k n) = (args m c).w k n := by
  unfold blk2
  blk_simp [iblk, args]
  refine congrArg _ ?_
  blk_ext [idx2, seqAt, tileOf, tok]

theorem blk3_apply (t : Fin cfg0.N) (i : Fin 512) (j : Fin 128) : blk3 m c t (ix2 i j) = (args m c).c (tok (tileOf t) i) j := by
  unfold blk3
  blk_simp [iblk, args]
  refine congrArg _ ?_
  blk_ext [idx3, seqAt, tileOf, tok]

theorem blk4_apply (t : Fin cfg0.N) (i : Fin 512) (j : Fin 128) : blk4 m c t (ix2 i j) = (args m c).s (tok (tileOf t) i) j := by
  unfold blk4
  blk_simp [iblk, args]
  refine congrArg _ ?_
  blk_ext [idx4, seqAt, tileOf, tok]

theorem blk5_apply (t : Fin cfg0.N) (n : Fin 2048) : blk5 m c t (ix2 0 n) = (args m c).gn n := by
  unfold blk5
  blk_simp [iblk, args]
  refine congrArg _ ?_
  blk_ext [idx5, seqAt, tileOf, tok]

theorem blk6_apply (t : Fin cfg0.N) (n : Fin 2048) (d : Fin 1024) : blk6 m c t (ix3 0 n d) = (args m c).wo n d := by
  unfold blk6
  blk_simp [iblk, args]
  refine congrArg _ ?_
  blk_ext [idx6, seqAt, tileOf, tok]

theorem reads (t : Fin cfg0.N) : Reads (args m c) (seqAt t) (tileOf t) (blk0 m c t) (blk1 m c t) (blk2 m c t) (blk3 m c t) (blk4 m c t) :=
  ⟨blk0_apply m c t, blk1_apply m c t, blk2_apply m c t, blk3_apply m c t, blk4_apply m c t⟩

/-! ## The state along the points -/

variable (hA : (args m c).Finite)
include hA

omit hA in
theorem entering_first (t : Fin cfg0.N) (ht : t.val % 4 = 0) (y : S1x4x256x512.Idx) : entering m c t y = 0 := by
  unfold entering start
  rw [if_pos ((reset_iff t).mpr ht)]
  unfold k0_pay2
  pointwise []

/-- Every point begins with the state before its first token. -/
theorem entering_apply (n : ℕ) : ∀ (hn : n < cfg0.N) (h : Fin 4) (d : Fin 256) (e : Fin 512),
    entering m c ⟨n, hn⟩ (ix4 0 h d e) = (args m c).stateTo (seqAt ⟨n, hn⟩) h (512 * (n % 4)) d e := by
  induction n with
  | zero =>
    intro hn h d e
    rw [entering_first m c _ rfl]; simp [Args.stateTo, stateAt_zero]
  | succ n ih =>
    intro hn h d e
    by_cases h4 : (n + 1) % 4 = 0
    · rw [entering_first m c _ h4, h4]; simp [Args.stateTo, stateAt_zero]
    · have hs : entering m c ⟨n + 1, hn⟩ = held m c (n + 1) (Nat.le_of_lt hn) := by
        unfold entering start
        rw [if_neg (fun e => h4 ((reset_iff ⟨n + 1, hn⟩).mp e))]
      have hn' : n < cfg0.N := Nat.lt_of_succ_lt hn
      rw [hs, show held m c (n + 1) (Nat.le_of_lt hn) = _ from held_succ m c ⟨n, hn'⟩]
      refine (sTile_apply hA (reads m c ⟨n, hn'⟩) (ih hn') h d e).trans ?_
      have hq : seqAt ⟨n, hn'⟩ = seqAt ⟨n + 1, hn⟩ := Fin.ext (by simp only [seqAt]; omega)
      rw [hq, show (tileOf ⟨n, hn'⟩).val + 1 = (n + 1) % 4 by simp only [tileOf]; omega]

/-- Every point leaves the state after its last token. -/
theorem held_apply (t : Fin cfg0.N) (h : Fin 4) (d : Fin 256) (e : Fin 512) :
    held m c (t.val + 1) t.isLt (ix4 0 h d e) = (args m c).stateTo (seqAt t) h (512 * (t.val % 4 + 1)) d e := by
  rw [held_succ]
  exact sTile_apply hA (reads m c t) (entering_apply m c hA t.val t.isLt) h d e

theorem tileAt_apply (t : Fin cfg0.N) (i : Fin 512) (d : Fin 1024) :
    tileAt m c t (ix3 0 i d) = (args m c).y (seqAt t) (tok (tileOf t) i) d :=
  yTile_apply hA (reads m c t) (entering_apply m c hA t.val t.isLt) (blk5_apply m c t) (blk6_apply m c t) i d

end Cert.KernelIdeal.Layer
end
-- ==== Proof.Value.Finite.lean ====
module

public import proofs.«01_k».proof.Defs
public import proofs.«01_k».proof.Proof.Value.Blocks
public import Idealize.ShloMosaic.Lib.ReduceAll
public import Idealize.ShloMosaic.Lib.Pointwise

@[expose] public section

set_option maxRecDepth 16384

noncomputable section

/-! # What the precondition says

`finite` compares the absolute value of every entry of five arguments with infinity. Read back, it says that those
entries are real numbers. -/

namespace Cert.Pre_finite

open Idealize.ShloMosaic Cert.Retention

theorem facts : Facts where
  bcast_S_S8x2048x1024 := by decide
  reducesTo_S8x2048x1024_S_d0_1_2 := by decide
  h_S_ := by decide
  bcast_S_S1x1024 := by decide
  reducesTo_S1x1024_S_d0_1 := by decide
  bitsLt_bf16_f32 := by decide
  bcast_S_S1x1024x6144 := by decide
  reducesTo_S1x1024x6144_S_d0_1_2 := by decide
  bcast_S_S2048x128 := by decide
  reducesTo_S2048x128_S_d0_1 := by decide

instance : Subsingleton S_.Idx := ⟨fun _ _ => funext fun i => i.elim0⟩

theorem infinity_word : Ideal.ofBits .f32 0x7F800000#32 = ⊤ := by simp [Ideal.ofBits, Ideal.ieee]

/-- An absolute value that compares below infinity belongs to a real number. -/
theorem isReal_of_cmp {x : EReal} (h : Ideal.cmp .olt (max x (-x)) ⊤ = 1#1) : IsReal x := by
  refine isReal_of_abs_lt ?_
  by_contra hn
  simp [Ideal.cmp, hn] at h

variable [Facts]
open Facts

/-- One conjunct of the precondition: all absolute values are below infinity. -/
theorem all_real {s : Shape} {axes : List (Fin s.rank)} (x : FVec Ideal s .f32) (hb : S_.BroadcastsInDim s (![] : Fin 0 → Fin s.rank))
    (hr : s.ReducesTo axes S_) (init : IVec S_ 1) (j : S_.Idx)
    (e : Host.reduce IntOp.andi (cmpf .olt (Host.absf x) (broadcastInDim s ![] hb (constant (F := Ideal) S_ .f32 0x7F800000#32))) init hr h_S_ j = 1#1)
    (i : s.Idx) : IsReal (x i) := by
  have h := Host.reduce_andi_all _ _ hr h_S_ j e i
  refine isReal_of_cmp (Eq.trans ?_ h)
  rw [← infinity_word]; rfl

/-- The precondition as five statements about entries. -/
theorem real_of_fn {x g w cs sn gn wo a b d} (e : fn (F := Ideal) x g w cs sn gn wo a b d = fun _ => 1#1) :
    (∀ i, IsReal (x i)) ∧ (∀ i, IsReal (g i)) ∧ (∀ i, IsReal (w i)) ∧ (∀ i, IsReal (cs i)) ∧ ∀ i, IsReal (sn i) := by
  have h := congrFun e (fun i => i.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real x _ _ _ _ h0, all_real g _ _ _ _ h1, all_real (extf .f32 w bitsLt_bf16_f32) _ _ _ _ h2, all_real cs _ _ _ _ h3, all_real sn _ _ _ _ h4⟩

end Cert.Pre_finite

namespace Cert.KernelIdeal.Layer

open Cert.KernelIdeal Cert.KernelIdeal.Gen Cert.Retention Idealize.ShloMosaic Idealize.SL.Sem

theorem finite_of_pre [Cert.Pre_finite.Facts] (m : (ℓ : Loc nD τ sig) → Buf (Elt Ideal) ℓ) (h : Cert.Pre_KernelIdeal_finite m) (c : Dev nD) :
    (args m c).Finite := by
  obtain ⟨hx, hg, hw, hc, hs⟩ := Cert.Pre_finite.real_of_fn (h c)
  exact ⟨fun _ _ _ => hx _, fun _ => hg _, fun _ _ => hw _, fun _ _ => hc _, fun _ _ => hs _⟩

end Cert.KernelIdeal.Layer
end
-- ==== Proof.Value.Final.lean ====
module

public import proofs.«01_k».proof.Proof.Value.Blocks

@[expose] public section

set_option maxRecDepth 16384

noncomputable section

namespace Cert.KernelIdeal.Layer

open Cert.KernelIdeal Cert.KernelIdeal.Gen Cert.Retention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! # The arrays after the run -/

theorem unit3 {a b : ℕ} (y : (⟨3, ![1, a, b]⟩ : Shape).Idx) : y = ix3 0 (y 1) (y 2) := by
  refine (ValueIdx.eq_ix3 y).trans ?_
  rw [show y 0 = (0 : Fin 1) from Subsingleton.elim (α := Fin 1) _ _]; rfl
theorem unit4 {a b d : ℕ} (y : (⟨4, ![1, a, b, d]⟩ : Shape).Idx) : y = ix4 0 (y 1) (y 2) (y 3) := by
  refine (ValueIdx.eq_ix4 y).trans ?_
  rw [show y 0 = (0 : Fin 1) from Subsingleton.elim (α := Fin 1) _ _]; rfl

/-- The rows out of the layer. -/
def finalY (A : Args) : Vec Ideal S8x2048x1024 .f32 := fun i => A.y (i 0) (i 1) (i 2)
/-- The states after the last token. -/
def finalS (A : Args) : Vec Ideal S8x4x256x512 .f32 := fun i => A.stateTo (i 0) (i 1) 2048 (i 2) (i 3)
/-- The second layer of a pair of weights, as a layer of its own. -/
def second1 (w : Vec Ideal S2x1024x2816 .f32) : Vec Ideal S1x1024x2816 .bf16 := fun i => w (ix3 1 (i 1) (i 2))
def second2 (w : Vec Ideal S2x2816x1024 .f32) : Vec Ideal S1x2816x1024 .bf16 := fun i => w (ix3 1 (i 1) (i 2))

section
variable (hA : (args m c).Finite)
include hA

theorem final10 : (dats m 0 c).arrAt 10 cfg0.N = finalY (args m c) := by
  refine (dats m 0 c).arrAt_eq_of_covers 10 _ (by decide +kernel) fun t hf y => ?_
  blk_simp
  rw [after10]
  refine (congrArg (tileAt m c t) (unit3 (a := 512) (b := 1024) y)).trans ((tileAt_apply m c hA t (y 1) (y 2)).trans ?_)
  unfold finalY
  congr 1 <;> (apply Fin.ext; blk_simp [idx10, seqAt, tileOf, tok])
  exact congrArg (· + _) (Nat.mul_comm _ _)

theorem final11 : (dats m 0 c).arrAt 11 cfg0.N = finalS (args m c) := by
  refine (dats m 0 c).arrAt_eq_of_covers 11 _ (by decide +kernel) fun t hf y => ?_
  blk_simp
  rw [after11]
  have ht : t.val % 4 = 3 := (flush0_11 t).mp hf
  refine (congrArg (held m c (t.val + 1) t.isLt) (unit4 (a := 4) (b := 256) (d := 512) y)).trans ((held_apply m c hA t (y 1) (y 2) (y 3)).trans ?_)
  rw [ht]
  unfold finalS
  congr 1 <;> (apply Fin.ext; blk_simp [idx11, seqAt])
end

theorem pay3_apply (v : Vec Ideal S1x64x2816 .f32) (i : Fin 64) (j : Fin 2816) : k0_pay3 v (ix3 0 i j) = v (ix3 0 i j) := by
  pointwise [k0_pay3]
theorem pay4_apply (v : Vec Ideal S1x64x2816 .f32) (i : Fin 64) (j : Fin 2816) : k0_pay4 v (ix3 0 i j) = v (ix3 0 i j) := by
  pointwise [k0_pay4]
theorem pay5_apply (v : Vec Ideal S1x176x1024 .f32) (i : Fin 176) (j : Fin 1024) : k0_pay5 v (ix3 0 i j) = v (ix3 0 i j) := by
  pointwise [k0_pay5]

theorem final12 : (dats m 0 c).arrAt 12 cfg0.N = second1 (m ((c : Thread nD τ).loc main_arg7)) := by
  refine (dats m 0 c).arrAt_eq_of_covers 12 _ (by decide +kernel) fun t hf y => ?_
  blk_simp
  rw [after12]
  refine (congrArg (k0_pay3 (blk7 m c t)) (unit3 (a := 64) (b := 2816) y)).trans ((pay3_apply _ (y 1) (y 2)).trans ?_)
  unfold blk7 second1
  blk_simp [iblk]
  refine congrArg _ ?_
  blk_ext [idx7, idx12]

theorem final13 : (dats m 0 c).arrAt 13 cfg0.N = second1 (m ((c : Thread nD τ).loc main_arg8)) := by
  refine (dats m 0 c).arrAt_eq_of_covers 13 _ (by decide +kernel) fun t hf y => ?_
  blk_simp
  rw [after13]
  refine (congrArg (k0_pay4 (blk8 m c t)) (unit3 (a := 64) (b := 2816) y)).trans ((pay4_apply _ (y 1) (y 2)).trans ?_)
  unfold blk8 second1
  blk_simp [iblk]
  refine congrArg _ ?_
  blk_ext [idx8, idx13]

theorem final14 : (dats m 0 c).arrAt 14 cfg0.N = second2 (m ((c : Thread nD τ).loc main_arg9)) := by
  refine (dats m 0 c).arrAt_eq_of_covers 14 _ (by decide +kernel) fun t hf y => ?_
  blk_simp
  rw [after14]
  refine (congrArg (k0_pay5 (blk9 m c t)) (unit3 (a := 176) (b := 1024) y)).trans ((pay5_apply _ (y 1) (y 2)).trans ?_)
  unfold blk9 second2
  blk_simp [iblk]
  refine congrArg _ ?_
  blk_ext [idx9, idx14]

/-- The run: what each result holds, and the arguments as they were. -/
theorem run (hA : ∀ c, (args m c).Finite) : θ_run defs (onTc (τ := τ) (main (F := Ideal))) ⟨m, fun _ => 0, ρ⟩ fun r => ∀ c : Dev nD,
      r.2.mem ((c.tc : Thread nD τ).loc main_v0_0) = finalY (args m c)
      ∧ r.2.mem ((c.tc : Thread nD τ).loc main_v0_1) = finalS (args m c)
      ∧ r.2.mem ((c.tc : Thread nD τ).loc main_v0_2) = second1 (m ((c.tc : Thread nD τ).loc main_arg7))
      ∧ r.2.mem ((c.tc : Thread nD τ).loc main_v0_3) = second1 (m ((c.tc : Thread nD τ).loc main_arg8))
      ∧ r.2.mem ((c.tc : Thread nD τ).loc main_v0_4) = second2 (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h.2.1 c).1 10).trans (final10 m c (hA c)), ((h.2.1 c).1 11).trans (final11 m c (hA c)), ((h.2.1 c).1 12).trans (final12 m c),
      ((h.2.1 c).1 13).trans (final13 m c), ((h.2.1 c).1 14).trans (final14 m c), h.1.1 c⟩)
    (θ_run_and (frame m ρ) (run_quiescent m ρ))

end Cert.KernelIdeal.Layer
end
-- ==== Proof.Value.Reference.lean ====
module

public import proofs.«01_k».proof.Proof.Gen.ReferenceIdeal.Run
public import proofs.«01_k».proof.Proof.Value.Tokens
public import proofs.«01_k».proof.Proof.Value.Weights
public import Idealize.ShloMosaic.Lib.Pointwise

@[expose] public section

set_option maxRecDepth 16384

noncomputable section

namespace Cert.ReferenceIdeal.Layer

open Cert.ReferenceIdeal Cert.ReferenceIdeal.Gen Cert.Retention
open Idealize.ShloMosaic Idealize.ShloMosaic.TcCoe Idealize.SL.Sem Idealize.ShloMosaic.StableHlo

/-! # The reference, stage by stage -/

section Stages

variable (x : FVec Ideal S8x2048x1024 .f32) (g : FVec Ideal S1x1024 .f32) (w : FVec Ideal S1x1024x6144 .bf16)
  (cs sn : FVec Ideal S2048x128 .f32) (gn : FVec Ideal S1x2048 .f32) (wo : FVec Ideal S1x2048x1024 .bf16)
  (hn : FVec Ideal S8x2048x1024 .f32) (z : FVec Ideal S8x2048x6144 .f32)
  (u q k : FVec Ideal S8x4x2048x256 .f32) (v o : FVec Ideal S8x4x2048x512 .f32)

/-- The normalised rows. -/
def normed : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))

/-- The projection. -/
def projected : FVec Ideal S8x2048x6144 .f32 :=
  Host.dotGeneral dot_S8x2048x1024_S1024x6144_S8x2048x6144_2_0_01_1_n_n none hn (extf .f32 (shapeCast _ w shapeCasts_S1x1024x6144_S1024x6144) bitsLt_bf16_f32)

/-- The heads' columns: queries and keys before the rotation, and values. -/
def queriesOf : FVec Ideal S8x4x2048x256 .f32 :=
  transpose S8x4x2048x256 [0, 2, 1, 3] (shapeCast _ (extractStridedSlice S8x2048x1024 ![0, 0, 0] z slices_S8x2048x6144_S8x2048x1024_0_0_0) shapeCasts_S8x2048x1024_S8x2048x4x256) transposes_S8x2048x4x256_S8x4x2048x256_0_2_1_3
def keysOf : FVec Ideal S8x4x2048x256 .f32 :=
  transpose S8x4x2048x256 [0, 2, 1, 3] (shapeCast _ (extractStridedSlice S8x2048x1024 ![0, 0, 1024] z slices_S8x2048x6144_S8x2048x1024_0_0_1024) shapeCasts_S8x2048x1024_S8x2048x4x256) transposes_S8x2048x4x256_S8x4x2048x256_0_2_1_3
def valuesOf : FVec Ideal S8x4x2048x512 .f32 :=
  transpose S8x4x2048x512 [0, 2, 1, 3] (shapeCast _ (extractStridedSlice S8x2048x2048 ![0, 0, 2048] z slices_S8x2048x6144_S8x2048x2048_0_0_2048) shapeCasts_S8x2048x2048_S8x2048x4x512) transposes_S8x2048x4x512_S8x4x2048x512_0_2_1_3
def gatesOf : FVec Ideal S8x2048x2048 .f32 := extractStridedSlice S8x2048x2048 ![0, 0, 4096] z slices_S8x2048x6144_S8x2048x2048_0_0_4096

/-- A rotary table for every sequence and head. -/
def table : FVec Ideal S8x4x2048x128 .f32 :=
  broadcastInDim S8x4x2048x128 ![0, 1, 2, 3] bcast_S1x1x2048x128_S8x4x2048x128_0_1_2_3 (broadcastInDim S1x1x2048x128 ![2, 3] bcast_S2048x128_S1x1x2048x128_2_3 cs)
/-- The rotation. -/
def rotated : FVec Ideal S8x4x2048x256 .f32 :=
  concatenate S8x4x2048x256 3 [⟨S8x4x2048x128, (subf (mulf (extractStridedSlice S8x4x2048x128 ![0, 0, 0, 0] u slices_S8x4x2048x256_S8x4x2048x128_0_0_0_0) (table cs)) (mulf (extractStridedSlice S8x4x2048x128 ![0, 0, 0, 128] u slices_S8x4x2048x256_S8x4x2048x128_0_0_0_128) (table sn)))⟩, ⟨S8x4x2048x128, (addf (mulf (extractStridedSlice S8x4x2048x128 ![0, 0, 0, 0] u slices_S8x4x2048x256_S8x4x2048x128_0_0_0_0) (table sn)) (mulf (extractStridedSlice S8x4x2048x128 ![0, 0, 0, 128] u slices_S8x4x2048x256_S8x4x2048x128_0_0_0_128) (table cs)))⟩] concatenates_S8x4x2048x128_S8x4x2048x128_S8x4x2048x256_d3
/-- The scaled keys. -/
def scaled : FVec Ideal S8x4x2048x256 .f32 := mulf u (broadcastInDim S8x4x2048x256 ![] bcast_S_S8x4x2048x256 (constant S_ .f32 0x3D800000#32))

/-- The logarithms of the heads' decays. -/
def logDecay : FVec Ideal S4 .f32 :=
  Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))
/-- How many tokens lie between two positions. -/
def distance : FVec Ideal S2048x2048 .f32 :=
  subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))
/-- The causal decay. -/
def decay : FVec Ideal S4x2048x2048 .f32 :=
  select (broadcastInDim S4x2048x2048 ![0, 1, 2] bcast_S1x2048x2048_S4x2048x2048_0_1_2 (cmpf .oge (broadcastInDim S1x2048x2048 ![1, 2] bcast_S2048x2048_S1x2048x2048_1_2 distance) (broadcastInDim S1x2048x2048 ![] bcast_S_S1x2048x2048 (constant S_ .f32 0x00000000#32)))) (Host.exp (mulf (broadcastInDim S4x2048x2048 ![0, 1, 2] bcast_S1x2048x2048_S4x2048x2048_0_1_2 (broadcastInDim S1x2048x2048 ![1, 2] bcast_S2048x2048_S1x2048x2048_1_2 (maximumf distance (broadcastInDim S2048x2048 ![] bcast_S_S2048x2048 (constant S_ .f32 0x00000000#32))))) (broadcastInDim S4x2048x2048 ![0, 1, 2] bcast_S4x1x1_S4x2048x2048_0_1_2 (broadcastInDim S4x1x1 ![0] bcast_S4_S4x1x1_0 logDecay)))) (broadcastInDim S4x2048x2048 ![] bcast_S_S4x2048x2048 (id (constant S_ .f32 0x00000000#32)))
/-- The retention's outputs. -/
def retained : FVec Ideal S8x4x2048x512 .f32 :=
  Host.dotGeneral dot_S8x4x2048x2048_S8x4x2048x512_S8x4x2048x512_3_2_2_3_01_01 none (mulf (Host.dotGeneral dot_S8x4x2048x256_S8x4x2048x256_S8x4x2048x2048_3_3_2_2_01_01 none q k) (broadcastInDim S8x4x2048x2048 ![0, 1, 2, 3] bcast_S1x4x2048x2048_S8x4x2048x2048_0_1_2_3 (broadcastInDim S1x4x2048x2048 ![1, 2, 3] bcast_S4x2048x2048_S1x4x2048x2048_1_2_3 decay))) v
/-- The decay from a token to the last. -/
def age : FVec Ideal S4x2048 .f32 :=
  Host.exp (mulf (broadcastInDim S4x2048 ![0, 1] bcast_S1x2048_S4x2048_0_1 (subf (broadcastInDim S1x2048 ![] bcast_S_S1x2048 (constant S_ .f32 0x44FFE000#32)) (broadcastInDim S1x2048 ![1] bcast_S2048_S1x2048_1 (sitofp .f32 (iotaInDim S2048 32 0))))) (broadcastInDim S4x2048 ![0, 1] bcast_S4x1_S4x2048_0_1 (broadcastInDim S4x1 ![0] bcast_S4_S4x1_0 logDecay)))
/-- The state after the last token. -/
def lastState : FVec Ideal S8x4x256x512 .f32 :=
  Host.dotGeneral dot_S8x4x2048x256_S8x4x2048x512_S8x4x256x512_2_2_3_3_01_01 none (mulf k (broadcastInDim S8x4x2048x256 ![0, 1, 2, 3] bcast_S1x4x2048x1_S8x4x2048x256_0_1_2_3 (broadcastInDim S1x4x2048x1 ![1, 2, 3] bcast_S4x2048x1_S1x4x2048x1_1_2_3 (broadcastInDim S4x2048x1 ![0, 1] bcast_S4x2048_S4x2048x1_0_1 age)))) v
/-- A head's mean at a token, and the outputs without it. -/
def meanOf : FVec Ideal S8x4x2048x1 .f32 :=
  Host.divf (broadcastInDim S8x4x2048x1 ![0, 1, 2] bcast_S8x4x2048_S8x4x2048x1_0_1_2 (Host.reduceAdd o (constant S_ .f32 0x00000000#32) reducesTo_S8x4x2048x512_S8x4x2048_d3 h_S_)) (broadcastInDim S8x4x2048x1 ![] bcast_S_S8x4x2048x1 (constant S_ .f32 0x44000000#32))
def centred : FVec Ideal S8x4x2048x512 .f32 := subf o (broadcastInDim S8x4x2048x512 ![0, 1, 2, 3] bcast_S8x4x2048x1_S8x4x2048x512_0_1_2_3 (meanOf o))
/-- The outputs normalised over each head. -/
def grouped : FVec Ideal S8x4x2048x512 .f32 :=
  mulf (centred o) (broadcastInDim S8x4x2048x512 ![0, 1, 2, 3] bcast_S8x4x2048x1_S8x4x2048x512_0_1_2_3 (Host.rsqrt (addf (meanOf (mulf (centred o) (centred o))) (broadcastInDim S8x4x2048x1 ![] bcast_S_S8x4x2048x1 (constant S_ .f32 0x358637BD#32)))))
/-- The gated heads side by side. -/
def gated (r : FVec Ideal S8x2048x2048 .f32) : FVec Ideal S8x2048x2048 .f32 :=
  mulf (mulf r (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf r))))) (mulf (shapeCast _ (transpose S8x2048x4x512 [0, 2, 1, 3] (grouped o) transposes_S8x4x2048x512_S8x2048x4x512_0_2_1_3) shapeCasts_S8x2048x4x512_S8x2048x2048) (broadcastInDim S8x2048x2048 ![0, 1, 2] bcast_S1x1x2048_S8x2048x2048_0_1_2 (broadcastInDim S1x1x2048 ![1, 2] bcast_S1x2048_S1x1x2048_1_2 gn)))
/-- The rows out. -/
def rowsOut (a : FVec Ideal S8x2048x2048 .f32) : FVec Ideal S8x2048x1024 .f32 :=
  addf x (Host.dotGeneral dot_S8x2048x2048_S2048x1024_S8x2048x1024_2_0_01_1_n_n none a (extf .f32 (shapeCast _ wo shapeCasts_S1x2048x1024_S2048x1024) bitsLt_bf16_f32))

end Stages

variable (m : (ℓ : Loc nD τ sig) → Buf (Elt Ideal) ℓ) (c : Dev nD)

abbrev zOf : FVec Ideal S8x2048x6144 .f32 :=
  projected (m ((c.tc : Thread nD τ).loc main_arg2)) (normed (m ((c.tc : Thread nD τ).loc main_arg0)) (m ((c.tc : Thread nD τ).loc main_arg1)))
abbrev qOf : FVec Ideal S8x4x2048x256 .f32 :=
  rotated (m ((c.tc : Thread nD τ).loc main_arg3)) (m ((c.tc : Thread nD τ).loc main_arg4)) (queriesOf (zOf m c))
abbrev kOf : FVec Ideal S8x4x2048x256 .f32 :=
  scaled (rotated (m ((c.tc : Thread nD τ).loc main_arg3)) (m ((c.tc : Thread nD τ).loc main_arg4)) (keysOf (zOf m c)))

theorem state_eq : Value.res_main_v105 m c = lastState (kOf m c) (valuesOf (zOf m c)) := rfl

theorem rows_eq : Value.res_main_v134 m c
    = rowsOut (m ((c.tc : Thread nD τ).loc main_arg0)) (m ((c.tc : Thread nD τ).loc main_arg6))
        (gated (m ((c.tc : Thread nD τ).loc main_arg5)) (retained (qOf m c) (kOf m c) (valuesOf (zOf m c))) (gatesOf (zOf m c))) := rfl

section Values
variable (x : FVec Ideal S8x2048x1024 .f32) (g : FVec Ideal S1x1024 .f32) (w : FVec Ideal S1x1024x6144 .bf16)
  (cs sn : FVec Ideal S2048x128 .f32) (gn : FVec Ideal S1x2048 .f32) (wo : FVec Ideal S1x2048x1024 .bf16)
  (hn : FVec Ideal S8x2048x1024 .f32) (z : FVec Ideal S8x2048x6144 .f32)
  (u q k : FVec Ideal S8x4x2048x256 .f32) (v o : FVec Ideal S8x4x2048x512 .f32)

theorem normed_apply (b : Fin 8) (t : Fin 2048) (d : Fin 1024) :
    normed x g (ix3 b t d) = hnRow (fun d => x (ix3 b t d)) (fun d => g (ix2 0 d)) d := by
  pointwise [normed, hnRow, eps]
theorem projected_apply (b : Fin 8) (t : Fin 2048) (n : Fin 6144) :
    projected w hn (ix3 b t n) = projRow (fun d => hn (ix3 b t d)) (fun d n => w (ix3 0 d n)) n := by
  pointwise [projected, projRow]
theorem queriesOf_apply (b : Fin 8) (h : Fin 4) (t : Fin 2048) (d : Fin 256) :
    queriesOf z (ix4 b h t d) = z (ix3 b t (qCol h d)) := by
  pointwise [queriesOf, qCol]
  exact congrArg (fun n => z (ix3 b t n)) (Fin.ext (by simp only; omega))
theorem keysOf_apply (b : Fin 8) (h : Fin 4) (t : Fin 2048) (d : Fin 256) :
    keysOf z (ix4 b h t d) = z (ix3 b t (kCol h d)) := by
  pointwise [keysOf, kCol]
  exact congrArg (fun n => z (ix3 b t n)) (Fin.ext (by simp only; omega))
theorem valuesOf_apply (b : Fin 8) (h : Fin 4) (t : Fin 2048) (e : Fin 512) :
    valuesOf z (ix4 b h t e) = z (ix3 b t (vCol h e)) := by
  pointwise [valuesOf, vCol]
  exact congrArg (fun n => z (ix3 b t n)) (Fin.ext (by simp only; omega))
theorem gatesOf_apply (b : Fin 8) (t : Fin 2048) (n : Fin 2048) :
    gatesOf z (ix3 b t n) = z (ix3 b t (gCol ⟨n.val / 512, by omega⟩ ⟨n.val % 512, by omega⟩)) := by
  pointwise [gatesOf, gCol]
  exact congrArg (fun n => z (ix3 b t n)) (Fin.ext (by simp only; omega))
theorem rotated_apply (b : Fin 8) (h : Fin 4) (t : Fin 2048) (d : Fin 256) :
    rotated cs sn u (ix4 b h t d) = rot (fun d => u (ix4 b h t d)) (fun j => cs (ix2 t j)) (fun j => sn (ix2 t j)) d := by
  pointwise [rotated, table, rot]
theorem scaled_apply (b : Fin 8) (h : Fin 4) (t : Fin 2048) (d : Fin 256) :
    scaled u (ix4 b h t d) = u (ix4 b h t d) * Ideal.ofBits .f32 0x3D800000#32 := by
  pointwise [scaled]
theorem logDecay_apply (h : Fin 4) : logDecay (ix1 h) = ((Real.log (gam h) : ℝ) : EReal) := by
  pointwise [logDecay]
  rw [sitofp_coord _ (by omega), show Ideal.ofBits .f32 0x40000000#32 = ((2 : ℝ) : EReal) by
    simp [Ideal.ofBits, Ideal.ieee, -EReal.coe_mul]; norm_num, show Ideal.ofBits .f32 0xC0A00000#32 = ((-5 : ℝ) : EReal) by
    simp [Ideal.ofBits, Ideal.ieee, -EReal.coe_mul]; norm_num, ← EReal.coe_sub]
  have hp : Ideal.pow ((2 : ℝ) : EReal) ((-5 - (h.val : ℝ) : ℝ) : EReal) = ((1 - gam h : ℝ) : EReal) := by
    refine congrArg Real.toEReal ?_
    show (2 : ℝ) ^ (-5 - (h.val : ℝ)) = _
    rw [show -5 - (h.val : ℝ) = ((-5 - (h.val : ℤ) : ℤ) : ℝ) by push_cast; rfl, Real.rpow_intCast]
    fin_cases h <;> norm_num [gam]
  rw [hp, ← EReal.coe_one, ← EReal.coe_sub, sub_sub_cancel]
  exact if_neg (not_le.2 (gam_pos h))
theorem distance_apply (i j : Fin 2048) : distance (ix2 i j)
    = ((FloatOps.sitofp .f32 (BitVec.ofNat 32 i.val) : Ideal .f32) : EReal) - ((FloatOps.sitofp .f32 (BitVec.ofNat 32 j.val) : Ideal .f32) : EReal) := by
  pointwise [distance]
theorem decay_apply (h : Fin 4) (i j : Fin 2048) : decay (ix3 h i j) = ((weight (gam h) i j : ℝ) : EReal) := by
  pointwise [decay]
  simp only [distance_apply, logDecay_apply]
  rw [sitofp_coord _ i.isLt, sitofp_coord _ j.isLt, ← EReal.coe_sub, ← masked_exp (gam_pos h)]
  refine if_congr Iff.rfl rfl ?_
  pointwise [id]
theorem age_apply (h : Fin 4) (t : Fin 2048) : age (ix2 h t) = ((gam h ^ (2048 - 1 - t.val) : ℝ) : EReal) := by
  pointwise [age]
  simp only [logDecay_apply]
  rw [sitofp_coord _ t.isLt, show Ideal.ofBits .f32 0x44FFE000#32 = (((2047 : ℕ) : ℝ) : EReal) by
    simp [Ideal.ofBits, Ideal.ieee, -EReal.coe_mul]; norm_num, exp_age (gam_pos h) _ _ (by omega)]
theorem retained_apply (b : Fin 8) (h : Fin 4) (t : Fin 2048) (e : Fin 512) : retained q k v (ix4 b h t e)
    = ∑ s : Fin 2048, ((∑ d : Fin 256, q (ix4 b h t d) * k (ix4 b h s d)) * decay (ix3 h t s)) * v (ix4 b h s e) := by
  pointwise [retained]
theorem lastState_apply (b : Fin 8) (h : Fin 4) (d : Fin 256) (e : Fin 512) : lastState k v (ix4 b h d e)
    = ∑ s : Fin 2048, (k (ix4 b h s d) * age (ix2 h s)) * v (ix4 b h s e) := by
  pointwise [lastState]
theorem meanOf_apply (b : Fin 8) (h : Fin 4) (t : Fin 2048) : meanOf o (ix4 b h t 0)
    = Ideal.div (∑ k : Fin 512, o (ix4 b h t k)) (Ideal.ofBits .f32 0x44000000#32) := by
  pointwise [meanOf]
theorem centred_apply (b : Fin 8) (h : Fin 4) (t : Fin 2048) (e : Fin 512) : centred o (ix4 b h t e)
    = o (ix4 b h t e) - meanOf o (ix4 b h t 0) := by
  pointwise [centred]
theorem grouped_apply (b : Fin 8) (h : Fin 4) (t : Fin 2048) (e : Fin 512) : grouped o (ix4 b h t e)
    = centred o (ix4 b h t e) * Ideal.rsqrt (meanOf (mulf (centred o) (centred o)) (ix4 b h t 0) + eps) := by
  pointwise [grouped, eps]
theorem gated_apply (r : FVec Ideal S8x2048x2048 .f32) (b : Fin 8) (t : Fin 2048) (n : Fin 2048) : gated gn o r (ix3 b t n)
    = (r (ix3 b t n) * Ideal.logistic (r (ix3 b t n)))
      * (grouped o (ix4 b ⟨n.val / 512, by omega⟩ t ⟨n.val % 512, by omega⟩) * gn (ix2 0 n)) := by
  pointwise [gated]
  rfl
theorem rowsOut_apply (a : FVec Ideal S8x2048x2048 .f32) (b : Fin 8) (t : Fin 2048) (d : Fin 1024) : rowsOut x wo a (ix3 b t d)
    = yRow (fun d => x (ix3 b t d)) (fun n => a (ix3 b t n)) (fun n d => wo (ix3 0 n d)) d := by
  pointwise [rowsOut, yRow]
end Values

/-! ## The stages at the arguments -/

/-- The arguments by coordinates. -/
def args : Args where
  x b t d := m ((c.tc : Thread nD τ).loc main_arg0) (ix3 b t d)
  g d := m ((c.tc : Thread nD τ).loc main_arg1) (ix2 0 d)
  w k n := m ((c.tc : Thread nD τ).loc main_arg2) (ix3 0 k n)
  c t j := m ((c.tc : Thread nD τ).loc main_arg3) (ix2 t j)
  s t j := m ((c.tc : Thread nD τ).loc main_arg4) (ix2 t j)
  gn n := m ((c.tc : Thread nD τ).loc main_arg5) (ix2 0 n)
  wo n d := m ((c.tc : Thread nD τ).loc main_arg6) (ix3 0 n d)

theorem zOf_apply (b : Fin 8) (t : Fin 2048) (n : Fin 6144) : zOf m c (ix3 b t n) = (args m c).z b t n := by
  refine (projected_apply _ _ b t n).trans ?_; simp only [normed_apply]; rfl
theorem qOf_apply (b : Fin 8) (h : Fin 4) (t : Fin 2048) (d : Fin 256) : qOf m c (ix4 b h t d) = (args m c).q b h t d := by
  refine (rotated_apply _ _ _ b h t d).trans ?_; simp only [queriesOf_apply, zOf_apply]; rfl
theorem kOf_apply (b : Fin 8) (h : Fin 4) (t : Fin 2048) (d : Fin 256) : kOf m c (ix4 b h t d) = (args m c).k b h t d := by
  refine (scaled_apply _ b h t d).trans ?_; rw [rotated_apply]; simp only [keysOf_apply, zOf_apply]; rfl
theorem vOf_apply (b : Fin 8) (h : Fin 4) (t : Fin 2048) (e : Fin 512) : valuesOf (zOf m c) (ix4 b h t e) = (args m c).v b h t e := by
  rw [valuesOf_apply, zOf_apply]; rfl

variable (hA : (args m c).Finite)
include hA

/-- The parallel form is the retention sum. -/
theorem retainedOf_apply (b : Fin 8) (h : Fin 4) (t : Fin 2048) (e : Fin 512) :
    retained (qOf m c) (kOf m c) (valuesOf (zOf m c)) (ix4 b h t e) = (args m c).out b h t.val e := by
  rw [retained_apply, Args.out, outAt_full _ _ _ 2048 _ t.isLt, coe_sum]
  refine Finset.sum_congr rfl fun s _ => ?_
  rw [EReal.coe_mul, EReal.coe_mul, coe_sum, vOf_apply, decay_apply, ← Args.vSeq_eq b h hA]
  refine congrArg (· * _) (congrArg (· * _) (Finset.sum_congr rfl fun d _ => ?_))
  rw [qOf_apply, kOf_apply, EReal.coe_mul, Args.qSeq_eq b h hA, Args.kSeq_eq b h hA]

theorem stateOf_apply (b : Fin 8) (h : Fin 4) (d : Fin 256) (e : Fin 512) :
    Value.res_main_v105 m c (ix4 b h d e) = (args m c).stateTo b h 2048 d e := by
  refine (lastState_apply (kOf m c) (valuesOf (zOf m c)) b h d e).trans ?_
  rw [Args.stateTo, stateAt_full, coe_sum]
  refine Finset.sum_congr rfl fun s _ => ?_
  rw [EReal.coe_mul, EReal.coe_mul, vOf_apply, kOf_apply, age_apply, Args.vSeq_eq b h hA, Args.kSeq_eq b h hA]

theorem rowsOf_apply (b : Fin 8) (t : Fin 2048) (d : Fin 1024) :
    Value.res_main_v134 m c (ix3 b t d) = (args m c).y b t d := by
  refine (congrFun (rows_eq m c) _).trans ((rowsOut_apply _ _ _ b t d).trans ?_)
  have ha : ∀ n : Fin 2048, gated (m ((c.tc : Thread nD τ).loc main_arg5)) (retained (qOf m c) (kOf m c) (valuesOf (zOf m c)))
      (gatesOf (zOf m c)) (ix3 b t n) = (args m c).act b t n := fun n => by
    have hm : ∀ y, mulf (centred (retained (qOf m c) (kOf m c) (valuesOf (zOf m c)))) (centred (retained (qOf m c) (kOf m c) (valuesOf (zOf m c)))) y
        = centred (retained (qOf m c) (kOf m c) (valuesOf (zOf m c))) y * centred (retained (qOf m c) (kOf m c) (valuesOf (zOf m c))) y := fun _ => rfl
    rw [gated_apply, grouped_apply, gatesOf_apply]
    simp only [meanOf_apply, hm, centred_apply, retainedOf_apply m c hA, zOf_apply]
    have hn : n = ⟨512 * (n.val / 512) + n.val % 512, by omega⟩ := Fin.ext (by simp only; omega)
    unfold Args.act headRow
    refine congrArg₂ (· * ·) rfl (congrArg₂ (· * ·) rfl ?_)
    exact congrArg (fun n => m ((c.tc : Thread nD τ).loc main_arg5) (ix2 0 n)) hn
  simp only [ha]; rfl

end Cert.ReferenceIdeal.Layer
end
-- ==== Proof.Layer.Words.lean ====
module

public import proofs.«01_k».proof.Defs
public import proofs.«01_k».proof.Proof.Layer.Frame
public import proofs.«01_k».proof.Proof.Gen.Kernel

@[expose] public section

set_option maxRecDepth 16384

noncomputable section

/-! # The kernel over words

The kernel is the ideal kernel's program with each named constant read as its word, so the frame proved of that program for every
kind of float is the kernel's. -/

namespace Cert.Kernel.Layer

open Idealize.ShloMosaic Idealize.SL.Sem

/-- Over words, a named constant is its word. -/
local instance : Named Bits where
  named _ _ {φ} bits := FloatOps.ofBits (F := Bits) φ bits

attribute [local instance] Cert.Kernel.Gen.facts Cert.KernelIdeal.Gen.facts

theorem body_eq : @Cert.Kernel.cc0_ret_layer_seq Bits _ _ = @Cert.KernelIdeal.cc0_ret_layer_seq Bits _ _ _ := rfl

set_option maxHeartbeats 4000000 in
theorem defs₀_eq : @Cert.Kernel.defs₀ Bits _ _ = @Cert.KernelIdeal.defs₀ Bits _ _ _ := by
  refine congrArg Defs.onTc ?_
  funext ℓ a
  match ℓ, a with
  | (0 : Fin 1), (t, s) =>
    dsimp only
    rw [body_eq]
    rfl
theorem defs_eq : @Cert.Kernel.defs Bits _ _ = @Cert.KernelIdeal.defs Bits _ _ _ := by
  refine congrArg (Pipeline.defs Cert.Kernel.pcfgs) defs₀_eq
theorem main_eq : @Cert.Kernel.main Bits _ = @Cert.KernelIdeal.main Bits _ := rfl
theorem frame : Cert.quiescent_Kernel := fun m ρ _ => by
  have h := Cert.KernelIdeal.Layer.frame (F := Bits) m ρ
  rw [← defs_eq] at h
  exact h

end Cert.Kernel.Layer
end
-- ==== Proof.Value.Claims.lean ====
module

public import proofs.«01_k».proof.Defs
public import proofs.«01_k».proof.Proof.Value.Finite
public import proofs.«01_k».proof.Proof.Value.Final
public import proofs.«01_k».proof.Proof.Value.Reference
public import proofs.«01_k».proof.Proof.Gen.Kernel
public import proofs.«01_k».proof.Proof.Layer.Words
public import Idealize.ShloMosaic.Lib.Quiescent

@[expose] public section

set_option maxRecDepth 16384

noncomputable section

/-! # The claims of the retention layer

The kernel's run and the reference's both end at `finalY`, `finalS` and the second layer's weights. -/

namespace Cert.Retention.Claims

open Idealize.ShloMosaic Idealize.SL.Sem Cert.Retention Cert.KernelIdeal.Layer

attribute [local instance] Cert.Pre_finite.facts

theorem kernel : Cert.quiescent_Kernel := Cert.Kernel.Layer.frame
theorem kernelIdeal : Cert.quiescent_KernelIdeal := fun m ρ _ => Cert.KernelIdeal.Layer.frame m ρ
theorem kernelIdealPre : Cert.quiescent_KernelIdeal_pre_finite := fun m ρ _ => Cert.KernelIdeal.Layer.frame m ρ
theorem referenceIdeal : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)
theorem referenceIdealPre : Cert.quiescent_ReferenceIdeal_pre_finite := fun m ρ _ => referenceIdeal m ρ trivial

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

open Cert.KernelIdeal in
/-- The reference's cut and cast of a pair of weights keeps the second. -/
theorem cut1 (w : FVec Ideal S2x1024x2816 .f32) (hs hb) :
    truncf (F := Ideal) .bf16 (extractStridedSlice Cert.ReferenceIdeal.S1x1024x2816 ![1, 0, 0] w hs) hb = (second1 w : FVec Ideal Cert.ReferenceIdeal.S1x1024x2816 .bf16) := by
  funext i; rw [unit3 (a := 1024) (b := 2816) i]; unfold second1; pointwise []
open Cert.KernelIdeal in
theorem cut2 (w : FVec Ideal S2x2816x1024 .f32) (hs hb) :
    truncf (F := Ideal) .bf16 (extractStridedSlice Cert.ReferenceIdeal.S1x2816x1024 ![1, 0, 0] w hs) hb = (second2 w : FVec Ideal Cert.ReferenceIdeal.S1x2816x1024 .bf16) := by
  funext i; rw [unit3 (a := 2816) (b := 1024) i]; unfold second2; pointwise []

theorem algebraic : Cert.algebraic_KernelIdeal_ReferenceIdeal_pre_finite := by
  intro m ρ m' ρ' hpre hagree
  have hA := finite_of_pre m hpre
  have e : ∀ c, Cert.ReferenceIdeal.Layer.args m' c = args m c := fun c => by
    obtain ⟨h0, h1, h2, h3, h4, h5, h6, -⟩ := hagree c
    unfold Cert.ReferenceIdeal.Layer.args args
    congr 1
    · funext b t d; exact congrFun h0 _
    · funext d; exact congrFun h1 _
    · funext k n; exact congrFun h2 _
    · funext t j; exact congrFun h3 _
    · funext t j; exact congrFun h4 _
    · funext n; exact congrFun h5 _
    · funext n d; exact congrFun h6 _
  have hR : ∀ c, (Cert.ReferenceIdeal.Layer.args m' c).Finite := fun c => (e c).symm ▸ hA c
  refine ⟨fun c => finalY (args m c), fun c => finalS (args m c), fun c => second1 (m ((c.tc : Thread _ _).loc Cert.KernelIdeal.main_arg7)),
    fun c => second1 (m ((c.tc : Thread _ _).loc Cert.KernelIdeal.main_arg8)), fun c => second2 (m ((c.tc : Thread _ _).loc Cert.KernelIdeal.main_arg9)),
    run m ρ hA, ?_⟩
  refine (θ_run Cert.ReferenceIdeal.defs _ _).mono (fun _ h c => ?_) (Cert.ReferenceIdeal.Value.run (F := Ideal) m' ρ')
  obtain ⟨-, -, -, -, -, -, -, h7, h8, h9⟩ := hagree c
  refine ⟨(h c).1.trans ?_, (h c).2.1.trans ?_, (h c).2.2.1.trans ((cut1 _ _ _).trans (congrArg second1 h7)),
    (h c).2.2.2.1.trans ((cut1 _ _ _).trans (congrArg second1 h8)), (h c).2.2.2.2.1.trans ((cut2 _ _ _).trans (congrArg second2 h9)),
    (h c).2.2.2.2.2⟩
  · funext i
    refine (congrArg _ (ValueIdx.eq_ix3 i)).trans ((Cert.ReferenceIdeal.Layer.rowsOf_apply m' c (hR c) (i 0) (i 1) (i 2)).trans ?_)
    rw [e c]; rfl
  · funext i
    refine (congrArg _ (ValueIdx.eq_ix4 i)).trans ((Cert.ReferenceIdeal.Layer.stateOf_apply m' c (hR c) (i 0) (i 1) (i 2) (i 3)).trans ?_)
    rw [e c]; rfl

end Cert.Retention.Claims
end
-- ==== Proof.Ffn.Rows.lean ====
module

public import proofs.«01_k».proof.Proof.Value.Rows

@[expose] public section

noncomputable section

namespace Cert.Ffn

open Idealize.ShloMosaic Cert.Retention

/-! # One token's row through the feed-forward layer and the last norm

Each function takes one token's row as a function of its coordinate. Both programs compute these. -/

/-- The gated hidden row: the gate's projection times its own logistic, times the other projection. -/
def hidden (h : Fin 1024 → EReal) (wg wu : Fin 1024 → Fin 2816 → EReal) (n : Fin 2816) : EReal :=
  (∑ k : Fin 1024, h k * wg k n) * Ideal.logistic (∑ k : Fin 1024, h k * wg k n) * ∑ k : Fin 1024, h k * wu k n

/-- The row out: the layer's row, normalised once more. -/
def outRow (x g : Fin 1024 → EReal) (wg wu : Fin 1024 → Fin 2816 → EReal) (wd : Fin 2816 → Fin 1024 → EReal)
    (fin : Fin 1024 → EReal) : Fin 1024 → EReal :=
  hnRow (fun d => x d + ∑ n : Fin 2816, hidden (hnRow x g) wg wu n * wd n d) fin

end Cert.Ffn
end
-- ==== Proof.Ffn.Tile.lean ====
module

public import proofs.«01_k».proof.Proof.Gen.Kernel2Ideal.Frame
public import proofs.«01_k».proof.Proof.Ffn.Rows
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.Ffn

open Cert.Kernel2Ideal Cert.Kernel2Ideal.Gen Cert.Retention
open Idealize.ShloMosaic Idealize.ShloMosaic.TcCoe Idealize.ShloMosaic.Tactic
open Idealize.ShloMosaic.Pipeline (Dat Cfg Window)

/-! # What the body leaves in a tile of rows

The body takes a tile in two halves. Of each half it stores the hidden rows in eleven slices of columns, reads them back
whole, and stores the half's rows out. -/

section Tile

variable (x : Vec Ideal S1024x1024 .f32) (g : Vec Ideal S1x1024 .f32) (wg wu : Vec Ideal S1x1024x2816 .bf16)
  (wd : Vec Ideal S1x2816x1024 .bf16) (fin : Vec Ideal S1x1024 .f32)

/-- Half a tile's rows, and a slice of a projection's columns. -/
def rowsOf (s : Fin 2) : Vec Ideal S512x1024 .f32 :=
  View.ld x (Rect.unit ![512 * s.val, 0] ![512, 1024] (by intro a; fin_cases a <;> simp <;> omega))
def colsOf (w : Vec Ideal S1x1024x2816 .bf16) (k : Fin 11) : Vec Ideal S1x1024x256 .bf16 :=
  View.ld w (Rect.unit ![0, 0, 256 * k.val] ![1, 1024, 256] (by intro a; fin_cases a <;> simp <;> omega))

/-- Where a slice of a half's hidden rows is stored. -/
def place (s : Fin 2) (k : Fin 11) : Rect S1024x2816 :=
  Rect.unit ![512 * s.val, 256 * k.val] ![512, 256] (by intro a; fin_cases a <;> simp <;> omega)

/-- The stores of a half's hidden rows, the last first. -/
def slices (s : Fin 2) : List (View.Piece (Elt Ideal) S1024x2816 .bf16) :=
  ([10, 9, 8, 7, 6, 5, 4, 3, 2, 1, 0] : List (Fin 11)).map fun k =>
    ⟨place s k, k0_pay8 (k0_pay3 (rowsOf x s) g) (colsOf wg k) (colsOf wu k)⟩

/-- A half's hidden rows, read back over its stores and earlier ones. -/
def readBack (s : Fin 2) (L : List (View.Piece (Elt Ideal) S1024x2816 .bf16)) : Vec Ideal S512x2816 .bf16 :=
  scM0_0.view.readCov L
    (Rect.unit ![512 * s.val, 0] ![512, 2816] (by intro a; fin_cases a <;> simp <;> omega) : Rect S1024x2816).toLoadRect

/-- A half's rows out. -/
def half (s : Fin 2) (L : List (View.Piece (Elt Ideal) S1024x2816 .bf16)) : Vec Ideal S512x1024 .f32 :=
  k0_pay2 (rowsOf x s) (readBack s (slices x g wg wu s ++ L)) wd fin

/-- The whole tile, as stored. -/
def tile : Vec Ideal S1024x1024 .f32 :=
  View.canon (Val := Elt Ideal)
    [⟨Rect.unit ![512, 0] ![512, 1024] inb_S1024x1024_S512x1024_512_0, half x g wg wu wd fin 1 (slices x g wg wu 0)⟩,
     ⟨Rect.unit ![0, 0] ![512, 1024] inb_S1024x1024_S512x1024_0_0, half x g wg wu wd fin 0 []⟩]

end Tile

set_option maxHeartbeats 4000000 in
theorem outsAt0_eq (m : (ℓ : Loc nD τ sig) → Buf (Elt Ideal) ℓ) (c : Dev nD) (t : Fin cfg0.N) :
    outsAt0 m c t = tile (iblk m c 0 t) (iblk m c 1 t) (iblk m c 2 t) (iblk m c 3 t) (iblk m c 4 t) (iblk m c 5 t) := by
  unfold outsAt0
  frame_open
  simp (disch := decide) only [↓ View.readCov_skip, ↓ View.readCov_cons_toLoadRect, ↓ View.readCov_fill]
  frame_out
  rfl

end Cert.Ffn
end
-- ==== Proof.Ffn.TileRows.lean ====
module

public import proofs.«01_k».proof.Proof.Ffn.Tile

@[expose] public section

set_option maxRecDepth 16384

noncomputable section

namespace Cert.Ffn

open Cert.Kernel2Ideal Cert.Kernel2Ideal.Gen Cert.Retention
open Idealize.ShloMosaic Idealize.ShloMosaic.TcCoe Idealize.ShloMosaic.Tactic

/-! # The tile's rows -/

variable (x : Vec Ideal S1024x1024 .f32) (g : Vec Ideal S1x1024 .f32) (wg wu : Vec Ideal S1x1024x2816 .bf16)
  (wd : Vec Ideal S1x2816x1024 .bf16) (fin : Vec Ideal S1x1024 .f32)

/-- The row of a tile that a half's row is. -/
def rowIn (s : Fin 2) (i : Fin 512) : Fin 1024 := ⟨512 * s.val + i.val, by omega⟩
/-- The column that a slice's column is. -/
def colIn (k : Fin 11) (j : Fin 256) : Fin 2816 := ⟨256 * k.val + j.val, by omega⟩

theorem rowsOf_apply (s : Fin 2) (i : Fin 512) (d : Fin 1024) : rowsOf x s (ix2 i d) = x (ix2 (rowIn s i) d) := by
  unfold rowsOf; pointwise [rowIn]
theorem colsOf_apply (w : Vec Ideal S1x1024x2816 .bf16) (k : Fin 11) (d : Fin 1024) (j : Fin 256) :
    colsOf w k (ix3 0 d j) = w (ix3 0 d (colIn k j)) := by
  unfold colsOf; pointwise [colIn]
theorem place_emb (s : Fin 2) (k : Fin 11) (i : Fin 512) (j : Fin 256) :
    (place s k).emb (ix2 i j : S512x256.Idx) = (ix2 (rowIn s i) (colIn k j) : S1024x2816.Idx) := by
  funext a; fin_cases a
  · exact Fin.ext (show 512 * s.val + 1 * i.val = 512 * s.val + i.val by omega)
  · exact Fin.ext (show 256 * k.val + 1 * j.val = 256 * k.val + j.val by omega)

theorem pay3_apply (v : Vec Ideal S512x1024 .f32) (i : Fin 512) (d : Fin 1024) :
    k0_pay3 v g (ix2 i d) = hnRow (fun d => v (ix2 i d)) (fun d => g (ix2 0 d)) d := by
  pointwise [k0_pay3, hnRow, eps]
theorem pay8_apply (h : FVec Ideal S512x1024 .bf16) (a b : Vec Ideal S1x1024x256 .bf16) (i : Fin 512) (j : Fin 256) :
    k0_pay8 h a b (ix2 i j) = (∑ k : Fin 1024, h (ix2 i k) * a (ix3 0 k j)) * Ideal.logistic (∑ k : Fin 1024, h (ix2 i k) * a (ix3 0 k j))
      * ∑ k : Fin 1024, h (ix2 i k) * b (ix3 0 k j) := by
  pointwise [k0_pay8]
theorem pay2_apply (v : Vec Ideal S512x1024 .f32) (a : Vec Ideal S512x2816 .bf16) (i : Fin 512) (d : Fin 1024) :
    k0_pay2 v a wd fin (ix2 i d) = hnRow (fun d => v (ix2 i d) + ∑ n : Fin 2816, a (ix2 i n) * wd (ix3 0 n d)) (fun d => fin (ix2 0 d)) d := by
  pointwise [k0_pay2, hnRow, eps]

/-- The hidden rows of a tile. -/
def hiddenTile : Vec Ideal S1024x2816 .bf16 := fun i =>
  hidden (hnRow (fun d => x (ix2 (i 0) d)) (fun d => g (ix2 0 d))) (fun d n => wg (ix3 0 d n)) (fun d n => wu (ix3 0 d n)) (i 1)

/-- A stored slice is a block of the hidden rows. -/
theorem slice_eq (s : Fin 2) (k : Fin 11) (y : (place s k).shape.Idx) :
    k0_pay8 (k0_pay3 (rowsOf x s) g) (colsOf wg k) (colsOf wu k) y = hiddenTile x g wg wu ((place s k).emb y) := by
  obtain ⟨i, j, rfl⟩ : ∃ (i : Fin 512) (j : Fin 256), y = (ix2 i j : S512x256.Idx) := ⟨y 0, y 1, ValueIdx.eq_ix2 y⟩
  rw [place_emb]
  refine (pay8_apply _ _ _ i j).trans ?_
  simp only [pay3_apply, rowsOf_apply, colsOf_apply]
  rfl

/-- Read back, they are the hidden rows of the half. -/
theorem readBack_apply (s : Fin 2) (L : List (View.Piece (Elt Ideal) S1024x2816 .bf16)) (i : Fin 512) (n : Fin 2816) :
    readBack s (slices x g wg wu s ++ L) (ix2 i n) = hiddenTile x g wg wu (ix2 (rowIn s i) n) := by
  unfold readBack
  rw [View.readCov_eq_canon']
  have hy : ((Rect.unit ![512 * s.val, 0] ![512, 2816] (by intro a; fin_cases a <;> simp <;> omega) : Rect S1024x2816).toLoadRect).idx (ix2 i n : S512x2816.Idx)
      = (place s ⟨n.val / 256, by omega⟩).emb (ix2 i ⟨n.val % 256, by omega⟩ : S512x256.Idx) := by
    rw [place_emb]; funext a
    fin_cases a <;> (apply Fin.ext; simp [rowIn, colIn]; try omega)
  have hn : (place s ⟨n.val / 256, by omega⟩).emb (ix2 i ⟨n.val % 256, by omega⟩ : S512x256.Idx) = (ix2 (rowIn s i) n : S1024x2816.Idx) := by
    rw [place_emb]; congr 1; apply Fin.ext; simp only [colIn]; omega
  show View.canon _ _ = _
  rw [hy]
  refine (View.canon_append_of_pieces (hiddenTile x g wg wu) L _ ?_ _ ?_).trans (congrArg _ hn)
  · intro p hp y
    obtain ⟨k, -, rfl⟩ := List.mem_map.mp hp
    exact slice_eq x g wg wu s k y
  · refine ⟨_, List.mem_map_of_mem ((by decide : ∀ k : Fin 11, k ∈ ([10, 9, 8, 7, 6, 5, 4, 3, 2, 1, 0] : List (Fin 11))) ⟨n.val / 256, by omega⟩), ?_⟩
    exact LoadRect.idx_mem _ _

theorem half_apply (s : Fin 2) (L : List (View.Piece (Elt Ideal) S1024x2816 .bf16)) (i : Fin 512) (d : Fin 1024) :
    half x g wg wu wd fin s L (ix2 i d)
      = outRow (fun d => x (ix2 (rowIn s i) d)) (fun d => g (ix2 0 d)) (fun d n => wg (ix3 0 d n)) (fun d n => wu (ix3 0 d n))
          (fun n d => wd (ix3 0 n d)) (fun d => fin (ix2 0 d)) d := by
  refine (pay2_apply _ _ _ _ i d).trans ?_
  simp only [readBack_apply, rowsOf_apply]
  rfl

/-- Every row of the tile is the row function of its row in. -/
theorem tile_apply (i : Fin 1024) (d : Fin 1024) : tile x g wg wu wd fin (ix2 i d)
    = outRow (fun d => x (ix2 i d)) (fun d => g (ix2 0 d)) (fun d n => wg (ix3 0 d n)) (fun d n => wu (ix3 0 d n))
        (fun n d => wd (ix3 0 n d)) (fun d => fin (ix2 0 d)) d := by
  unfold tile
  refine View.canon_apply_of_pieces (Val := Elt Ideal) (e := .f32) (fun y : S1024x1024.Idx => outRow (fun d => x (ix2 (y 0) d)) (fun d => g (ix2 0 d)) (fun d n => wg (ix3 0 d n)) (fun d n => wu (ix3 0 d n))
        (fun n d => wd (ix3 0 n d)) (fun d => fin (ix2 0 d)) (y 1)) _ ?_ _ ?_
  swap
  · refine View.cover_of_tiledL (s := S1024x1024) _ S512x1024.size ?_ _
    sl_kernel_rfl
  rw [List.forall_mem_cons, List.forall_mem_cons]
  refine ⟨fun y => ?_, fun y => ?_, fun _ h => absurd h List.not_mem_nil⟩
  · rw [show y = (ix2 (y 0) (y 1) : S512x1024.Idx) from ValueIdx.eq_ix2 y]
    refine (half_apply x g wg wu wd fin 1 _ (y 0) (y 1)).trans ?_
    congr 1
    · funext d; congr 2; exact Fin.ext (show 512 * 1 + (y 0).val = 512 + 1 * (y 0).val by omega)
    · exact Fin.ext (show (y 1).val = 0 + 1 * (y 1).val by omega)
  · rw [show y = (ix2 (y 0) (y 1) : S512x1024.Idx) from ValueIdx.eq_ix2 y]
    refine (half_apply x g wg wu wd fin 0 _ (y 0) (y 1)).trans ?_
    congr 1
    · funext d; congr 2; exact Fin.ext (show 512 * 0 + (y 0).val = 0 + 1 * (y 0).val by omega)
    · exact Fin.ext (show (y 1).val = 0 + 1 * (y 1).val by omega)

end Cert.Ffn
end
-- ==== Proof.Ffn.Final.lean ====
module

public import proofs.«01_k».proof.Proof.Gen.Kernel2Ideal.Value
public import proofs.«01_k».proof.Proof.Ffn.TileRows
public import Idealize.ShloMosaic.Lib.Pipeline.ValueKit.Geometry

@[expose] public section

set_option maxRecDepth 16384

noncomputable section

namespace Cert.Ffn

open Cert.Kernel2Ideal Cert.Kernel2Ideal.Gen Cert.Retention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! # The array after the run -/

/-- The rows out, of the six arguments. -/
def finalOf (x : Vec Ideal S16384x1024 .f32) (g : Vec Ideal S1x1024 .f32) (wg wu : Vec Ideal S1x1024x2816 .bf16)
    (wd : Vec Ideal S1x2816x1024 .bf16) (fin : Vec Ideal S1x1024 .f32) : Vec Ideal S16384x1024 .f32 := fun i =>
  outRow (fun d => x (ix2 (i 0) d)) (fun d => g (ix2 0 d)) (fun d n => wg (ix3 0 d n)) (fun d n => wu (ix3 0 d n))
    (fun n d => wd (ix3 0 n d)) (fun d => fin (ix2 0 d)) (i 1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- The row of the array that a tile's row is. -/
def row (t : Fin cfg0.N) (i : Fin 1024) : Fin 16384 := ⟨1024 * t.val + i.val, by have : cfg0.N = 16 := rfl; omega⟩

theorem blk0 (t : Fin cfg0.N) (i d : Fin 1024) : (iblk m c 0 t : Vec Ideal S1024x1024 .f32) (ix2 i d) = m ((c.tc : Thread nD τ).loc main_arg0) (ix2 (row t i) d) := by
  refine congrArg (m ((c.tc : Thread nD τ).loc main_arg0)) ?_
  blk_ext [idx0, row]
theorem blk1 (t : Fin cfg0.N) (d : Fin 1024) : (iblk m c 1 t : Vec Ideal S1x1024 .f32) (ix2 0 d) = m ((c.tc : Thread nD τ).loc main_arg1) (ix2 0 d) := by
  refine congrArg (m ((c.tc : Thread nD τ).loc main_arg1)) ?_
  blk_ext [idx1]
theorem blk2 (t : Fin cfg0.N) (k : Fin 1024) (n : Fin 2816) : (iblk m c 2 t : Vec Ideal S1x1024x2816 .bf16) (ix3 0 k n) = m ((c.tc : Thread nD τ).loc main_arg2) (ix3 0 k n) := by
  refine congrArg (m ((c.tc : Thread nD τ).loc main_arg2)) ?_
  blk_ext [idx2]
theorem blk3 (t : Fin cfg0.N) (k : Fin 1024) (n : Fin 2816) : (iblk m c 3 t : Vec Ideal S1x1024x2816 .bf16) (ix3 0 k n) = m ((c.tc : Thread nD τ).loc main_arg3) (ix3 0 k n) := by
  refine congrArg (m ((c.tc : Thread nD τ).loc main_arg3)) ?_
  blk_ext [idx3]
theorem blk4 (t : Fin cfg0.N) (n : Fin 2816) (k : Fin 1024) : (iblk m c 4 t : Vec Ideal S1x2816x1024 .bf16) (ix3 0 n k) = m ((c.tc : Thread nD τ).loc main_arg4) (ix3 0 n k) := by
  refine congrArg (m ((c.tc : Thread nD τ).loc main_arg4)) ?_
  blk_ext [idx4]
theorem blk5 (t : Fin cfg0.N) (d : Fin 1024) : (iblk m c 5 t : Vec Ideal S1x1024 .f32) (ix2 0 d) = m ((c.tc : Thread nD τ).loc main_arg5) (ix2 0 d) := by
  refine congrArg (m ((c.tc : Thread nD τ).loc main_arg5)) ?_
  blk_ext [idx5]

theorem final6 : (dats m 0 c).arrAt 6 cfg0.N = finalOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  refine (dats m 0 c).arrAt_eq_of_covers 6 _ (by decide +kernel) fun t hf y => ?_
  blk_simp
  rw [after0_6, outsAt0_eq]
  refine (congrArg (tile (iblk m c 0 t) (iblk m c 1 t) (iblk m c 2 t) (iblk m c 3 t) (iblk m c 4 t) (iblk m c 5 t))
    (ValueIdx.eq_ix2 (n0 := 1024) (n1 := 1024) y)).trans ((tile_apply _ _ _ _ _ _ (y 0) (y 1)).trans ?_)
  simp only [blk0, blk1, blk2, blk3, blk4, blk5]
  unfold finalOf
  congr 1
  · funext d
    refine (blk0 m c t (y 0) d).trans (congrArg (m ((c.tc : Thread nD τ).loc main_arg0)) ?_)
    congr 1; apply Fin.ext; blk_simp [idx6, row]
    exact congrArg (· + _) (Nat.mul_comm _ _)
  · apply Fin.ext; blk_simp [idx6]

end Cert.Ffn
end
-- ==== Proof.Ffn.Reference.lean ====
module

public import proofs.«01_k».proof.Proof.Gen.Reference2Ideal.Run
public import proofs.«01_k».proof.Proof.Ffn.Rows
public import Idealize.ShloMosaic.Lib.Pointwise

@[expose] public section

set_option maxRecDepth 16384

noncomputable section

namespace Cert.Ffn.Reference

open Cert.Reference2Ideal Cert.Reference2Ideal.Gen Cert.Retention
open Idealize.ShloMosaic Idealize.ShloMosaic.TcCoe Idealize.SL.Sem Idealize.ShloMosaic.StableHlo

/-! # The reference, stage by stage -/

variable (x : FVec Ideal S16384x1024 .f32) (g : FVec Ideal S1x1024 .f32) (w wu : FVec Ideal S1x1024x2816 .bf16)
  (wd : FVec Ideal S1x2816x1024 .bf16) (p q : FVec Ideal S16384x2816 .f32)

/-- The normalised rows. -/
def normed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- A projection to the hidden width. -/
def projected : FVec Ideal S16384x2816 .f32 :=
  Host.dotGeneral dot_S16384x1024_S1024x2816_S16384x2816_1_0_0_1_n_n none x (extf .f32 (shapeCast _ w shapeCasts_S1x1024x2816_S1024x2816) bitsLt_bf16_f32)

/-- The gated hidden rows. -/
def gated : FVec Ideal S16384x2816 .f32 :=
  mulf (mulf p (Host.divf (broadcastInDim S16384x2816 ![] bcast_S_S16384x2816 (constant S_ .f32 0x3F800000#32)) (addf (broadcastInDim S16384x2816 ![] bcast_S_S16384x2816 (constant S_ .f32 0x3F800000#32)) (Host.exp (Host.negf p))))) q

/-- The rows out of the layer. -/
def rowsOut : FVec Ideal S16384x1024 .f32 :=
  addf x (Host.dotGeneral dot_S16384x2816_S2816x1024_S16384x1024_1_0_0_1_n_n none p (extf .f32 (shapeCast _ wd shapeCasts_S1x2816x1024_S2816x1024) bitsLt_bf16_f32))

theorem normed_apply (r : Fin 16384) (d : Fin 1024) :
    normed x g (ix2 r d) = hnRow (fun d => x (ix2 r d)) (fun d => g (ix2 0 d)) d := by
  pointwise [normed, hnRow, eps]
theorem projected_apply (r : Fin 16384) (n : Fin 2816) :
    projected x w (ix2 r n) = ∑ k : Fin 1024, x (ix2 r k) * w (ix3 0 k n) := by
  pointwise [projected]
theorem gated_apply (r : Fin 16384) (n : Fin 2816) :
    gated p q (ix2 r n) = p (ix2 r n) * Ideal.logistic (p (ix2 r n)) * q (ix2 r n) := by
  pointwise [gated]
  rfl
theorem rowsOut_apply (r : Fin 16384) (d : Fin 1024) :
    rowsOut x wd p (ix2 r d) = x (ix2 r d) + ∑ n : Fin 2816, p (ix2 r n) * wd (ix3 0 n d) := by
  pointwise [rowsOut]

variable (m : (ℓ : Loc nD τ sig) → Buf (Elt Ideal) ℓ) (c : Dev nD)

theorem out_eq : Value.res_main_v35 m c
    = normed (rowsOut (m ((c.tc : Thread nD τ).loc main_arg0)) (m ((c.tc : Thread nD τ).loc main_arg4))
        (gated (projected (normed (m ((c.tc : Thread nD τ).loc main_arg0)) (m ((c.tc : Thread nD τ).loc main_arg1))) (m ((c.tc : Thread nD τ).loc main_arg2)))
          (projected (normed (m ((c.tc : Thread nD τ).loc main_arg0)) (m ((c.tc : Thread nD τ).loc main_arg1))) (m ((c.tc : Thread nD τ).loc main_arg3)))))
      (m ((c.tc : Thread nD τ).loc main_arg5)) := rfl

/-- Every row of the result is the row function of its row in. -/
theorem out_apply (r : Fin 16384) (d : Fin 1024) : (Value.res_main_v35 m c : FVec Ideal S16384x1024 .f32) (ix2 r d)
    = outRow (fun d => (m ((c.tc : Thread nD τ).loc main_arg0) : FVec Ideal S16384x1024 .f32) (ix2 r d))
        (fun d => (m ((c.tc : Thread nD τ).loc main_arg1) : FVec Ideal S1x1024 .f32) (ix2 0 d))
        (fun d n => (m ((c.tc : Thread nD τ).loc main_arg2) : FVec Ideal S1x1024x2816 .bf16) (ix3 0 d n))
        (fun d n => (m ((c.tc : Thread nD τ).loc main_arg3) : FVec Ideal S1x1024x2816 .bf16) (ix3 0 d n))
        (fun n d => (m ((c.tc : Thread nD τ).loc main_arg4) : FVec Ideal S1x2816x1024 .bf16) (ix3 0 n d))
        (fun d => (m ((c.tc : Thread nD τ).loc main_arg5) : FVec Ideal S1x1024 .f32) (ix2 0 d)) d := by
  rw [out_eq]
  refine (normed_apply _ _ r d).trans ?_
  simp only [rowsOut_apply, gated_apply, projected_apply, normed_apply]
  rfl

end Cert.Ffn.Reference
end
-- ==== Proof.Ffn.Claims.lean ====
module

public import proofs.«01_k».proof.Defs
public import proofs.«01_k».proof.Proof.Ffn.Final
public import proofs.«01_k».proof.Proof.Ffn.Reference
public import proofs.«01_k».proof.Proof.Gen.Kernel2.Frame
public import Idealize.ShloMosaic.Lib.Quiescent

@[expose] public section

set_option maxRecDepth 16384

noncomputable section

/-! # The claims of the feed-forward layer with the last norm -/

namespace Cert.Ffn.Claims

open Idealize.ShloMosaic Idealize.SL.Sem Cert.Ffn

theorem kernel : Cert.quiescent_Kernel2 := fun m ρ _ => Cert.Kernel2.Gen.frame m ρ
theorem kernelIdeal : Cert.quiescent_Kernel2Ideal := fun m ρ _ => Cert.Kernel2Ideal.Gen.frame m ρ
theorem referenceIdeal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)
theorem preserves : Cert.preserves_Kernel2_Kernel2Ideal := trivial

theorem algebraic : Cert.algebraic_Kernel2Ideal_Reference2Ideal := by
  intro m ρ m' ρ' _ hagree
  refine ⟨fun c => (Cert.Kernel2Ideal.Gen.dats m 0 c).arrAt 6 Cert.Kernel2Ideal.cfg0.N, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4, h5⟩ := hagree c
  refine Eq.trans ?_ (final6 m c).symm
  funext i
  refine (congrArg _ (ValueIdx.eq_ix2 i)).trans ((Cert.Ffn.Reference.out_apply m' c (i 0) (i 1)).trans ?_)
  rw [h0, h1, h2, h3, h4, h5]
  rfl

end Cert.Ffn.Claims
end
-- ==== Proof.Conv.Rows.lean ====
module

public import proofs.«01_k».proof.Proof.Value.Rows

@[expose] public section

noncomputable section

namespace Cert.Conv

open Idealize.ShloMosaic Cert.Retention

/-! # One token's row through the short convolution

The convolution takes three rows: the token's own gated row and the two before it. Both programs compute these functions. -/

/-- The columns of the projection for the outer gate, the inner gate and the rows gated. -/
def bCol (d : Fin 1024) : Fin 3072 := ⟨d.val, by omega⟩
def cCol (d : Fin 1024) : Fin 3072 := ⟨1024 + d.val, by omega⟩
def hCol (d : Fin 1024) : Fin 3072 := ⟨2048 + d.val, by omega⟩

/-- The projection of a row. -/
def proj (h : Fin 1024 → EReal) (w : Fin 1024 → Fin 3072 → EReal) (n : Fin 3072) : EReal := ∑ k : Fin 1024, h k * w k n

/-- The gated row, which the convolution takes. -/
def uRow (h : Fin 1024 → EReal) (w : Fin 1024 → Fin 3072 → EReal) (d : Fin 1024) : EReal := proj h w (cCol d) * proj h w (hCol d)

/-- The convolution of three gated rows, gated once more. -/
def actRow (h : Fin 1024 → EReal) (w : Fin 1024 → Fin 3072 → EReal) (wc : Fin 3 → Fin 1024 → EReal) (p q u : Fin 1024 → EReal)
    (d : Fin 1024) : EReal :=
  proj h w (bCol d) * (wc 0 d * p d + wc 1 d * q d + wc 2 d * u d)

/-- The row out. -/
def outRow (x a : Fin 1024 → EReal) (wout : Fin 1024 → Fin 1024 → EReal) (d : Fin 1024) : EReal :=
  x d + ∑ n : Fin 1024, a n * wout n d

/-- The arguments, as functions of their coordinates. -/
structure Args where
  x : Fin 8 → Fin 2048 → Fin 1024 → EReal
  g : Fin 1024 → EReal
  w : Fin 1024 → Fin 3072 → EReal
  wc : Fin 3 → Fin 1024 → EReal
  wout : Fin 1024 → Fin 1024 → EReal

namespace Args

variable (A : Args)

/-- A token's gated row. -/
def u (b : Fin 8) (t : Fin 2048) : Fin 1024 → EReal := uRow (hnRow (A.x b t) A.g) A.w

/-- The gated rows with two rows of zeros before them. -/
def full (b : Fin 8) (n : Fin 2050) (d : Fin 1024) : EReal := if h : n.val < 2 then 0 else A.u b ⟨n.val - 2, by omega⟩ d

/-- A token's row out. -/
def out (b : Fin 8) (t : Fin 2048) : Fin 1024 → EReal :=
  outRow (A.x b t)
    (actRow (hnRow (A.x b t) A.g) A.w A.wc (A.full b ⟨t.val, by omega⟩) (A.full b ⟨t.val + 1, by omega⟩) (A.full b ⟨t.val + 2, by omega⟩))
    A.wout

theorem full_add_two (b : Fin 8) (t : Fin 2048) : A.full b ⟨t.val + 2, by omega⟩ = A.u b t := by
  funext d; unfold full; rw [dif_neg (by simp)]; rfl

end Args

end Cert.Conv
end
-- ==== Proof.Conv.Tile.lean ====
module

public import proofs.«01_k».proof.Proof.Gen.Kernel3Ideal.Frame
public import proofs.«01_k».proof.Proof.Conv.Rows
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.Conv

open Cert.Kernel3Ideal Cert.Kernel3Ideal.Gen Cert.Retention
open Idealize.ShloMosaic Idealize.ShloMosaic.TcCoe Idealize.ShloMosaic.Tactic
open Idealize.ShloMosaic.Pipeline (Dat Cfg Window)

/-! # What the body leaves of a tile of rows

The body takes a tile in two halves of 512 rows, and a half's columns in four chunks of 256. The gated rows go into a buffer
whose first eight rows are what came before the tile; the convolution reads that buffer one and two rows earlier. -/

/-- The stores to the buffer of gated rows, and its contents. -/
abbrev UStore := View.Piece (Elt Ideal) S1032x1024 .f32
abbrev UBuf := scM0_0.view.ty.Contents (Elt Ideal)

section Tile

variable (x : Vec Ideal S1x1024x1024 .f32) (g : Vec Ideal S1x1024 .f32) (w : Vec Ideal S1x1024x3072 .bf16)
  (wc : Vec Ideal S1x3x1024 .f32) (wout : Vec Ideal S1x1024x1024 .bf16)

/-- Half a tile's rows; a chunk of the projection's columns; a chunk of one of the convolution's three rows of weights. -/
def rowsOf (s : Fin 2) : Vec Ideal S1x512x1024 .f32 :=
  View.ld x (Rect.unit ![0, 512 * s.val, 0] ![1, 512, 1024] (by intro a; fin_cases a <;> simp <;> omega))
def colsOf (n : Fin 12) : Vec Ideal S1x1024x256 .bf16 :=
  View.ld w (Rect.unit ![0, 0, 256 * n.val] ![1, 1024, 256] (by intro a; fin_cases a <;> simp <;> omega))
def tapOf (j : Fin 3) (k : Fin 4) : Vec Ideal S1x1x256 .f32 :=
  View.ld wc (Rect.unit ![0, j.val, 256 * k.val] ![1, 1, 256] (by intro a; fin_cases a <;> simp <;> omega))

/-- The chunks of the inner gate's columns and of the columns gated; the outer gate's come first. -/
def chunkB (k : Fin 4) : Fin 12 := ⟨k.val, by omega⟩
def chunkC (k : Fin 4) : Fin 12 := ⟨4 + k.val, by omega⟩
def chunkH (k : Fin 4) : Fin 12 := ⟨8 + k.val, by omega⟩

/-- The chunks up to one, the last first. -/
def upTo : Fin 4 → List (Fin 4) := ![[0], [1, 0], [2, 1, 0], [3, 2, 1, 0]]

/-- Where a chunk of a half's gated rows is stored, and the stores up to a chunk. -/
def uPlace (s : Fin 2) (k : Fin 4) : Rect S1032x1024 :=
  Rect.unit ![8 + 512 * s.val, 256 * k.val] ![512, 256] (by intro a; fin_cases a <;> simp <;> omega)
def uStores (s : Fin 2) (k : Fin 4) : List UStore :=
  (upTo k).map fun k => ⟨uPlace s k, k0_pay26 (k0_pay13 (rowsOf x s) g) (colsOf w (chunkC k)) (colsOf w (chunkH k))⟩

section Over

/-! What the buffer holds when the body's own stores begin: contents, and the stores that a first tile starts with. -/

variable (f : UBuf) (L : List UStore)

/-- The stores before a half's, and the contents they are made over. -/
def before : Fin 2 → List UStore := ![L, uStores x g w 0 3 ++ L]
def base : Fin 2 → UBuf := ![f, scM0_0.view.junk]

/-- The gated rows two rows back (`j = 0`) or one row back (`j = 1`), as a half reads them for a chunk. -/
def uRead (s : Fin 2) (k : Fin 4) (j : Fin 2) : Vec Ideal S512x256 .f32 :=
  View.ld (View.read (Elt Ideal) scM0_0.view (scM0_0.view.writes (Elt Ideal) (base f s) (uStores x g w s k ++ before x g w L s)))
    (Rect.unit ![6 + j.val + 512 * s.val, 256 * k.val] ![512, 256] (by intro a; fin_cases a <;> simp <;> omega))

/-- Where a chunk of a half's convolved rows is stored, and the four stores. -/
def aPlace (s : Fin 2) (k : Fin 4) : Rect S1024x1024 :=
  Rect.unit ![512 * s.val, 256 * k.val] ![512, 256] (by intro a; fin_cases a <;> simp <;> omega)
def aStores (s : Fin 2) : List (View.Piece (Elt Ideal) S1024x1024 .bf16) :=
  (upTo 3).map fun k => ⟨aPlace s k,
    k0_pay27 (k0_pay13 (rowsOf x s) g) (k0_pay24 (k0_pay13 (rowsOf x s) g) (colsOf w (chunkB k))) (colsOf w (chunkC k)) (colsOf w (chunkH k))
      (tapOf wc 0 k) (uRead x g w f L s k 0) (tapOf wc 1 k) (uRead x g w f L s k 1) (tapOf wc 2 k)⟩

/-- A half's convolved rows, read back over its stores and earlier ones. -/
def aRead (s : Fin 2) (M : List (View.Piece (Elt Ideal) S1024x1024 .bf16)) : Vec Ideal S512x1024 .bf16 :=
  scM0_1.view.readCov M
    (Rect.unit ![512 * s.val, 0] ![512, 1024] (by intro a; fin_cases a <;> simp <;> omega) : Rect S1024x1024).toLoadRect

/-- A half's rows out. -/
def half (s : Fin 2) (M : List (View.Piece (Elt Ideal) S1024x1024 .bf16)) : Vec Ideal S1x512x1024 .f32 :=
  k0_pay2 (k0_pay12 (rowsOf x s)) (aRead s (aStores x g w wc f L s ++ M)) wout

/-- The tile's rows out. -/
def tile : Vec Ideal S1x1024x1024 .f32 :=
  View.canon (Val := Elt Ideal)
    [⟨Rect.unit ![0, 512, 0] ![1, 512, 1024] inb_S1x1024x1024_S1x512x1024_0_512_0, half x g w wc wout f L 1 (aStores x g w wc f L 0)⟩,
     ⟨Rect.unit ![0, 0, 0] ![1, 512, 1024] inb_S1x1024x1024_S1x512x1024_0_0_0, half x g w wc wout f L 0 []⟩]

end Over

variable (L : List UStore)

/-- All the stores of gated rows; the last two of those rows; the last eight moved to the front, for the next tile. -/
def allStores : List UStore := uStores x g w 1 3 ++ (uStores x g w 0 3 ++ L)
def lastTwo : Vec Ideal S1x2x1024 .f32 :=
  k0_pay3 (scM0_0.view.readCov (allStores x g w L)
    (Rect.unit ![1030, 0] ![2, 1024] inb_S1032x1024_S2x1024_1030_0 : Rect S1032x1024).toLoadRect)
def carried : Vec Ideal S1032x1024 .f32 :=
  View.canon (Val := Elt Ideal) (⟨Rect.unit ![0, 0] ![8, 1024] inb_S1032x1024_S8x1024_0_0,
    k0_pay4 (scM0_0.view.readCov (allStores x g w L)
      (Rect.unit ![1024, 0] ![8, 1024] inb_S1032x1024_S8x1024_1024_0 : Rect S1032x1024).toLoadRect)⟩ :: allStores x g w L)

end Tile

/-- A first tile starts with eight rows of zeros. -/
def zeros : List UStore := [⟨Rect.unit ![0, 0] ![8, 1024] inb_S1032x1024_S8x1024_0_0, k0_pay10 (F := Ideal)⟩]

section Points

variable (m : (ℓ : Loc nD τ sig) → Buf (Elt Ideal) ℓ) (c : Dev nD) (t : Fin cfg0.N)

set_option maxHeartbeats 800000 in
theorem outsAt0_even (h : t.val % 2 = 0) :
    outsAt0 m c t.val t.isLt = (tile (iblk m c 0 t) (iblk m c 1 t) (iblk m c 2 t) (iblk m c 3 t) (iblk m c 4 t) scM0_0.view.junk zeros,
      lastTwo (iblk m c 0 t) (iblk m c 1 t) (iblk m c 2 t) zeros,
      k0_pay5 (iblk m c 5 t), k0_pay6 (iblk m c 6 t), k0_pay7 (iblk m c 7 t), k0_pay8 (iblk m c 8 t), k0_pay11 (k0_pay9 (iblk m c 9 t)),
      carried (iblk m c 0 t) (iblk m c 1 t) (iblk m c 2 t) zeros) := by
  rw [outsAt0_A m c t h]
  frame_open
  frame_out
  rfl

set_option maxHeartbeats 800000 in
theorem outsAt0_odd (h : ¬ t.val % 2 = 0) (hw : scM0_0.IsWhole) :
    outsAt0 m c t.val t.isLt = (tile (iblk m c 0 t) (iblk m c 1 t) (iblk m c 2 t) (iblk m c 3 t) (iblk m c 4 t)
        (hw.unread (outsAt0 m c (t.val - 1) (by omega)).2.2.2.2.2.2.2) [],
      lastTwo (iblk m c 0 t) (iblk m c 1 t) (iblk m c 2 t) [],
      k0_pay5 (iblk m c 5 t), k0_pay6 (iblk m c 6 t), k0_pay7 (iblk m c 7 t), k0_pay8 (iblk m c 8 t), k0_pay11 (k0_pay9 (iblk m c 9 t)),
      carried (iblk m c 0 t) (iblk m c 1 t) (iblk m c 2 t) []) := by
  rw [outsAt0_B m c t h]
  frame_open
  frame_out
  rfl

end Points

end Cert.Conv
end
-- ==== Proof.Conv.TileRows.lean ====
module

public import proofs.«01_k».proof.Proof.Conv.Tile

@[expose] public section

set_option maxRecDepth 16384

noncomputable section

namespace Cert.Conv

open Cert.Kernel3Ideal Cert.Kernel3Ideal.Gen Cert.Retention
open Idealize.ShloMosaic Idealize.ShloMosaic.TcCoe Idealize.ShloMosaic.Tactic

/-! # The tile's rows -/

/-- Stores that are blocks of `G`, over contents that are `G` wherever no store reaches, leave `G`. -/
theorem read_writes_blocks {sig : RefSig} {κ : Kind} {sp : Space} {s : Shape} {e : EltTy} (v : View sig κ sp s e)
    (f : v.ty.Contents (Elt Ideal)) (G : s.Idx → Elt Ideal e) (y : s.Idx) :
    ∀ (L : List (View.Piece (Elt Ideal) s e)) (_ : ∀ p ∈ L, ∀ z, p.2 z = G (p.1.emb z))
      (_ : (∃ p ∈ L, y ∈ p.1.set) ∨ v.read (Elt Ideal) f y = G y), v.read (Elt Ideal) (v.writes (Elt Ideal) f L) y = G y
  | [], _, h => by
    rcases h with ⟨_, hp, _⟩ | h
    · exact absurd hp List.not_mem_nil
    · exact h
  | p :: L, hL, h => by
    by_cases hy : y ∈ p.1.set
    · obtain ⟨r, w⟩ := p
      obtain ⟨z, rfl⟩ : ∃ z, r.emb z = y := r.exists_idx_of_mem hy
      rw [View.read_writes_cons_emb]
      exact hL ⟨r, w⟩ List.mem_cons_self z
    · have hy' : y ∉ Finset.univ.map p.1.emb := by rwa [Rect.map_emb_univ]
      rw [View.writes_cons, View.read_slice_write_of_not_mem p.1 _ _ _ hy']
      refine read_writes_blocks v f G y L (fun q hq => hL q (List.mem_cons_of_mem _ hq)) (h.imp_left ?_)
      rintro ⟨q, hq, hm⟩
      rcases List.mem_cons.mp hq with rfl | hq
      · exact absurd hm hy
      · exact ⟨q, hq, hm⟩

variable (x : Vec Ideal S1x1024x1024 .f32) (g : Vec Ideal S1x1024 .f32) (w : Vec Ideal S1x1024x3072 .bf16)
  (wc : Vec Ideal S1x3x1024 .f32) (wout : Vec Ideal S1x1024x1024 .bf16)

/-- The row of a tile that a half's row is, the column that a chunk's column is, and likewise of the projection. -/
def rowIn (s : Fin 2) (i : Fin 512) : Fin 1024 := ⟨512 * s.val + i.val, by omega⟩
def colIn (k : Fin 4) (j : Fin 256) : Fin 1024 := ⟨256 * k.val + j.val, by omega⟩
def wideIn (n : Fin 12) (j : Fin 256) : Fin 3072 := ⟨256 * n.val + j.val, by omega⟩

theorem wideIn_B (k : Fin 4) (j : Fin 256) : wideIn (chunkB k) j = bCol (colIn k j) := rfl
theorem wideIn_C (k : Fin 4) (j : Fin 256) : wideIn (chunkC k) j = cCol (colIn k j) :=
  Fin.ext (show 256 * (4 + k.val) + j.val = 1024 + (256 * k.val + j.val) by omega)
theorem wideIn_H (k : Fin 4) (j : Fin 256) : wideIn (chunkH k) j = hCol (colIn k j) :=
  Fin.ext (show 256 * (8 + k.val) + j.val = 2048 + (256 * k.val + j.val) by omega)

theorem rowsOf_apply (s : Fin 2) (i : Fin 512) (d : Fin 1024) : rowsOf x s (ix3 0 i d) = x (ix3 0 (rowIn s i) d) := by
  unfold rowsOf; pointwise [rowIn]
theorem colsOf_apply (n : Fin 12) (d : Fin 1024) (j : Fin 256) : colsOf w n (ix3 0 d j) = w (ix3 0 d (wideIn n j)) := by
  unfold colsOf; pointwise [wideIn]
theorem tapOf_apply (n : Fin 3) (k : Fin 4) (j : Fin 256) : tapOf wc n k (ix3 0 0 j) = wc (ix3 0 n (colIn k j)) := by
  unfold tapOf; pointwise [colIn]

theorem pay13_apply (v : Vec Ideal S1x512x1024 .f32) (i : Fin 512) (d : Fin 1024) :
    k0_pay13 v g (ix2 i d) = hnRow (fun d => v (ix3 0 i d)) (fun d => g (ix2 0 d)) d := by
  pointwise [k0_pay13, k0_pay12, hnRow, eps]
theorem pay26_apply (h : FVec Ideal S512x1024 .bf16) (a b : Vec Ideal S1x1024x256 .bf16) (i : Fin 512) (j : Fin 256) :
    k0_pay26 h a b (ix2 i j) = (∑ k : Fin 1024, h (ix2 i k) * a (ix3 0 k j)) * ∑ k : Fin 1024, h (ix2 i k) * b (ix3 0 k j) := by
  pointwise [k0_pay26, k0_pay25]
theorem pay24_apply (h : FVec Ideal S512x1024 .bf16) (a : Vec Ideal S1x1024x256 .bf16) (i : Fin 512) (j : Fin 256) :
    k0_pay24 h a (ix2 i j) = ∑ k : Fin 1024, h (ix2 i k) * a (ix3 0 k j) := by
  pointwise [k0_pay24]
theorem pay27_apply (h : FVec Ideal S512x1024 .bf16) (v p q : Vec Ideal S512x256 .f32) (a b : Vec Ideal S1x1024x256 .bf16)
    (t0 t1 t2 : Vec Ideal S1x1x256 .f32) (i : Fin 512) (j : Fin 256) :
    k0_pay27 h v a b t0 p t1 q t2 (ix2 i j) = v (ix2 i j) * (t0 (ix3 0 0 j) * p (ix2 i j) + t1 (ix3 0 0 j) * q (ix2 i j)
      + t2 (ix3 0 0 j) * ((∑ k : Fin 1024, h (ix2 i k) * a (ix3 0 k j)) * ∑ k : Fin 1024, h (ix2 i k) * b (ix3 0 k j))) := by
  pointwise [k0_pay27, k0_pay25]
theorem pay2_apply (v : Vec Ideal S1x512x1024 .f32) (a : Vec Ideal S512x1024 .bf16) (i : Fin 512) (d : Fin 1024) :
    k0_pay2 (k0_pay12 v) a wout (ix3 0 i d) = v (ix3 0 i d) + ∑ n : Fin 1024, a (ix2 i n) * wout (ix3 0 n d) := by
  pointwise [k0_pay2, k0_pay12]

theorem uPlace_emb (s : Fin 2) (k : Fin 4) (i : Fin 512) (j : Fin 256) :
    (uPlace s k).emb (ix2 i j : S512x256.Idx) = (ix2 ⟨8 + 512 * s.val + i.val, by omega⟩ (colIn k j) : S1032x1024.Idx) := by
  funext a; fin_cases a
  · exact Fin.ext (show 8 + 512 * s.val + 1 * i.val = 8 + 512 * s.val + i.val by omega)
  · exact Fin.ext (show 256 * k.val + 1 * j.val = 256 * k.val + j.val by omega)
theorem aPlace_emb (s : Fin 2) (k : Fin 4) (i : Fin 512) (j : Fin 256) :
    (aPlace s k).emb (ix2 i j : S512x256.Idx) = (ix2 (rowIn s i) (colIn k j) : S1024x1024.Idx) := by
  funext a; fin_cases a
  · exact Fin.ext (show 512 * s.val + 1 * i.val = 512 * s.val + i.val by omega)
  · exact Fin.ext (show 256 * k.val + 1 * j.val = 256 * k.val + j.val by omega)

/-- The normed rows and the gated rows of a tile, and the buffer: eight rows before the tile, then the gated rows. -/
def hOf (i : Fin 1024) : Fin 1024 → EReal := hnRow (fun d => x (ix3 0 i d)) (fun d => g (ix2 0 d))
def uOf (i : Fin 1024) : Fin 1024 → EReal := uRow (hOf x g i) (fun k n => w (ix3 0 k n))
def ext (X : Vec Ideal S1032x1024 .f32) : Vec Ideal S1032x1024 .f32 := fun y =>
  if h : (y 0).val < 8 then X y else uOf x g w ⟨(y 0).val - 8, by have : (y 0).val < 1032 := (y 0).isLt; omega⟩ (y 1)

theorem ext_low (X : Vec Ideal S1032x1024 .f32) (r : Fin 1032) (d : Fin 1024) (h : r.val < 8) : ext x g w X (ix2 r d) = X (ix2 r d) :=
  dif_pos h
theorem ext_high (X : Vec Ideal S1032x1024 .f32) (r : Fin 1032) (d : Fin 1024) (i : Fin 1024) (h : r.val = i.val + 8) :
    ext x g w X (ix2 r d) = uOf x g w i d := by
  unfold ext
  refine (dif_neg (show ¬ r.val < 8 by omega)).trans ?_
  congr 1
  exact Fin.ext (show r.val - 8 = i.val by omega)

/-- A stored chunk is a block of the buffer. -/
theorem uStores_block (X : Vec Ideal S1032x1024 .f32) (s : Fin 2) (k : Fin 4) (p : UStore) (hp : p ∈ uStores x g w s k) (y : p.1.shape.Idx) :
    p.2 y = ext x g w X (p.1.emb y) := by
  obtain ⟨k, -, rfl⟩ := List.mem_map.mp hp
  obtain ⟨i, j, rfl⟩ : ∃ (i : Fin 512) (j : Fin 256), y = (ix2 i j : S512x256.Idx) := ⟨y 0, y 1, ValueIdx.eq_ix2 y⟩
  refine (pay26_apply _ _ _ i j).trans (Eq.trans ?_ (congrArg (ext x g w X) (uPlace_emb s k i j)).symm)
  rw [ext_high x g w X _ _ (rowIn s i) (by simp only [rowIn]; omega)]
  simp only [pay13_apply, rowsOf_apply, colsOf_apply, wideIn_C, wideIn_H]
  rfl

theorem mem_upTo : ∀ k : Fin 4, k ∈ upTo k := by decide
theorem mem_upTo_last : ∀ k : Fin 4, k ∈ upTo 3 := by decide

/-- The rows and columns that a chunk's store covers. -/
theorem uPlace_mem (s : Fin 2) (k : Fin 4) (r : Fin 1032) (j : Fin 256) (h : 8 + 512 * s.val ≤ r.val) (h' : r.val < 520 + 512 * s.val) :
    (ix2 r (colIn k j) : S1032x1024.Idx) ∈ (uPlace s k).set := by
  have e : (ix2 r (colIn k j) : S1032x1024.Idx) = (uPlace s k).emb (ix2 ⟨r.val - (8 + 512 * s.val), by omega⟩ j : S512x256.Idx) := by
    rw [uPlace_emb]; congr 1; apply Fin.ext; show r.val = _; simp only []; omega
  rw [e]
  exact LoadRect.idx_mem _ _
theorem uStores_mem (s : Fin 2) (n k : Fin 4) (hk : k ∈ upTo n) (r : Fin 1032) (j : Fin 256) (h : 8 + 512 * s.val ≤ r.val)
    (h' : r.val < 520 + 512 * s.val) : ∃ p ∈ uStores x g w s n, (ix2 r (colIn k j) : S1032x1024.Idx) ∈ p.1.set :=
  ⟨_, List.mem_map_of_mem hk, uPlace_mem s k r j h h'⟩

section Over

variable (f : UBuf) (L : List UStore) (X : Vec Ideal S1032x1024 .f32)

/-- The buffer starts at `X` in the rows before the tile. -/
structure Starts : Prop where
  block : ∀ p ∈ L, ∀ y, p.2 y = ext x g w X (p.1.emb y)
  low : ∀ (r : Fin 1032) (d : Fin 1024), r.val < 8 →
    (∃ p ∈ L, (ix2 r d : S1032x1024.Idx) ∈ p.1.set) ∨ scM0_0.view.read (Elt Ideal) f (ix2 r d) = X (ix2 r d)

variable {f L X}

theorem before_block (H : Starts x g w f L X) (s : Fin 2) (p : UStore) (hp : p ∈ before x g w L s) (y : p.1.shape.Idx) :
    p.2 y = ext x g w X (p.1.emb y) := by
  revert hp
  match s with
  | 0 => exact fun hp => H.block p hp y
  | 1 => exact fun hp => (List.mem_append.mp hp).elim (fun hp => uStores_block x g w X 0 3 p hp y) fun hp => H.block p hp y

/-- What a half reads back for a chunk. -/
theorem uRead_apply (H : Starts x g w f L X) (s : Fin 2) (k : Fin 4) (n : Fin 2) (i : Fin 512) (j : Fin 256) :
    uRead x g w f L s k n (ix2 i j) = ext x g w X (ix2 ⟨6 + n.val + (rowIn s i).val, by simp only [rowIn]; omega⟩ (colIn k j)) := by
  have e : (Rect.unit ![6 + n.val + 512 * s.val, 256 * k.val] ![512, 256] (by intro a; fin_cases a <;> simp <;> omega) : Rect S1032x1024).idx
      (ix2 i j : S512x256.Idx) = (ix2 ⟨6 + n.val + (rowIn s i).val, by simp only [rowIn]; omega⟩ (colIn k j) : S1032x1024.Idx) := by
    funext a; fin_cases a
    · exact Fin.ext (show 6 + n.val + 512 * s.val + 1 * i.val = 6 + n.val + (512 * s.val + i.val) by omega)
    · exact Fin.ext (show 256 * k.val + 1 * j.val = 256 * k.val + j.val by omega)
  unfold uRead
  show View.read _ _ _ _ = _
  rw [e]
  refine read_writes_blocks _ _ (ext x g w X) _ _ (fun p hp y => ?_) ?_
  · exact (List.mem_append.mp hp).elim (fun hp => uStores_block x g w X s k p hp y) fun hp => before_block x g w H s p hp y
  · by_cases h : 8 + 512 * s.val ≤ 6 + n.val + (rowIn s i).val
    · obtain ⟨p, hp, hm⟩ := uStores_mem x g w s k k (mem_upTo k) ⟨6 + n.val + (rowIn s i).val, by simp only [rowIn]; omega⟩ j h (by simp only [rowIn]; omega)
      exact .inl ⟨p, List.mem_append_left _ hp, hm⟩
    · match s, h with
      | 0, h =>
        have hlow : 6 + n.val + (rowIn 0 i).val < 8 := by simp only [rowIn] at h ⊢; omega
        rcases H.low ⟨6 + n.val + (rowIn 0 i).val, by omega⟩ (colIn k j) hlow with ⟨p, hp, hm⟩ | hb
        · exact .inl ⟨p, List.mem_append_right _ hp, hm⟩
        · exact .inr (hb.trans (ext_low x g w X _ _ hlow).symm)
      | 1, h =>
        obtain ⟨p, hp, hm⟩ := uStores_mem x g w 0 3 k (mem_upTo_last k) ⟨6 + n.val + (rowIn 1 i).val, by simp only [rowIn]; omega⟩ j
          (by simp [rowIn]; omega) (by simp [rowIn] at h ⊢; omega)
        exact .inl ⟨p, List.mem_append_right _ (List.mem_append_left _ hp), hm⟩

/-- A row of the convolution. -/
def aOf (X : Vec Ideal S1032x1024 .f32) (i : Fin 1024) : Fin 1024 → EReal :=
  actRow (hOf x g i) (fun k n => w (ix3 0 k n)) (fun n d => wc (ix3 0 n d)) (fun d => ext x g w X (ix2 ⟨6 + i.val, by omega⟩ d))
    (fun d => ext x g w X (ix2 ⟨7 + i.val, by omega⟩ d)) (uOf x g w i)
def aTile (X : Vec Ideal S1032x1024 .f32) : Vec Ideal S1024x1024 .bf16 := fun y => aOf x g w wc X (y 0) (y 1)

theorem aStores_block (H : Starts x g w f L X) (s : Fin 2) (p : View.Piece (Elt Ideal) S1024x1024 .bf16) (hp : p ∈ aStores x g w wc f L s)
    (y : p.1.shape.Idx) : p.2 y = aTile x g w wc X (p.1.emb y) := by
  obtain ⟨k, -, rfl⟩ := List.mem_map.mp hp
  obtain ⟨i, j, rfl⟩ : ∃ (i : Fin 512) (j : Fin 256), y = (ix2 i j : S512x256.Idx) := ⟨y 0, y 1, ValueIdx.eq_ix2 y⟩
  refine (pay27_apply _ _ _ _ _ _ _ _ _ i j).trans (Eq.trans ?_ (congrArg (aTile x g w wc X) (aPlace_emb s k i j)).symm)
  rw [uRead_apply x g w H, uRead_apply x g w H]
  simp only [pay24_apply, pay13_apply, rowsOf_apply, colsOf_apply, tapOf_apply, wideIn_B, wideIn_C, wideIn_H]
  rfl

theorem aRead_apply (H : Starts x g w f L X) (s : Fin 2) (M : List (View.Piece (Elt Ideal) S1024x1024 .bf16)) (i : Fin 512) (n : Fin 1024) :
    aRead s (aStores x g w wc f L s ++ M) (ix2 i n) = aOf x g w wc X (rowIn s i) n := by
  unfold aRead
  rw [View.readCov_eq_canon']
  have hn : (aPlace s ⟨n.val / 256, by omega⟩).emb (ix2 i ⟨n.val % 256, by omega⟩ : S512x256.Idx) = (ix2 (rowIn s i) n : S1024x1024.Idx) := by
    rw [aPlace_emb]; congr 1; apply Fin.ext; simp only [colIn]; omega
  have hy : ((Rect.unit ![512 * s.val, 0] ![512, 1024] (by intro a; fin_cases a <;> simp <;> omega) : Rect S1024x1024).toLoadRect).idx (ix2 i n : S512x1024.Idx)
      = (ix2 (rowIn s i) n : S1024x1024.Idx) := by
    funext a
    fin_cases a <;> (apply Fin.ext; simp [rowIn])
  show View.canon _ _ = _
  rw [hy]
  refine View.canon_append_of_pieces (aTile x g w wc X) M _ (aStores_block x g w wc H s) _ ?_
  refine ⟨_, List.mem_map_of_mem (mem_upTo_last ⟨n.val / 256, by omega⟩), ?_⟩
  rw [← hn]
  exact LoadRect.idx_mem _ _

theorem half_apply (H : Starts x g w f L X) (s : Fin 2) (M : List (View.Piece (Elt Ideal) S1024x1024 .bf16)) (i : Fin 512) (d : Fin 1024) :
    half x g w wc wout f L s M (ix3 0 i d)
      = outRow (fun d => x (ix3 0 (rowIn s i) d)) (aOf x g w wc X (rowIn s i)) (fun n d => wout (ix3 0 n d)) d := by
  refine (pay2_apply _ _ _ i d).trans ?_
  simp only [aRead_apply x g w wc H, rowsOf_apply]
  rfl

/-- Every row of the tile. -/
theorem tile_apply (H : Starts x g w f L X) (i d : Fin 1024) : tile x g w wc wout f L (ix3 0 i d)
    = outRow (fun d => x (ix3 0 i d)) (aOf x g w wc X i) (fun n d => wout (ix3 0 n d)) d := by
  unfold tile
  refine View.canon_apply_of_pieces (Val := Elt Ideal) (e := .f32)
    (fun y : S1x1024x1024.Idx => outRow (fun d => x (ix3 0 (y 1) d)) (aOf x g w wc X (y 1)) (fun n d => wout (ix3 0 n d)) (y 2)) _ ?_ _ ?_
  swap
  · refine View.cover_of_tiledL (s := S1x1024x1024) _ S1x512x1024.size ?_ _
    sl_kernel_rfl
  rw [List.forall_mem_cons, List.forall_mem_cons]
  have key : ∀ (s : Fin 2) (M) (y : S1x512x1024.Idx) (a b : Fin 1024) (_ : rowIn s (y 1) = a) (_ : y 2 = b),
      half x g w wc wout f L s M y = outRow (fun d => x (ix3 0 a d)) (aOf x g w wc X a) (fun n d => wout (ix3 0 n d)) b := by
    rintro s M y _ _ rfl rfl
    have e : y = (ix3 0 (y 1) (y 2) : S1x512x1024.Idx) := (ValueIdx.eq_ix3 y).trans (congrArg (fun a : Fin 1 => (ix3 a (y 1) (y 2) : S1x512x1024.Idx)) (Subsingleton.elim (α := Fin 1) (y 0) 0))
    exact (congrArg _ e).trans (half_apply x g w wc wout H s M (y 1) (y 2))
  refine ⟨fun y => key 1 _ y _ _ ?_ ?_, fun y => key 0 _ y _ _ ?_ ?_, fun _ h => absurd h List.not_mem_nil⟩
  · exact Fin.ext (show 512 * 1 + (y 1).val = 512 + 1 * (y 1).val by omega)
  · exact Fin.ext (show (y 2).val = 0 + 1 * (y 2).val by omega)
  · exact Fin.ext (show 512 * 0 + (y 1).val = 0 + 1 * (y 1).val by omega)
  · exact Fin.ext (show (y 2).val = 0 + 1 * (y 2).val by omega)

end Over

/-! ## What is left for the next tile, and at the end -/

variable (L : List UStore)

/-- Below the rows before the tile, the stores leave the gated rows. -/
theorem allStores_canon (r : Fin 1032) (d i : Fin 1024) (h : r.val = i.val + 8) :
    View.canon (Val := Elt Ideal) (allStores x g w L) (ix2 r d) = uOf x g w i d := by
  unfold allStores
  rw [← List.append_assoc, ← ext_high x g w (fun _ => 0) r d i h]
  refine View.canon_append_of_pieces (ext x g w fun _ => 0) L _ (fun p hp y => ?_) _ ?_
  · exact (List.mem_append.mp hp).elim (fun hp => uStores_block x g w _ 1 3 p hp y) fun hp => uStores_block x g w _ 0 3 p hp y
  · have hd : colIn ⟨d.val / 256, by omega⟩ ⟨d.val % 256, by omega⟩ = d := Fin.ext (by simp only [colIn]; omega)
    rw [← hd]
    by_cases hi : i.val < 512
    · obtain ⟨p, hp, hm⟩ := uStores_mem x g w 0 3 ⟨d.val / 256, by omega⟩ (mem_upTo_last _) r ⟨d.val % 256, by omega⟩ (by simp <;> omega) (by simp <;> omega)
      exact ⟨p, List.mem_append_right _ hp, hm⟩
    · obtain ⟨p, hp, hm⟩ := uStores_mem x g w 1 3 ⟨d.val / 256, by omega⟩ (mem_upTo_last _) r ⟨d.val % 256, by omega⟩ (by simp <;> omega) (by simp <;> omega)
      exact ⟨p, List.mem_append_left _ hp, hm⟩

theorem lastTwo_apply (n : Fin 2) (d : Fin 1024) : lastTwo x g w L (ix3 0 n d) = uOf x g w ⟨1022 + n.val, by omega⟩ d := by
  unfold lastTwo
  refine Eq.trans (b := scM0_0.view.readCov (allStores x g w L)
    (Rect.unit ![1030, 0] ![2, 1024] inb_S1032x1024_S2x1024_1030_0 : Rect S1032x1024).toLoadRect (ix2 n d : S2x1024.Idx)) (by pointwise [k0_pay3]) ?_
  rw [View.readCov_eq_canon']
  show View.canon _ _ = _
  refine Eq.trans (congrArg _ ?_) (allStores_canon x g w L ⟨1030 + n.val, by omega⟩ d ⟨1022 + n.val, by omega⟩ (by simp only []; omega))
  funext a; fin_cases a
  · exact Fin.ext (show 1030 + 1 * n.val = 1030 + n.val by omega)
  · exact Fin.ext (show 0 + 1 * d.val = d.val by omega)

theorem carried_apply (n : Fin 2) (d : Fin 1024) : carried x g w L (ix2 ⟨6 + n.val, by omega⟩ d) = uOf x g w ⟨1022 + n.val, by omega⟩ d := by
  unfold carried
  have e : (ix2 ⟨6 + n.val, by omega⟩ d : S1032x1024.Idx)
      = (Rect.unit ![0, 0] ![8, 1024] inb_S1032x1024_S8x1024_0_0 : Rect S1032x1024).emb (ix2 ⟨6 + n.val, by omega⟩ d : S8x1024.Idx) := by
    funext a; fin_cases a
    · exact Fin.ext (show 6 + n.val = 0 + 1 * (6 + n.val) by omega)
    · exact Fin.ext (show d.val = 0 + 1 * d.val by omega)
  rw [e, View.canon_cons_emb]
  refine Eq.trans (b := scM0_0.view.readCov (allStores x g w L)
    (Rect.unit ![1024, 0] ![8, 1024] inb_S1032x1024_S8x1024_1024_0 : Rect S1032x1024).toLoadRect (ix2 ⟨6 + n.val, by omega⟩ d : S8x1024.Idx)) (by pointwise [k0_pay4]) ?_
  rw [View.readCov_eq_canon']
  show View.canon _ _ = _
  refine Eq.trans (congrArg _ ?_) (allStores_canon x g w L ⟨1030 + n.val, by omega⟩ d ⟨1022 + n.val, by omega⟩ (by simp only []; omega))
  funext a; fin_cases a
  · exact Fin.ext (show 1024 + 1 * (6 + n.val) = 1030 + n.val by omega)
  · exact Fin.ext (show 0 + 1 * d.val = d.val by omega)

/-- A first tile starts at zeros. -/
theorem starts_zeros (f : UBuf) : Starts x g w f zeros (fun _ => 0) where
  block := by
    unfold zeros
    rw [List.forall_mem_cons]
    refine ⟨fun y => ?_, fun _ h => absurd h List.not_mem_nil⟩
    obtain ⟨r, d, rfl⟩ : ∃ (r : Fin 8) (d : Fin 1024), y = (ix2 r d : S8x1024.Idx) := ⟨y 0, y 1, ValueIdx.eq_ix2 y⟩
    refine Eq.trans (b := (0 : EReal)) (by pointwise [k0_pay10]) (Eq.symm ?_)
    refine (congrArg (ext x g w fun _ => 0) ?_).trans (ext_low x g w (fun _ => 0) ⟨r.val, by omega⟩ d r.isLt)
    funext a; fin_cases a
    · exact Fin.ext (show 0 + 1 * r.val = r.val by omega)
    · exact Fin.ext (show 0 + 1 * d.val = d.val by omega)
  low := fun r d h => .inl ⟨_, List.mem_cons_self, by
    have e : (ix2 r d : S1032x1024.Idx)
        = (Rect.unit ![0, 0] ![8, 1024] inb_S1032x1024_S8x1024_0_0 : Rect S1032x1024).emb (ix2 ⟨r.val, h⟩ d : S8x1024.Idx) := by
      funext a; fin_cases a
      · exact Fin.ext (show r.val = 0 + 1 * r.val by omega)
      · exact Fin.ext (show d.val = 0 + 1 * d.val by omega)
    rw [e]
    exact LoadRect.idx_mem _ _⟩

/-- A second tile starts at what the first one left. -/
theorem starts_unread (hw : scM0_0.IsWhole) (X : Vec Ideal S1032x1024 .f32) : Starts x g w (hw.unread X) [] X where
  block := fun _ h => absurd h List.not_mem_nil
  low := fun r d _ => .inr (congrFun (hw.read_unread X) _)

end Cert.Conv
end
-- ==== Proof.Conv.Blocks.lean ====
module

public import proofs.«01_k».proof.Proof.Conv.TileRows
public import Idealize.ShloMosaic.Lib.Pipeline.ValueKit.Geometry

@[expose] public section

set_option maxRecDepth 16384

noncomputable section

namespace Cert.Conv

open Cert.Kernel3Ideal Cert.Kernel3Ideal.Gen Cert.Retention
open Idealize.ShloMosaic Idealize.ShloMosaic.TcCoe Idealize.SL.Sem
open Idealize.ShloMosaic.Pipeline (Dat)

variable (m : (ℓ : Loc nD τ sig) → Buf (Elt Ideal) ℓ) (c : Dev nD)

/-! # The blocks of the launch, at their coordinates -/

/-- The arguments by coordinates. -/
def args : Args where
  x b t d := (m ((c.tc : Thread nD τ).loc main_arg0) : FVec Ideal S8x2048x1024 .f32) (ix3 b t d)
  g d := (m ((c.tc : Thread nD τ).loc main_arg1) : FVec Ideal S2x1024 .f32) (ix2 0 d)
  w k n := (m ((c.tc : Thread nD τ).loc main_arg2) : FVec Ideal S1x1024x3072 .f32) (ix3 0 k n)
  wc j d := (m ((c.tc : Thread nD τ).loc main_arg3) : FVec Ideal S1x3x1024 .f32) (ix3 0 j d)
  wout n d := (m ((c.tc : Thread nD τ).loc main_arg4) : FVec Ideal S1x1024x1024 .f32) (ix3 0 n d)

/-! The arrays that are computed of the arguments before the launch. -/

theorem V_v0 : V m c main_v0 = (truncf .bf16 (m ((c.tc : Thread nD τ).loc main_arg2) : FVec Ideal S1x1024x3072 .f32) bitsLt_bf16_f32 : FVec Ideal S1x1024x3072 .bf16) := by
  show StableHlo.after hostOps0 _ (Proc.devRef .tc main_v0) = _
  after_results_simp <;> rfl
theorem V_v1 : V m c main_v1 = (truncf .bf16 (m ((c.tc : Thread nD τ).loc main_arg4) : FVec Ideal S1x1024x1024 .f32) bitsLt_bf16_f32 : FVec Ideal S1x1024x1024 .bf16) := by
  show StableHlo.after hostOps0 _ (Proc.devRef .tc main_v1) = _
  after_results_simp <;> rfl
theorem V_v4 : V m c main_v4 = (broadcastInDim S1x1024 ![1] bcast_S1024_S1x1024_1 (shapeCast _ (extractStridedSlice S1x1024 ![0, 0]
    (m ((c.tc : Thread nD τ).loc main_arg1) : FVec Ideal S2x1024 .f32) slices_S2x1024_S1x1024_0_0) shapeCasts_S1x1024_S1024) : FVec Ideal S1x1024 .f32) := by
  show StableHlo.after hostOps0 _ (Proc.devRef .tc main_v4) = _
  after_results_simp <;> rfl

/-- The sequence and the tile of a grid point, and a tile's row in its sequence. -/
def seqAt (t : Fin cfg0.N) : Fin 8 := ⟨t.val / 2, Nat.div_lt_of_lt_mul t.isLt⟩
def tok (t : Fin cfg0.N) (i : Fin 1024) : Fin 2048 := ⟨1024 * (t.val % 2) + i.val, by omega⟩

theorem idx0 : ∀ t : Fin cfg0.N, win0_0.index t = ![t.val / 2, t.val % 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)
theorem idx8 : ∀ t : Fin cfg0.N, win0_8.index t = ![0, t.val, 0] := (by decide +kernel : ∀ t : Fin grid0.N, _)
theorem idx9 : ∀ t : Fin cfg0.N, win0_9.index t = ![0, t.val, 0] := (by decide +kernel : ∀ t : Fin grid0.N, _)
theorem idx10 : ∀ t : Fin cfg0.N, win0_10.index t = ![t.val / 2, t.val % 2, 0] := (by decide +kernel : ∀ t : Fin grid0.N, _)
theorem idx11 : ∀ t : Fin cfg0.N, win0_11.index t = ![t.val / 2, 0, 0] := (by decide +kernel : ∀ t : Fin grid0.N, _)
theorem idx12 : ∀ t : Fin cfg0.N, win0_12.index t = ![0, t.val, 0] := (by decide +kernel : ∀ t : Fin grid0.N, _)
theorem idx13 : ∀ t : Fin cfg0.N, win0_13.index t = ![0, t.val, 0] := (by decide +kernel : ∀ t : Fin grid0.N, _)
theorem idx14 : ∀ t : Fin cfg0.N, win0_14.index t = ![0, t.val, 0] := (by decide +kernel : ∀ t : Fin grid0.N, _)
theorem idx15 : ∀ t : Fin cfg0.N, win0_15.index t = ![0, t.val, 0] := (by decide +kernel : ∀ t : Fin grid0.N, _)
theorem idx16 : ∀ t : Fin cfg0.N, win0_16.index t = ![0, t.val, 0] := (by decide +kernel : ∀ t : Fin grid0.N, _)

theorem blk0 (t : Fin cfg0.N) (i d : Fin 1024) : (iblk m c 0 t : Vec Ideal S1x1024x1024 .f32) (ix3 0 i d) = (args m c).x (seqAt t) (tok t i) d := by
  refine Eq.trans (congrArg (V m c main_arg0) ?_) (congrFun (V_main_arg0 m c) (ix3 (seqAt t) (tok t i) d))
  blk_ext [idx0, seqAt, tok]
theorem blk1 (t : Fin cfg0.N) (d : Fin 1024) : (iblk m c 1 t : Vec Ideal S1x1024 .f32) (ix2 0 d) = (args m c).g d := by
  refine Eq.trans (congrArg (V m c main_v4) (?_ : _ = (ix2 0 d : S1x1024.Idx))) ((congrFun (V_v4 m c) (ix2 0 d)).trans ?_)
  · blk_ext [idx1]
  · pointwise [args]
theorem blk2 (t : Fin cfg0.N) (k : Fin 1024) (n : Fin 3072) : (iblk m c 2 t : Vec Ideal S1x1024x3072 .bf16) (ix3 0 k n) = (args m c).w k n := by
  refine Eq.trans (congrArg (V m c main_v0) (?_ : _ = (ix3 0 k n : S1x1024x3072.Idx))) ((congrFun (V_v0 m c) (ix3 0 k n)).trans ?_)
  · blk_ext [idx2]
  · pointwise [args]
theorem blk3 (t : Fin cfg0.N) (j : Fin 3) (d : Fin 1024) : (iblk m c 3 t : Vec Ideal S1x3x1024 .f32) (ix3 0 j d) = (args m c).wc j d := by
  refine Eq.trans (congrArg (V m c main_arg3) ?_) (congrFun (V_main_arg3 m c) (ix3 0 j d))
  blk_ext [idx3]
theorem blk4 (t : Fin cfg0.N) (n d : Fin 1024) : (iblk m c 4 t : Vec Ideal S1x1024x1024 .bf16) (ix3 0 n d) = (args m c).wout n d := by
  refine Eq.trans (congrArg (V m c main_v1) (?_ : _ = (ix3 0 n d : S1x1024x1024.Idx))) ((congrFun (V_v1 m c) (ix3 0 n d)).trans ?_)
  · blk_ext [idx4]
  · pointwise [args]

end Cert.Conv
end
-- ==== Proof.Conv.Final.lean ====
module

public import proofs.«01_k».proof.Proof.Conv.Blocks

@[expose] public section

set_option maxRecDepth 16384

noncomputable section

namespace Cert.Conv

open Cert.Kernel3Ideal Cert.Kernel3Ideal.Gen Cert.Retention
open Idealize.ShloMosaic Idealize.ShloMosaic.TcCoe Idealize.SL.Sem
open Idealize.ShloMosaic.Pipeline (Dat)

variable (m : (ℓ : Loc nD τ sig) → Buf (Elt Ideal) ℓ) (c : Dev nD)

/-! # The arrays after the run -/

theorem hOf_eq (t : Fin cfg0.N) (i : Fin 1024) : hOf (iblk m c 0 t) (iblk m c 1 t) i = hnRow ((args m c).x (seqAt t) (tok t i)) (args m c).g := by
  unfold hOf
  simp only [blk0, blk1]
theorem uOf_eq (t : Fin cfg0.N) (i : Fin 1024) : uOf (iblk m c 0 t) (iblk m c 1 t) (iblk m c 2 t) i = (args m c).u (seqAt t) (tok t i) := by
  unfold uOf
  rw [hOf_eq]
  simp only [blk2]
  rfl

/-- The two rows before a tile: what the buffer holds in its rows 6 and 7. -/
def Before (t : Fin cfg0.N) (X : Vec Ideal S1032x1024 .f32) : Prop := ∀ (n : Fin 2) (d : Fin 1024),
  X (ix2 ⟨6 + n.val, by omega⟩ d) = (args m c).full (seqAt t) ⟨1024 * (t.val % 2) + n.val, by omega⟩ d

/-- The buffer from its row 6 on: the sequence's gated rows, from the second before the tile. -/
theorem ext_eq (t : Fin cfg0.N) (X : Vec Ideal S1032x1024 .f32) (hX : Before m c t X) (r : ℕ) (hr : r < 1026) (d : Fin 1024) :
    ext (iblk m c 0 t) (iblk m c 1 t) (iblk m c 2 t) X (ix2 ⟨6 + r, by omega⟩ d)
      = (args m c).full (seqAt t) ⟨1024 * (t.val % 2) + r, by omega⟩ d := by
  by_cases h : r < 2
  · exact (ext_low _ _ _ X ⟨6 + r, by omega⟩ d (by simp only []; omega)).trans (hX ⟨r, h⟩ d)
  · refine (ext_high _ _ _ X ⟨6 + r, by omega⟩ d ⟨r - 2, by omega⟩ (by simp only []; omega)).trans ?_
    rw [uOf_eq, ← Args.full_add_two]
    congr 1
    exact Fin.ext (show 1024 * (t.val % 2) + (r - 2) + 2 = 1024 * (t.val % 2) + r by omega)

theorem tile_eq (t : Fin cfg0.N) (f : UBuf) (L : List UStore) (X : Vec Ideal S1032x1024 .f32)
    (H : Starts (iblk m c 0 t) (iblk m c 1 t) (iblk m c 2 t) f L X) (hX : Before m c t X) (i d : Fin 1024) :
    tile (iblk m c 0 t) (iblk m c 1 t) (iblk m c 2 t) (iblk m c 3 t) (iblk m c 4 t) f L (ix3 0 i d)
      = (args m c).out (seqAt t) (tok t i) d := by
  refine (tile_apply _ _ _ _ _ H i d).trans ?_
  unfold aOf
  rw [hOf_eq, uOf_eq, ← Args.full_add_two]
  have e0 : (fun d => ext (iblk m c 0 t) (iblk m c 1 t) (iblk m c 2 t) X (ix2 ⟨6 + i.val, by omega⟩ d))
      = (args m c).full (seqAt t) ⟨(tok t i).val, by omega⟩ := by
    funext d; exact ext_eq m c t X hX i.val (by omega) d
  have e1 : (fun d => ext (iblk m c 0 t) (iblk m c 1 t) (iblk m c 2 t) X (ix2 ⟨7 + i.val, by omega⟩ d))
      = (args m c).full (seqAt t) ⟨(tok t i).val + 1, by omega⟩ := by
    funext d
    refine Eq.trans ?_ (ext_eq m c t X hX (i.val + 1) (by omega) d)
    congr 2; exact Fin.ext (show 7 + i.val = 6 + (i.val + 1) by omega)
  rw [e0, e1]
  simp only [blk0, blk2, blk3, blk4]
  rfl

theorem before_even (t : Fin cfg0.N) (h : t.val % 2 = 0) : Before m c t (fun _ => 0) := fun n d => by
  unfold Args.full
  rw [dif_pos (by simp only [h]; omega)]

/-- The tile before, of the same sequence. -/
def prev (t : Fin cfg0.N) : Fin cfg0.N := ⟨t.val - 1, by omega⟩

theorem before_odd (t : Fin cfg0.N) (h : ¬ t.val % 2 = 0) : Before m c t (outsAt0 m c (prev t).val (prev t).isLt).2.2.2.2.2.2.2 := fun n d => by
  have hp : (prev t).val % 2 = 0 := by simp only [prev]; omega
  rw [outsAt0_even m c (prev t) hp]
  dsimp only
  refine (carried_apply _ _ _ _ n d).trans ?_
  rw [uOf_eq, ← Args.full_add_two]
  congr 1
  · exact Fin.ext (show (t.val - 1) / 2 = t.val / 2 by omega)
  · refine Fin.ext (show 1024 * ((t.val - 1) % 2) + (1022 + n.val) + 2 = 1024 * (t.val % 2) + n.val by omega)

theorem whole : scM0_0.IsWhole := Memref.isWhole_whole _

/-- The rows out at every point. -/
theorem rows_eq (t : Fin cfg0.N) (i d : Fin 1024) :
    (outsAt0 m c t.val t.isLt).1 (ix3 0 i d) = (args m c).out (seqAt t) (tok t i) d := by
  by_cases h : t.val % 2 = 0
  · rw [outsAt0_even m c t h]
    dsimp only
    exact tile_eq m c t _ _ _ (starts_zeros _ _ _ _) (before_even m c t h) i d
  · rw [outsAt0_odd m c t h whole]
    dsimp only
    exact tile_eq m c t _ _ _ (starts_unread _ _ _ whole _) (before_odd m c t h) i d

/-- The rows after the last token's, at a sequence's last point. -/
theorem last_eq (t : Fin cfg0.N) (h : ¬ t.val % 2 = 0) (n : Fin 2) (d : Fin 1024) :
    (outsAt0 m c t.val t.isLt).2.1 (ix3 0 n d) = (args m c).full (seqAt t) ⟨2048 + n.val, by omega⟩ d := by
  rw [outsAt0_odd m c t h whole]
  dsimp only
  refine (lastTwo_apply _ _ _ _ n d).trans ?_
  rw [uOf_eq, ← Args.full_add_two]
  congr 1
  exact Fin.ext (show 1024 * (t.val % 2) + (1022 + n.val) + 2 = 2048 + n.val by omega)

/-- The casts at every point. -/
theorem casts_eq (t : Fin cfg0.N) : (outsAt0 m c t.val t.isLt).2.2.1 = k0_pay5 (iblk m c 5 t)
    ∧ (outsAt0 m c t.val t.isLt).2.2.2.1 = k0_pay6 (iblk m c 6 t) ∧ (outsAt0 m c t.val t.isLt).2.2.2.2.1 = k0_pay7 (iblk m c 7 t)
    ∧ (outsAt0 m c t.val t.isLt).2.2.2.2.2.1 = k0_pay8 (iblk m c 8 t)
    ∧ (outsAt0 m c t.val t.isLt).2.2.2.2.2.2.1 = k0_pay11 (k0_pay9 (iblk m c 9 t)) := by
  by_cases h : t.val % 2 = 0
  · rw [outsAt0_even m c t h]; exact ⟨rfl, rfl, rfl, rfl, rfl⟩
  · rw [outsAt0_odd m c t h whole]; exact ⟨rfl, rfl, rfl, rfl, rfl⟩

/-- The rows out, the last two gated rows of each sequence, and a layer of weights cast. -/
def finalX (A : Args) : Vec Ideal S8x2048x1024 .f32 := fun i => A.out (i 0) (i 1) (i 2)
def finalC (A : Args) : Vec Ideal S8x2x1024 .f32 := fun i =>
  A.full (i 0) ⟨2048 + (i 1).val, by have : (i 1).val < 2 := (i 1).isLt; omega⟩ (i 2)
def first1 (w : Vec Ideal S2x1024x2816 .f32) : Vec Ideal S1x1024x2816 .bf16 := fun i => w (ix3 0 (i 1) (i 2))
def first2 (w : Vec Ideal S2x2816x1024 .f32) : Vec Ideal S1x2816x1024 .bf16 := fun i => w (ix3 0 (i 1) (i 2))

theorem unit3 {a b : ℕ} (y : (⟨3, ![1, a, b]⟩ : Shape).Idx) : y = ix3 0 (y 1) (y 2) := by
  refine (ValueIdx.eq_ix3 y).trans ?_
  rw [show y 0 = (0 : Fin 1) from Subsingleton.elim (α := Fin 1) _ _]; rfl

theorem final10 : (dats m 0 c).arrAt 10 cfg0.N = finalX (args m c) := by
  refine (dats m 0 c).arrAt_eq_of_covers 10 _ (by decide +kernel) fun t hf y => ?_
  blk_simp
  rw [after0_10]
  refine (congrArg (outsAt0 m c t.val t.isLt).1 (unit3 (a := 1024) (b := 1024) y)).trans ((rows_eq m c t (y 1) (y 2)).trans ?_)
  unfold finalX
  congr 1 <;> (apply Fin.ext; blk_simp [idx10, seqAt, tok])
  exact congrArg (· + _) (Nat.mul_comm _ _)

theorem final11 : (dats m 0 c).arrAt 11 cfg0.N = finalC (args m c) := by
  refine (dats m 0 c).arrAt_eq_of_covers 11 _ (by decide +kernel) fun t hf y => ?_
  blk_simp
  rw [after0_11]
  have ht : t.val % 2 = 1 := (flush0_11 t).mp hf
  refine (congrArg (outsAt0 m c t.val t.isLt).2.1 (unit3 (a := 2) (b := 1024) y)).trans ((last_eq m c t (by omega) (y 1) (y 2)).trans ?_)
  unfold finalC
  congr 1 <;> (apply Fin.ext; blk_simp [idx11, seqAt])

theorem pay5_apply (v : Vec Ideal S1x64x2816 .f32) (i : Fin 64) (j : Fin 2816) : k0_pay5 v (ix3 0 i j) = v (ix3 0 i j) := by
  pointwise [k0_pay5]
theorem pay6_apply (v : Vec Ideal S1x64x2816 .f32) (i : Fin 64) (j : Fin 2816) : k0_pay6 v (ix3 0 i j) = v (ix3 0 i j) := by
  pointwise [k0_pay6]
theorem pay7_apply (v : Vec Ideal S1x176x1024 .f32) (i : Fin 176) (j : Fin 1024) : k0_pay7 v (ix3 0 i j) = v (ix3 0 i j) := by
  pointwise [k0_pay7]
theorem pay8_apply (v : Vec Ideal S1x64x6144 .f32) (i : Fin 64) (j : Fin 6144) : k0_pay8 v (ix3 0 i j) = v (ix3 0 i j) := by
  pointwise [k0_pay8]
theorem pay9_apply (v : Vec Ideal S1x128x1024 .f32) (i : Fin 128) (j : Fin 1024) : k0_pay11 (k0_pay9 v) (ix3 0 i j) = v (ix3 0 i j) := by
  pointwise [k0_pay11, k0_pay9]

theorem final12 : (dats m 0 c).arrAt 12 cfg0.N = first1 (m ((c.tc : Thread nD τ).loc main_arg5)) := by
  refine (dats m 0 c).arrAt_eq_of_covers 12 _ (by decide +kernel) fun t hf y => ?_
  blk_simp
  rw [after0_12, (casts_eq m c t).1]
  refine (congrArg (k0_pay5 (iblk m c 5 t)) (unit3 (a := 64) (b := 2816) y)).trans ((pay5_apply _ (y 1) (y 2)).trans ?_)
  refine (congrFun (V_main_arg5 m c) _).trans (congrArg (m ((c.tc : Thread nD τ).loc main_arg5)) ?_)
  blk_ext [idx5, idx12]

theorem final13 : (dats m 0 c).arrAt 13 cfg0.N = first1 (m ((c.tc : Thread nD τ).loc main_arg6)) := by
  refine (dats m 0 c).arrAt_eq_of_covers 13 _ (by decide +kernel) fun t hf y => ?_
  blk_simp
  rw [after0_13, (casts_eq m c t).2.1]
  refine (congrArg (k0_pay6 (iblk m c 6 t)) (unit3 (a := 64) (b := 2816) y)).trans ((pay6_apply _ (y 1) (y 2)).trans ?_)
  refine (congrFun (V_main_arg6 m c) _).trans (congrArg (m ((c.tc : Thread nD τ).loc main_arg6)) ?_)
  blk_ext [idx6, idx13]

theorem final14 : (dats m 0 c).arrAt 14 cfg0.N = first2 (m ((c.tc : Thread nD τ).loc main_arg7)) := by
  refine (dats m 0 c).arrAt_eq_of_covers 14 _ (by decide +kernel) fun t hf y => ?_
  blk_simp
  rw [after0_14, (casts_eq m c t).2.2.1]
  refine (congrArg (k0_pay7 (iblk m c 7 t)) (unit3 (a := 176) (b := 1024) y)).trans ((pay7_apply _ (y 1) (y 2)).trans ?_)
  refine (congrFun (V_main_arg7 m c) _).trans (congrArg (m ((c.tc : Thread nD τ).loc main_arg7)) ?_)
  blk_ext [idx7, idx14]

theorem final15 : (dats m 0 c).arrAt 15 cfg0.N = (m ((c.tc : Thread nD τ).loc main_arg8) : Vec Ideal S1x1024x6144 .f32) := by
  refine (dats m 0 c).arrAt_eq_of_covers 15 _ (by decide +kernel) fun t hf y => ?_
  blk_simp
  rw [after0_15, (casts_eq m c t).2.2.2.1]
  refine (congrArg (k0_pay8 (iblk m c 8 t)) (unit3 (a := 64) (b := 6144) y)).trans ((pay8_apply _ (y 1) (y 2)).trans ?_)
  refine (congrFun (V_main_arg8 m c) _).trans (congrArg (m ((c.tc : Thread nD τ).loc main_arg8)) ?_)
  blk_ext [idx8, idx15]

theorem final16 : (dats m 0 c).arrAt 16 cfg0.N = (m ((c.tc : Thread nD τ).loc main_arg9) : Vec Ideal S1x2048x1024 .f32) := by
  refine (dats m 0 c).arrAt_eq_of_covers 16 _ (by decide +kernel) fun t hf y => ?_
  blk_simp
  rw [after0_16, (casts_eq m c t).2.2.2.2]
  refine (congrArg (k0_pay11 (k0_pay9 (iblk m c 9 t))) (unit3 (a := 128) (b := 1024) y)).trans ((pay9_apply _ (y 1) (y 2)).trans ?_)
  refine (congrFun (V_main_arg9 m c) _).trans (congrArg (m ((c.tc : Thread nD τ).loc main_arg9)) ?_)
  blk_ext [idx9, idx16]

/-- The run: what each result holds, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v5_0) = finalX (args m c)
      ∧ r.2.mem ((c.tc : Thread nD τ).loc main_v5_1) = finalC (args m c)
      ∧ r.2.mem ((c.tc : Thread nD τ).loc main_v5_2) = first1 (m ((c.tc : Thread nD τ).loc main_arg5))
      ∧ r.2.mem ((c.tc : Thread nD τ).loc main_v5_3) = first1 (m ((c.tc : Thread nD τ).loc main_arg6))
      ∧ r.2.mem ((c.tc : Thread nD τ).loc main_v5_4) = first2 (m ((c.tc : Thread nD τ).loc main_arg7))
      ∧ r.2.mem ((c.tc : Thread nD τ).loc main_v5_5) = (m ((c.tc : Thread nD τ).loc main_arg8) : Vec Ideal S1x1024x6144 .f32)
      ∧ r.2.mem ((c.tc : Thread nD τ).loc main_v5_6) = (m ((c.tc : Thread nD τ).loc main_arg9) : Vec Ideal S1x2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h.2 c).1 10).trans (final10 m c), ((h.2 c).1 11).trans (final11 m c), ((h.2 c).1 12).trans (final12 m c),
      ((h.2 c).1 13).trans (final13 m c), ((h.2 c).1 14).trans (final14 m c), ((h.2 c).1 15).trans (final15 m c),
      ((h.2 c).1 16).trans (final16 m c), h.1 c⟩)
    (θ_run_and (unchanged m ρ) (run_main m ρ))

end Cert.Conv
end
-- ==== Proof.Conv.Reference.lean ====
module

public import proofs.«01_k».proof.Proof.Gen.Reference3Ideal.Run
public import proofs.«01_k».proof.Proof.Conv.Rows
public import Idealize.ShloMosaic.Lib.Pointwise

@[expose] public section

set_option maxRecDepth 16384

noncomputable section

namespace Cert.Conv.Reference

open Cert.Reference3Ideal Cert.Reference3Ideal.Gen Cert.Retention
open Idealize.ShloMosaic Idealize.ShloMosaic.TcCoe Idealize.SL.Sem Idealize.ShloMosaic.StableHlo

/-! # The reference, stage by stage -/

variable (x : FVec Ideal S8x2048x1024 .f32) (g : FVec Ideal S2x1024 .f32) (w : FVec Ideal S1x1024x3072 .f32)
  (wc : FVec Ideal S1x3x1024 .f32) (wout : FVec Ideal S1x1024x1024 .f32)
  (z : FVec Ideal S8x2048x3072 .f32) (u a : FVec Ideal S8x2048x1024 .f32) (f : FVec Ideal S8x2050x1024 .f32)

/-- The normalised rows. -/
def normed : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] g slices_S2x1024_S1x1024_0_0) shapeCasts_S1x1024_S1024)))

/-- The projection. -/
def projected : FVec Ideal S8x2048x3072 .f32 :=
  Host.dotGeneral dot_S8x2048x1024_S1024x3072_S8x2048x3072_2_0_01_1_n_n none x (shapeCast _ w shapeCasts_S1x1024x3072_S1024x3072)

/-- The gated rows. -/
def gatedRows : FVec Ideal S8x2048x1024 .f32 :=
  mulf (extractStridedSlice S8x2048x1024 ![0, 0, 1024] z slices_S8x2048x3072_S8x2048x1024_0_0_1024) (extractStridedSlice S8x2048x1024 ![0, 0, 2048] z slices_S8x2048x3072_S8x2048x1024_0_0_2048)

/-- The gated rows after two rows of zeros. -/
def padded : FVec Ideal S8x2050x1024 .f32 :=
  concatenate S8x2050x1024 1 [⟨S8x2x1024, (broadcastInDim S8x2x1024 ![] bcast_S_S8x2x1024 (constant S_ .f32 0x00000000#32))⟩, ⟨S8x2048x1024, u⟩] concatenates_S8x2x1024_S8x2048x1024_S8x2050x1024_d1

/-- The convolution, gated. -/
def mixed : FVec Ideal S8x2048x1024 .f32 :=
  mulf (extractStridedSlice S8x2048x1024 ![0, 0, 0] z slices_S8x2048x3072_S8x2048x1024_0_0_0) (addf (addf (addf (broadcastInDim S8x2048x1024 ![] bcast_S_S8x2048x1024 (constant S_ .f32 0x00000000#32)) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 0, 0] wc slices_S1x3x1024_S1x1x1024_0_0_0) shapeCasts_S1x1x1024_S1024))) (extractStridedSlice S8x2048x1024 ![0, 0, 0] f slices_S8x2050x1024_S8x2048x1024_0_0_0))) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 1, 0] wc slices_S1x3x1024_S1x1x1024_0_1_0) shapeCasts_S1x1x1024_S1024))) (extractStridedSlice S8x2048x1024 ![0, 1, 0] f slices_S8x2050x1024_S8x2048x1024_0_1_0))) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 2, 0] wc slices_S1x3x1024_S1x1x1024_0_2_0) shapeCasts_S1x1x1024_S1024))) (extractStridedSlice S8x2048x1024 ![0, 2, 0] f slices_S8x2050x1024_S8x2048x1024_0_2_0)))

/-- The rows out. -/
def rowsOut : FVec Ideal S8x2048x1024 .f32 :=
  addf x (Host.dotGeneral dot_S8x2048x1024_S1024x1024_S8x2048x1024_2_0_01_1_n_n none a (shapeCast _ wout shapeCasts_S1x1024x1024_S1024x1024))

theorem normed_apply (b : Fin 8) (t : Fin 2048) (d : Fin 1024) :
    normed x g (ix3 b t d) = hnRow (fun d => x (ix3 b t d)) (fun d => g (ix2 0 d)) d := by
  pointwise [normed, hnRow, eps]
theorem projected_apply (b : Fin 8) (t : Fin 2048) (n : Fin 3072) :
    projected x w (ix3 b t n) = proj (fun d => x (ix3 b t d)) (fun d n => w (ix3 0 d n)) n := by
  pointwise [projected, proj]
theorem gatedRows_apply (b : Fin 8) (t : Fin 2048) (d : Fin 1024) :
    gatedRows z (ix3 b t d) = z (ix3 b t (cCol d)) * z (ix3 b t (hCol d)) := by
  pointwise [gatedRows, cCol, hCol]
theorem padded_apply (b : Fin 8) (n : Fin 2050) (d : Fin 1024) :
    padded u (ix3 b n d) = if h : n.val < 2 then 0 else u (ix3 b ⟨n.val - 2, by omega⟩ d) := by
  pointwise [padded]
theorem mixed_apply (b : Fin 8) (t : Fin 2048) (d : Fin 1024) :
    mixed wc z f (ix3 b t d) = z (ix3 b t (bCol d)) * (wc (ix3 0 0 d) * f (ix3 b ⟨t.val, by omega⟩ d) + wc (ix3 0 1 d) * f (ix3 b ⟨t.val + 1, by omega⟩ d)
      + wc (ix3 0 2 d) * f (ix3 b ⟨t.val + 2, by omega⟩ d)) := by
  pointwise [mixed, bCol]
  simp only [Nat.add_comm 1, Nat.add_comm 2]
theorem rowsOut_apply (b : Fin 8) (t : Fin 2048) (d : Fin 1024) :
    rowsOut x wout a (ix3 b t d) = outRow (fun d => x (ix3 b t d)) (fun d => a (ix3 b t d)) (fun n d => wout (ix3 0 n d)) d := by
  pointwise [rowsOut, outRow]

variable (m : (ℓ : Loc nD τ sig) → Buf (Elt Ideal) ℓ) (c : Dev nD)

/-- The arguments on a device. -/
def args : Args where
  x b t d := (m ((c.tc : Thread nD τ).loc main_arg0) : FVec Ideal S8x2048x1024 .f32) (ix3 b t d)
  g d := (m ((c.tc : Thread nD τ).loc main_arg1) : FVec Ideal S2x1024 .f32) (ix2 0 d)
  w k n := (m ((c.tc : Thread nD τ).loc main_arg2) : FVec Ideal S1x1024x3072 .f32) (ix3 0 k n)
  wc j d := (m ((c.tc : Thread nD τ).loc main_arg3) : FVec Ideal S1x3x1024 .f32) (ix3 0 j d)
  wout n d := (m ((c.tc : Thread nD τ).loc main_arg4) : FVec Ideal S1x1024x1024 .f32) (ix3 0 n d)

/-- The projection, and the padded gated rows, of the arguments. -/
def projectedOf : FVec Ideal S8x2048x3072 .f32 :=
  projected (normed (m ((c.tc : Thread nD τ).loc main_arg0)) (m ((c.tc : Thread nD τ).loc main_arg1))) (m ((c.tc : Thread nD τ).loc main_arg2))
def paddedOf : FVec Ideal S8x2050x1024 .f32 := padded (gatedRows (projectedOf m c))

theorem out_eq : Value.res_main_v48 m c
    = rowsOut (m ((c.tc : Thread nD τ).loc main_arg0)) (m ((c.tc : Thread nD τ).loc main_arg4))
        (mixed (m ((c.tc : Thread nD τ).loc main_arg3)) (projectedOf m c) (paddedOf m c)) := rfl

theorem projectedOf_apply (b : Fin 8) (t : Fin 2048) (n : Fin 3072) :
    projectedOf m c (ix3 b t n) = proj (hnRow ((args m c).x b t) (args m c).g) (args m c).w n := by
  refine (projected_apply _ _ b t n).trans ?_
  simp only [normed_apply]
  rfl
theorem paddedOf_apply (b : Fin 8) (n : Fin 2050) (d : Fin 1024) : paddedOf m c (ix3 b n d) = (args m c).full b n d := by
  refine (padded_apply _ b n d).trans ?_
  simp only [gatedRows_apply, projectedOf_apply]
  rfl

/-- Every row of the first result is the row function of the arguments. -/
theorem out_apply (b : Fin 8) (t : Fin 2048) (d : Fin 1024) :
    (Value.res_main_v48 m c : FVec Ideal S8x2048x1024 .f32) (ix3 b t d) = (args m c).out b t d := by
  rw [out_eq]
  refine (rowsOut_apply _ _ _ b t d).trans ?_
  simp only [mixed_apply, projectedOf_apply, paddedOf_apply]
  rfl

end Cert.Conv.Reference
end
-- ==== Proof.Conv.Claims.lean ====
module

public import proofs.«01_k».proof.Defs
public import proofs.«01_k».proof.Proof.Conv.Final
public import proofs.«01_k».proof.Proof.Conv.Reference
public import proofs.«01_k».proof.Proof.Gen.Kernel3.Frame
public import Idealize.ShloMosaic.Lib.Quiescent

@[expose] public section

set_option maxRecDepth 16384

noncomputable section

/-! # The claims of the short convolution over the prompt -/

namespace Cert.Conv.Claims

open Idealize.ShloMosaic Idealize.SL.Sem Cert.Conv Cert.Retention

theorem kernel : Cert.quiescent_Kernel3 := fun m ρ _ => Cert.Kernel3.Gen.frame m ρ
theorem kernelIdeal : Cert.quiescent_Kernel3Ideal := fun m ρ _ => Cert.Kernel3Ideal.Gen.frame m ρ
theorem referenceIdeal : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)
theorem preserves : Cert.preserves_Kernel3_Kernel3Ideal := trivial

section Reference

open Cert.Reference3Ideal Cert.Reference3Ideal.Gen

variable (m : (ℓ : Loc nD τ sig) → Buf (Elt Ideal) ℓ) (c : Dev nD)

/-! The reference's results, as the functions that the kernel's are. -/

theorem rows_reference : (Value.res_main_v48 m c : FVec Ideal S8x2048x1024 .f32) = finalX (Reference.args m c) := by
  funext i
  exact (congrArg _ (ValueIdx.eq_ix3 i)).trans (Reference.out_apply m c (i 0) (i 1) (i 2))
theorem state_reference : extractStridedSlice S8x2x1024 ![0, 2048, 0] (Reference.paddedOf m c) slices_S8x2050x1024_S8x2x1024_0_2048_0
    = finalC (Reference.args m c) := by
  have e (n : Fin 8) (j : Fin 2) (d : Fin 1024) : extractStridedSlice S8x2x1024 ![0, 2048, 0] (Reference.paddedOf m c) slices_S8x2050x1024_S8x2x1024_0_2048_0 (ix3 n j d)
      = Reference.paddedOf m c (ix3 n ⟨2048 + j.val, by omega⟩ d) := by pointwise
  funext i
  exact (congrArg _ (ValueIdx.eq_ix3 i)).trans ((e (i 0) (i 1) (i 2)).trans (Reference.paddedOf_apply m c _ _ _))
theorem cast1_reference (w : FVec Ideal S2x1024x2816 .f32) :
    (truncf .bf16 (extractStridedSlice S1x1024x2816 ![0, 0, 0] w slices_S2x1024x2816_S1x1024x2816_0_0_0) bitsLt_bf16_f32 : FVec Ideal S1x1024x2816 .bf16) = first1 w := by
  have e (j : Fin 1024) (d : Fin 2816) : (truncf .bf16 (extractStridedSlice S1x1024x2816 ![0, 0, 0] w slices_S2x1024x2816_S1x1024x2816_0_0_0) bitsLt_bf16_f32
      : FVec Ideal S1x1024x2816 .bf16) (ix3 0 j d) = w (ix3 0 j d) := by pointwise
  funext i
  exact (congrArg _ (unit3 i)).trans (e (i 1) (i 2))
theorem cast2_reference (w : FVec Ideal S2x2816x1024 .f32) :
    (truncf .bf16 (extractStridedSlice S1x2816x1024 ![0, 0, 0] w slices_S2x2816x1024_S1x2816x1024_0_0_0) bitsLt_bf16_f32 : FVec Ideal S1x2816x1024 .bf16) = first2 w := by
  have e (j : Fin 2816) (d : Fin 1024) : (truncf .bf16 (extractStridedSlice S1x2816x1024 ![0, 0, 0] w slices_S2x2816x1024_S1x2816x1024_0_0_0) bitsLt_bf16_f32
      : FVec Ideal S1x2816x1024 .bf16) (ix3 0 j d) = w (ix3 0 j d) := by pointwise
  funext i
  exact (congrArg _ (unit3 i)).trans (e (i 1) (i 2))

end Reference

theorem algebraic : Cert.algebraic_Kernel3Ideal_Reference3Ideal := by
  intro m ρ m' ρ' _ hagree
  refine ⟨_, _, _, _, _, _, _, run m ρ, ?_⟩
  refine (θ_run Cert.Reference3Ideal.defs _ _).mono (fun _ h c => ?_) (Cert.Reference3Ideal.Value.run (F := Ideal) m' ρ')
  obtain ⟨h0, h1, h2, h3, h4, h5, h6, h7, h8, h9⟩ := hagree c
  have e : Reference.args m' c = args m c := by
    unfold Reference.args args
    rw [h0, h1, h2, h3, h4]
  obtain ⟨r0, r1, r2, r3, r4, r5, r6, r⟩ := h c
  exact ⟨r0.trans ((rows_reference m' c).trans (congrArg finalX e)), r1.trans ((state_reference m' c).trans (congrArg finalC e)),
    r2.trans ((cast1_reference _).trans (congrArg first1 h5)), r3.trans ((cast1_reference _).trans (congrArg first1 h6)),
    r4.trans ((cast2_reference _).trans (congrArg first2 h7)), r5.trans h8, r6.trans h9, r⟩

end Cert.Conv.Claims
end
-- ==== Proof.Sample.Rows.lean ====
module

public import proofs.«01_k».proof.Proof.Ffn.Rows

@[expose] public section

noncomputable section

namespace Cert.Sample

open Idealize.ShloMosaic Cert.Retention

/-! # One sampled token's row through the rest of the layer

The retention's outputs of a token are given, and its gates. Both programs compute these functions of them. -/

/-- A head's output, normalised over the head, weighted, and multiplied by the gates. -/
def gateRow (o s gn : Fin 512 → EReal) (e : Fin 512) : EReal :=
  let mean := Ideal.div (∑ k : Fin 512, o k) (Ideal.ofBits .f32 0x44000000#32)
  s e * ((o e - mean) * Ideal.rsqrt (Ideal.div (∑ k : Fin 512, (o k - mean) * (o k - mean)) (Ideal.ofBits .f32 0x44000000#32) + eps) * gn e)

/-- A head's column among those of all heads. -/
def headCol (h : Fin 4) (e : Fin 512) : Fin 2048 := ⟨512 * h.val + e.val, by omega⟩

/-- All heads side by side. -/
def actRow (o s gn : Fin 2048 → EReal) (n : Fin 2048) : EReal :=
  gateRow (fun e => o (headCol ⟨n.val / 512, by omega⟩ e)) (fun e => s (headCol ⟨n.val / 512, by omega⟩ e))
    (fun e => gn (headCol ⟨n.val / 512, by omega⟩ e)) ⟨n.val % 512, by omega⟩

theorem actRow_headCol (o s gn : Fin 2048 → EReal) (h : Fin 4) (e : Fin 512) :
    actRow o s gn (headCol h e) = gateRow (fun e => o (headCol h e)) (fun e => s (headCol h e)) (fun e => gn (headCol h e)) e := by
  have h1 : (⟨(headCol h e).val / 512, by omega⟩ : Fin 4) = h := Fin.ext (by simp only [headCol]; omega)
  have h2 : (⟨(headCol h e).val % 512, by omega⟩ : Fin 512) = e := Fin.ext (by simp only [headCol]; omega)
  unfold actRow
  rw [h1, h2]

/-- The row out: the heads projected and added to the row in, then the feed-forward layer and the last norm. -/
def sampleRow (x : Fin 1024 → EReal) (o s gn : Fin 2048 → EReal) (wo : Fin 2048 → Fin 1024 → EReal) (g : Fin 1024 → EReal)
    (wg wu : Fin 1024 → Fin 2816 → EReal) (wd : Fin 2816 → Fin 1024 → EReal) (fin : Fin 1024 → EReal) : Fin 1024 → EReal :=
  Ffn.outRow (yRow x (actRow o s gn) wo) g wg wu wd fin

end Cert.Sample
end
-- ==== Proof.Sample.Tile.lean ====
module

public import proofs.«01_k».proof.Proof.Gen.Kernel4Ideal.Frame
public import proofs.«01_k».proof.Proof.Sample.Rows
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.Sample

open Cert.Kernel4Ideal Cert.Kernel4Ideal.Gen Cert.Retention
open Idealize.ShloMosaic Idealize.ShloMosaic.TcCoe Idealize.ShloMosaic.Tactic
open Idealize.ShloMosaic.Pipeline (Dat Cfg Window)

/-! # What the body leaves in the array of rows

The body copies the weights in, stores the gated heads in four blocks of columns and the hidden rows in eleven, and reads
each back whole. -/

/-- The weights as copied in. -/
def broughtO (w : Vec Ideal S1x2048x1024 .bf16) : Vec Ideal S2048x1024 .bf16 :=
  View.read (Elt Ideal) (((View.whole main_arg4).slice (Rect.unit ![0, 0, 0] ![1, 2048, 1024] inb_S1x2048x1024_S1x2048x1024_0_0_0)).reshape S2048x1024 (by decide)) w
def broughtG (w : Vec Ideal S1x1024x2816 .bf16) : Vec Ideal S1024x2816 .bf16 :=
  View.read (Elt Ideal) (((View.whole main_arg6).slice (Rect.unit ![0, 0, 0] ![1, 1024, 2816] inb_S1x1024x2816_S1x1024x2816_0_0_0)).reshape S1024x2816 (by decide)) w
def broughtU (w : Vec Ideal S1x1024x2816 .bf16) : Vec Ideal S1024x2816 .bf16 :=
  View.read (Elt Ideal) (((View.whole main_arg7).slice (Rect.unit ![0, 0, 0] ![1, 1024, 2816] inb_S1x1024x2816_S1x1024x2816_0_0_0)).reshape S1024x2816 (by decide)) w
def broughtD (w : Vec Ideal S1x2816x1024 .bf16) : Vec Ideal S2816x1024 .bf16 :=
  View.read (Elt Ideal) (((View.whole main_arg8).slice (Rect.unit ![0, 0, 0] ![1, 2816, 1024] inb_S1x2816x1024_S1x2816x1024_0_0_0)).reshape S2816x1024 (by decide)) w

/-- Two of them read back whole, and a slice of columns of the other two. -/
def keptO (w : Vec Ideal S2048x1024 .bf16) : Vec Ideal S2048x1024 .bf16 :=
  scM0_0.view.readCov [⟨Rect.whole S2048x1024, w⟩] (Rect.unit ![0, 0] ![2048, 1024] inb_S2048x1024_S2048x1024_0_0 : Rect S2048x1024).toLoadRect
def keptG (w : Vec Ideal S1024x2816 .bf16) (k : Fin 11) : Vec Ideal S1024x256 .bf16 :=
  scM0_1.view.readCov [⟨Rect.whole S1024x2816, w⟩]
    (Rect.unit ![0, 256 * k.val] ![1024, 256] (by intro a; fin_cases a <;> simp <;> omega) : Rect S1024x2816).toLoadRect
def keptU (w : Vec Ideal S1024x2816 .bf16) (k : Fin 11) : Vec Ideal S1024x256 .bf16 :=
  scM0_2.view.readCov [⟨Rect.whole S1024x2816, w⟩]
    (Rect.unit ![0, 256 * k.val] ![1024, 256] (by intro a; fin_cases a <;> simp <;> omega) : Rect S1024x2816).toLoadRect
def keptD (w : Vec Ideal S2816x1024 .bf16) : Vec Ideal S2816x1024 .bf16 :=
  scM0_3.view.readCov [⟨Rect.whole S2816x1024, w⟩] (Rect.unit ![0, 0] ![2816, 1024] inb_S2816x1024_S2816x1024_0_0 : Rect S2816x1024).toLoadRect

section Tile

variable (x : Vec Ideal S512x1024 .f32) (o s : Vec Ideal S512x2048 .f32) (gn : Vec Ideal S1x2048 .f32) (g fin : Vec Ideal S1x1024 .f32)
  (wo : Vec Ideal S2048x1024 .bf16) (wg wu : Vec Ideal S1024x2816 .bf16) (wd : Vec Ideal S2816x1024 .bf16)

/-- Where a head's columns lie. -/
def headPlace (h : Fin 4) : Rect S512x2048 :=
  Rect.unit ![0, 512 * h.val] ![512, 512] (by intro a; fin_cases a <;> simp <;> omega)
/-- A head's weights of the norm. -/
def headWeight (h : Fin 4) : Vec Ideal S1x512 .f32 :=
  View.ld gn (Rect.unit ![0, 512 * h.val] ![1, 512] (by intro a; fin_cases a <;> simp <;> omega))
/-- Where a slice of the hidden rows is stored. -/
def slicePlace (k : Fin 11) : Rect S512x2816 :=
  Rect.unit ![0, 256 * k.val] ![512, 256] (by intro a; fin_cases a <;> simp <;> omega)

/-- The stores of the heads, the last first, and the heads read back. -/
def headStores : List (View.Piece (Elt Ideal) S512x2048 .bf16) :=
  ([3, 2, 1, 0] : List (Fin 4)).map fun h =>
    ⟨headPlace h, k0_pay6 (View.ld o (headPlace h)) (View.ld s (headPlace h)) (headWeight gn h)⟩
def act : Vec Ideal S512x2048 .bf16 :=
  scM0_5.view.readCov (headStores o s gn) (Rect.unit ![0, 0] ![512, 2048] inb_S512x2048_S512x2048_0_0 : Rect S512x2048).toLoadRect

/-- The rows after the retention. -/
def mid : Vec Ideal S512x1024 .f32 := k0_pay8 x (act o s gn) (keptO wo)

/-- The stores of the hidden rows of given rows, the last first, and the hidden rows read back. -/
def sliceStores (y : Vec Ideal S512x1024 .f32) : List (View.Piece (Elt Ideal) S512x2816 .bf16) :=
  ([10, 9, 8, 7, 6, 5, 4, 3, 2, 1, 0] : List (Fin 11)).map fun k =>
    ⟨slicePlace k, k0_pay11 (k0_pay9 y g) (keptG wg k) (keptU wu k)⟩
def hid (y : Vec Ideal S512x1024 .f32) : Vec Ideal S512x2816 .bf16 :=
  scM0_6.view.readCov (sliceStores g wg wu y) (Rect.unit ![0, 0] ![512, 2816] inb_S512x2816_S512x2816_0_0 : Rect S512x2816).toLoadRect

/-- The rows out. -/
def tile : Vec Ideal S512x1024 .f32 :=
  k0_pay21 (mid x o s gn wo) (hid g wg wu (mid x o s gn wo)) (keptD wd) fin

end Tile

set_option maxHeartbeats 4000000 in
theorem outsAt0_eq (m : (ℓ : Loc nD τ sig) → Buf (Elt Ideal) ℓ) (c : Dev nD) (t : Fin cfg0.N) :
    outsAt0 m c t = tile (iblk m c 0 t) (iblk m c 1 t) (iblk m c 2 t) (iblk m c 3 t) (iblk m c 4 t) (iblk m c 5 t)
      (broughtO (V m c main_arg4)) (broughtG (V m c main_arg6)) (broughtU (V m c main_arg7)) (broughtD (V m c main_arg8)) := by
  unfold outsAt0
  frame_open
  frame_out
  rfl

end Cert.Sample
end
-- ==== Proof.Sample.TileRows.lean ====
module

public import proofs.«01_k».proof.Proof.Sample.Tile

@[expose] public section

set_option maxRecDepth 16384

noncomputable section

namespace Cert.Sample

open Cert.Kernel4Ideal Cert.Kernel4Ideal.Gen Cert.Retention
open Idealize.ShloMosaic Idealize.ShloMosaic.TcCoe Idealize.ShloMosaic.Tactic

/-! # The rows that the body leaves -/

/-! The weights, copied in and read back. -/

theorem broughtO_apply (w : Vec Ideal S1x2048x1024 .bf16) (n : Fin 2048) (d : Fin 1024) : broughtO w (ix2 n d) = w (ix3 0 n d) := by
  refine (congrFun (show broughtO w = shapeCast S2048x1024 (View.ld w (Rect.unit ![0, 0, 0] ![1, 2048, 1024] inb_S1x2048x1024_S1x2048x1024_0_0_0)) (by decide) from rfl) _).trans ?_
  pointwise
theorem broughtG_apply (w : Vec Ideal S1x1024x2816 .bf16) (k : Fin 1024) (n : Fin 2816) : broughtG w (ix2 k n) = w (ix3 0 k n) := by
  refine (congrFun (show broughtG w = shapeCast S1024x2816 (View.ld w (Rect.unit ![0, 0, 0] ![1, 1024, 2816] inb_S1x1024x2816_S1x1024x2816_0_0_0)) (by decide) from rfl) _).trans ?_
  pointwise
theorem broughtU_apply (w : Vec Ideal S1x1024x2816 .bf16) (k : Fin 1024) (n : Fin 2816) : broughtU w (ix2 k n) = w (ix3 0 k n) := by
  refine (congrFun (show broughtU w = shapeCast S1024x2816 (View.ld w (Rect.unit ![0, 0, 0] ![1, 1024, 2816] inb_S1x1024x2816_S1x1024x2816_0_0_0)) (by decide) from rfl) _).trans ?_
  pointwise
theorem broughtD_apply (w : Vec Ideal S1x2816x1024 .bf16) (n : Fin 2816) (d : Fin 1024) : broughtD w (ix2 n d) = w (ix3 0 n d) := by
  refine (congrFun (show broughtD w = shapeCast S2816x1024 (View.ld w (Rect.unit ![0, 0, 0] ![1, 2816, 1024] inb_S1x2816x1024_S1x2816x1024_0_0_0)) (by decide) from rfl) _).trans ?_
  pointwise

/-- The column that a slice's column is. -/
def colIn (k : Fin 11) (j : Fin 256) : Fin 2816 := ⟨256 * k.val + j.val, by omega⟩

/-- What a load reads of an array stored whole. -/
theorem readCov_whole {sig : RefSig} {κ : Kind} {sp : Space} {s : Shape} {e : EltTy} (v : View sig κ sp s e) (w : s.Idx → Elt Ideal e)
    (r : Rect s) (j : r.shape.Idx) : v.readCov [⟨Rect.whole s, w⟩] r.toLoadRect j = w (r.emb j) := by
  exact congrFun (View.readCov_fill v (off := fun _ => 0) (fun a => by simp) w [] r (fun _ => rfl)) j

theorem keptO_apply (w : Vec Ideal S2048x1024 .bf16) (n : Fin 2048) (d : Fin 1024) : keptO w (ix2 n d) = w (ix2 n d) := by
  refine (readCov_whole _ w _ _).trans (congrArg w ?_)
  funext a; fin_cases a <;> (apply Fin.ext; simp)
theorem keptG_apply (w : Vec Ideal S1024x2816 .bf16) (k : Fin 11) (n : Fin 1024) (j : Fin 256) : keptG w k (ix2 n j) = w (ix2 n (colIn k j)) := by
  refine (readCov_whole _ w _ _).trans (congrArg w ?_)
  funext a; fin_cases a <;> (apply Fin.ext; simp [colIn])
theorem keptU_apply (w : Vec Ideal S1024x2816 .bf16) (k : Fin 11) (n : Fin 1024) (j : Fin 256) : keptU w k (ix2 n j) = w (ix2 n (colIn k j)) := by
  refine (readCov_whole _ w _ _).trans (congrArg w ?_)
  funext a; fin_cases a <;> (apply Fin.ext; simp [colIn])
theorem keptD_apply (w : Vec Ideal S2816x1024 .bf16) (n : Fin 2816) (d : Fin 1024) : keptD w (ix2 n d) = w (ix2 n d) := by
  refine (readCov_whole _ w _ _).trans (congrArg w ?_)
  funext a; fin_cases a <;> (apply Fin.ext; simp)

variable (x : Vec Ideal S512x1024 .f32) (o s : Vec Ideal S512x2048 .f32) (gn : Vec Ideal S1x2048 .f32) (g fin : Vec Ideal S1x1024 .f32)
  (wo : Vec Ideal S2048x1024 .bf16) (wg wu : Vec Ideal S1024x2816 .bf16) (wd : Vec Ideal S2816x1024 .bf16)

/-! The heads. -/

theorem pay6_apply (u v : Vec Ideal S512x512 .f32) (w : Vec Ideal S1x512 .f32) (i e : Fin 512) :
    k0_pay6 u v w (ix2 i e) = gateRow (fun e => u (ix2 i e)) (fun e => v (ix2 i e)) (fun e => w (ix2 0 e)) e := by
  pointwise [k0_pay6, gateRow, eps]
theorem headPlace_emb (h : Fin 4) (i e : Fin 512) : (headPlace h).emb (ix2 i e : S512x512.Idx) = (ix2 i (headCol h e) : S512x2048.Idx) := by
  funext a; fin_cases a
  · exact Fin.ext (show 0 + 1 * i.val = i.val by omega)
  · exact Fin.ext (show 512 * h.val + 1 * e.val = 512 * h.val + e.val by omega)
theorem head_apply (v : Vec Ideal S512x2048 .f32) (h : Fin 4) (i e : Fin 512) :
    (View.ld v (headPlace h) : Vec Ideal S512x512 .f32) (ix2 i e) = v (ix2 i (headCol h e)) :=
  congrArg v (headPlace_emb h i e)
theorem headWeight_apply (h : Fin 4) (e : Fin 512) : headWeight gn h (ix2 0 e) = gn (ix2 0 (headCol h e)) := by
  unfold headWeight; pointwise [headCol]

/-- All heads of all rows. -/
def actTile : Vec Ideal S512x2048 .bf16 := fun i =>
  actRow (fun n => o (ix2 (i 0) n)) (fun n => s (ix2 (i 0) n)) (fun n => gn (ix2 0 n)) (i 1)

theorem headStore_eq (h : Fin 4) (y : (headPlace h).shape.Idx) :
    k0_pay6 (View.ld o (headPlace h)) (View.ld s (headPlace h)) (headWeight gn h) y = actTile o s gn ((headPlace h).emb y) := by
  obtain ⟨i, e, rfl⟩ : ∃ (i : Fin 512) (e : Fin 512), y = (ix2 i e : S512x512.Idx) := ⟨y 0, y 1, ValueIdx.eq_ix2 y⟩
  rw [headPlace_emb]
  refine (pay6_apply _ _ _ i e).trans ?_
  exact (congrArg (gateRow · _ _ e) (funext fun e => head_apply o h i e)).trans
    ((congrArg (gateRow _ · _ e) (funext fun e => head_apply s h i e)).trans
      ((congrArg (gateRow _ _ · e) (funext fun e => headWeight_apply gn h e)).trans (actRow_headCol (fun n => o (ix2 i n)) (fun n => s (ix2 i n)) (fun n => gn (ix2 0 n)) h e).symm))

theorem act_apply (i : Fin 512) (n : Fin 2048) :
    act o s gn (ix2 i n) = actRow (fun n => o (ix2 i n)) (fun n => s (ix2 i n)) (fun n => gn (ix2 0 n)) n := by
  unfold act
  rw [View.readCov_eq_canon']
  have hn : (headPlace ⟨n.val / 512, by omega⟩).emb (ix2 i ⟨n.val % 512, by omega⟩ : S512x512.Idx) = (ix2 i n : S512x2048.Idx) := by
    rw [headPlace_emb]; congr 1; apply Fin.ext; simp only [headCol]; omega
  have hy : ((Rect.unit ![0, 0] ![512, 2048] inb_S512x2048_S512x2048_0_0 : Rect S512x2048).toLoadRect).idx (ix2 i n : S512x2048.Idx) = (ix2 i n : S512x2048.Idx) := by
    funext a; fin_cases a <;> (apply Fin.ext; simp)
  show View.canon _ _ = _
  rw [hy, ← hn]
  refine (View.canon_apply_of_pieces (Val := Elt Ideal) (actTile o s gn) _ ?_ _ ?_).trans (congrArg (actTile o s gn) hn)
  · intro p hp y
    obtain ⟨h, -, rfl⟩ := List.mem_map.mp hp
    exact headStore_eq o s gn h y
  · refine ⟨_, List.mem_map_of_mem ((by decide : ∀ h : Fin 4, h ∈ ([3, 2, 1, 0] : List (Fin 4))) ⟨n.val / 512, by omega⟩), ?_⟩
    exact LoadRect.idx_mem _ _

theorem pay8_apply (a : Vec Ideal S512x2048 .bf16) (w : Vec Ideal S2048x1024 .bf16) (i : Fin 512) (d : Fin 1024) :
    k0_pay8 x a w (ix2 i d) = yRow (fun d => x (ix2 i d)) (fun n => a (ix2 i n)) (fun n d => w (ix2 n d)) d := by
  pointwise [k0_pay8, yRow]
theorem mid_apply (i : Fin 512) (d : Fin 1024) : mid x o s gn wo (ix2 i d)
    = yRow (fun d => x (ix2 i d)) (actRow (fun n => o (ix2 i n)) (fun n => s (ix2 i n)) (fun n => gn (ix2 0 n))) (fun n d => wo (ix2 n d)) d := by
  refine (pay8_apply x _ _ i d).trans ?_
  simp only [act_apply, keptO_apply]

/-! The hidden rows. -/

theorem pay9_apply (v : Vec Ideal S512x1024 .f32) (i : Fin 512) (d : Fin 1024) :
    k0_pay9 v g (ix2 i d) = hnRow (fun d => v (ix2 i d)) (fun d => g (ix2 0 d)) d := by
  pointwise [k0_pay9, hnRow, eps]
theorem pay11_apply (h : FVec Ideal S512x1024 .bf16) (a b : Vec Ideal S1024x256 .bf16) (i : Fin 512) (j : Fin 256) :
    k0_pay11 h a b (ix2 i j) = (∑ k : Fin 1024, h (ix2 i k) * a (ix2 k j)) * Ideal.logistic (∑ k : Fin 1024, h (ix2 i k) * a (ix2 k j))
      * ∑ k : Fin 1024, h (ix2 i k) * b (ix2 k j) := by
  pointwise [k0_pay11]
theorem pay21_apply (v : Vec Ideal S512x1024 .f32) (a : Vec Ideal S512x2816 .bf16) (w : Vec Ideal S2816x1024 .bf16) (i : Fin 512) (d : Fin 1024) :
    k0_pay21 v a w fin (ix2 i d) = hnRow (fun d => v (ix2 i d) + ∑ n : Fin 2816, a (ix2 i n) * w (ix2 n d)) (fun d => fin (ix2 0 d)) d := by
  pointwise [k0_pay21, hnRow, eps]
theorem slicePlace_emb (k : Fin 11) (i : Fin 512) (j : Fin 256) :
    (slicePlace k).emb (ix2 i j : S512x256.Idx) = (ix2 i (colIn k j) : S512x2816.Idx) := by
  funext a; fin_cases a
  · exact Fin.ext (show 0 + 1 * i.val = i.val by omega)
  · exact Fin.ext (show 256 * k.val + 1 * j.val = 256 * k.val + j.val by omega)

/-- The hidden rows of given rows. -/
def hidTile (y : Vec Ideal S512x1024 .f32) : Vec Ideal S512x2816 .bf16 := fun i =>
  Ffn.hidden (hnRow (fun d => y (ix2 (i 0) d)) (fun d => g (ix2 0 d))) (fun d n => wg (ix2 d n)) (fun d n => wu (ix2 d n)) (i 1)

theorem hidTile_apply (y : Vec Ideal S512x1024 .f32) (i : Fin 512) (n : Fin 2816) : hidTile g wg wu y (ix2 i n)
    = Ffn.hidden (hnRow (fun d => y (ix2 i d)) (fun d => g (ix2 0 d))) (fun d n => wg (ix2 d n)) (fun d n => wu (ix2 d n)) n := rfl

theorem sliceStore_eq (y : Vec Ideal S512x1024 .f32) (k : Fin 11) (z : (slicePlace k).shape.Idx) :
    k0_pay11 (k0_pay9 y g) (keptG wg k) (keptU wu k) z = hidTile g wg wu y ((slicePlace k).emb z) := by
  obtain ⟨i, j, rfl⟩ : ∃ (i : Fin 512) (j : Fin 256), z = (ix2 i j : S512x256.Idx) := ⟨z 0, z 1, ValueIdx.eq_ix2 z⟩
  rw [slicePlace_emb]
  refine (pay11_apply _ _ _ i j).trans ?_
  simp only [pay9_apply, keptG_apply, keptU_apply]
  rfl

theorem hid_apply (y : Vec Ideal S512x1024 .f32) (i : Fin 512) (n : Fin 2816) :
    hid g wg wu y (ix2 i n) = hidTile g wg wu y (ix2 i n) := by
  unfold hid
  rw [View.readCov_eq_canon']
  have hn : (slicePlace ⟨n.val / 256, by omega⟩).emb (ix2 i ⟨n.val % 256, by omega⟩ : S512x256.Idx) = (ix2 i n : S512x2816.Idx) := by
    rw [slicePlace_emb]; congr 1; apply Fin.ext; simp only [colIn]; omega
  have hy : ((Rect.unit ![0, 0] ![512, 2816] inb_S512x2816_S512x2816_0_0 : Rect S512x2816).toLoadRect).idx (ix2 i n : S512x2816.Idx) = (ix2 i n : S512x2816.Idx) := by
    funext a; fin_cases a <;> (apply Fin.ext; simp)
  show View.canon _ _ = _
  rw [hy, ← hn]
  refine View.canon_apply_of_pieces (Val := Elt Ideal) (hidTile g wg wu y) _ ?_ _ ?_
  · intro p hp z
    obtain ⟨k, -, rfl⟩ := List.mem_map.mp hp
    exact sliceStore_eq g wg wu y k z
  · refine ⟨_, List.mem_map_of_mem ((by decide : ∀ k : Fin 11, k ∈ ([10, 9, 8, 7, 6, 5, 4, 3, 2, 1, 0] : List (Fin 11))) ⟨n.val / 256, by omega⟩), ?_⟩
    exact LoadRect.idx_mem _ _

/-- Every row out is the row function of the row in. -/
theorem tile_apply (i : Fin 512) (d : Fin 1024) : tile x o s gn g fin wo wg wu wd (ix2 i d)
    = sampleRow (fun d => x (ix2 i d)) (fun n => o (ix2 i n)) (fun n => s (ix2 i n)) (fun n => gn (ix2 0 n)) (fun n d => wo (ix2 n d))
        (fun d => g (ix2 0 d)) (fun d n => wg (ix2 d n)) (fun d n => wu (ix2 d n)) (fun n d => wd (ix2 n d)) (fun d => fin (ix2 0 d)) d := by
  refine (pay21_apply fin _ _ _ i d).trans ?_
  simp only [hid_apply, keptD_apply, hidTile_apply, mid_apply]
  rfl

end Cert.Sample
end
-- ==== Proof.Sample.Final.lean ====
module

public import proofs.«01_k».proof.Proof.Sample.TileRows
public import Idealize.ShloMosaic.Lib.Pipeline.ValueKit.Geometry

@[expose] public section

set_option maxRecDepth 16384

noncomputable section

namespace Cert.Sample

open Cert.Kernel4Ideal Cert.Kernel4Ideal.Gen Cert.Retention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! # The array after the run -/

/-- The rows out, of the ten arguments. -/
def finalOf (x : Vec Ideal S512x1024 .f32) (o s : Vec Ideal S512x2048 .f32) (gn : Vec Ideal S1x2048 .f32) (wo : Vec Ideal S1x2048x1024 .bf16)
    (g : Vec Ideal S1x1024 .f32) (wg wu : Vec Ideal S1x1024x2816 .bf16) (wd : Vec Ideal S1x2816x1024 .bf16) (fin : Vec Ideal S1x1024 .f32) :
    Vec Ideal S512x1024 .f32 := fun i =>
  sampleRow (fun d => x (ix2 (i 0) d)) (fun n => o (ix2 (i 0) n)) (fun n => s (ix2 (i 0) n)) (fun n => gn (ix2 0 n)) (fun n d => wo (ix3 0 n d))
    (fun d => g (ix2 0 d)) (fun d n => wg (ix3 0 d n)) (fun d n => wu (ix3 0 d n)) (fun n d => wd (ix3 0 n d)) (fun d => fin (ix2 0 d)) (i 1)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem blk0 (t : Fin cfg0.N) (i : Fin 512) (d : Fin 1024) : (iblk m c 0 t : Vec Ideal S512x1024 .f32) (ix2 i d) = m ((c.tc : Thread nD τ).loc main_arg0) (ix2 i d) := by
  refine congrArg (m ((c.tc : Thread nD τ).loc main_arg0)) ?_
  blk_ext [idx0]
theorem blk1 (t : Fin cfg0.N) (i : Fin 512) (n : Fin 2048) : (iblk m c 1 t : Vec Ideal S512x2048 .f32) (ix2 i n) = m ((c.tc : Thread nD τ).loc main_arg1) (ix2 i n) := by
  refine congrArg (m ((c.tc : Thread nD τ).loc main_arg1)) ?_
  blk_ext [idx1]
theorem blk2 (t : Fin cfg0.N) (i : Fin 512) (n : Fin 2048) : (iblk m c 2 t : Vec Ideal S512x2048 .f32) (ix2 i n) = m ((c.tc : Thread nD τ).loc main_arg2) (ix2 i n) := by
  refine congrArg (m ((c.tc : Thread nD τ).loc main_arg2)) ?_
  blk_ext [idx2]
theorem blk3 (t : Fin cfg0.N) (n : Fin 2048) : (iblk m c 3 t : Vec Ideal S1x2048 .f32) (ix2 0 n) = m ((c.tc : Thread nD τ).loc main_arg3) (ix2 0 n) := by
  refine congrArg (m ((c.tc : Thread nD τ).loc main_arg3)) ?_
  blk_ext [idx3]
theorem blk4 (t : Fin cfg0.N) (d : Fin 1024) : (iblk m c 4 t : Vec Ideal S1x1024 .f32) (ix2 0 d) = m ((c.tc : Thread nD τ).loc main_arg5) (ix2 0 d) := by
  refine congrArg (m ((c.tc : Thread nD τ).loc main_arg5)) ?_
  blk_ext [idx4]
theorem blk5 (t : Fin cfg0.N) (d : Fin 1024) : (iblk m c 5 t : Vec Ideal S1x1024 .f32) (ix2 0 d) = m ((c.tc : Thread nD τ).loc main_arg9) (ix2 0 d) := by
  refine congrArg (m ((c.tc : Thread nD τ).loc main_arg9)) ?_
  blk_ext [idx5]

theorem final6 : (dats m 0 c).arrAt 6 cfg0.N = finalOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) := by
  refine (dats m 0 c).arrAt_eq_of_covers 6 _ (by decide +kernel) fun t hf y => ?_
  blk_simp
  rw [after0_6, outsAt0_eq]
  refine (congrArg (tile (iblk m c 0 t) (iblk m c 1 t) (iblk m c 2 t) (iblk m c 3 t) (iblk m c 4 t) (iblk m c 5 t) _ _ _ _)
    (ValueIdx.eq_ix2 (n0 := 512) (n1 := 1024) y)).trans ((tile_apply _ _ _ _ _ _ _ _ _ _ (y 0) (y 1)).trans ?_)
  simp only [blk3, blk4, blk5, broughtO_apply, broughtG_apply, broughtU_apply, broughtD_apply]
  have hy : (((View.whole main_v0).slice (win0_6.rect t)).emb y : S512x1024.Idx) = (ix2 (y 0) (y 1) : S512x1024.Idx) := by
    blk_ext [idx6]
  refine Eq.trans ?_ (congrArg (finalOf _ _ _ _ _ _ _ _ _ _) hy).symm
  unfold finalOf
  congr 1
  · exact funext fun d => blk0 m c t (y 0) d
  · exact funext fun n => blk1 m c t (y 0) n
  · exact funext fun n => blk2 m c t (y 0) n

/-- The run: what the result holds, and the arguments as they were. -/
theorem run : θ_run defs (onTc (τ := τ) (main (F := Ideal))) ⟨m, fun _ => 0, ρ⟩ fun r => ∀ c : Dev nD,
      r.2.mem ((c.tc : Thread nD τ).loc main_v0)
        = finalOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.2 c).1 6).trans (final6 m c), h.1 c⟩) (θ_run_and (unchanged m ρ) (run_main m ρ))

end Cert.Sample
end
-- ==== Proof.Sample.Reference.lean ====
module

public import proofs.«01_k».proof.Proof.Gen.Reference4Ideal.Run
public import proofs.«01_k».proof.Proof.Sample.Rows
public import Idealize.ShloMosaic.Lib.Pointwise

@[expose] public section

set_option maxRecDepth 16384

noncomputable section

namespace Cert.Sample.Reference

open Cert.Reference4Ideal Cert.Reference4Ideal.Gen Cert.Retention
open Idealize.ShloMosaic Idealize.ShloMosaic.TcCoe Idealize.SL.Sem Idealize.ShloMosaic.StableHlo

/-! # The reference, stage by stage -/

variable (x : FVec Ideal S512x1024 .f32) (o s a : FVec Ideal S512x2048 .f32) (u : FVec Ideal S512x4x512 .f32) (gn : FVec Ideal S1x2048 .f32)
  (wo : FVec Ideal S1x2048x1024 .bf16) (g : FVec Ideal S1x1024 .f32) (w : FVec Ideal S1x1024x2816 .bf16)
  (wd : FVec Ideal S1x2816x1024 .bf16) (p q : FVec Ideal S512x2816 .f32)

/-- The outputs of the retention, head by head, less their mean; and those divided by their deviation. -/
def centred : FVec Ideal S512x4x512 .f32 :=
  subf (shapeCast _ o shapeCasts_S512x2048_S512x4x512) (broadcastInDim S512x4x512 ![0, 1, 2] bcast_S512x4x1_S512x4x512_0_1_2 (Host.divf (broadcastInDim S512x4x1 ![0, 1] bcast_S512x4_S512x4x1_0_1 (Host.reduceAdd (shapeCast _ o shapeCasts_S512x2048_S512x4x512) (constant S_ .f32 0x00000000#32) reducesTo_S512x4x512_S512x4_d2 h_S_)) (broadcastInDim S512x4x1 ![] bcast_S_S512x4x1 (constant S_ .f32 0x44000000#32))))
def scaled : FVec Ideal S512x4x512 .f32 :=
  mulf u (broadcastInDim S512x4x512 ![0, 1, 2] bcast_S512x4x1_S512x4x512_0_1_2 (Host.rsqrt (addf (Host.divf (broadcastInDim S512x4x1 ![0, 1] bcast_S512x4_S512x4x1_0_1 (Host.reduceAdd (mulf u u) (constant S_ .f32 0x00000000#32) reducesTo_S512x4x512_S512x4_d2 h_S_)) (broadcastInDim S512x4x1 ![] bcast_S_S512x4x1 (constant S_ .f32 0x44000000#32))) (broadcastInDim S512x4x1 ![] bcast_S_S512x4x1 (constant S_ .f32 0x358637BD#32)))))

/-- The heads side by side, weighted and gated. -/
def heads : FVec Ideal S512x2048 .f32 :=
  mulf s (mulf (shapeCast _ u shapeCasts_S512x4x512_S512x2048) (broadcastInDim S512x2048 ![0, 1] bcast_S1x2048_S512x2048_0_1 gn))

/-- The rows after the retention. -/
def mixedRows : FVec Ideal S512x1024 .f32 :=
  addf x (Host.dotGeneral dot_S512x2048_S2048x1024_S512x1024_1_0_0_1_n_n none a (extf .f32 (shapeCast _ wo shapeCasts_S1x2048x1024_S2048x1024) bitsLt_bf16_f32))

/-- The normalised rows. -/
def normed : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 g)

/-- A projection to the hidden width. -/
def projected : FVec Ideal S512x2816 .f32 :=
  Host.dotGeneral dot_S512x1024_S1024x2816_S512x2816_1_0_0_1_n_n none x (extf .f32 (shapeCast _ w shapeCasts_S1x1024x2816_S1024x2816) bitsLt_bf16_f32)

/-- The gated hidden rows. -/
def gated : FVec Ideal S512x2816 .f32 :=
  mulf (mulf p (Host.divf (broadcastInDim S512x2816 ![] bcast_S_S512x2816 (constant S_ .f32 0x3F800000#32)) (addf (broadcastInDim S512x2816 ![] bcast_S_S512x2816 (constant S_ .f32 0x3F800000#32)) (Host.exp (Host.negf p))))) q

/-- The rows out of the layer. -/
def rowsOut : FVec Ideal S512x1024 .f32 :=
  addf x (Host.dotGeneral dot_S512x2816_S2816x1024_S512x1024_1_0_0_1_n_n none p (extf .f32 (shapeCast _ wd shapeCasts_S1x2816x1024_S2816x1024) bitsLt_bf16_f32))

theorem centred_apply (i : Fin 512) (h : Fin 4) (e : Fin 512) : centred o (ix3 i h e)
    = o (ix2 i (headCol h e)) - Ideal.div (∑ k : Fin 512, o (ix2 i (headCol h k))) (Ideal.ofBits .f32 0x44000000#32) := by
  pointwise [centred, headCol]
  simp only [Nat.mul_comm _ 512]
theorem scaled_apply (i : Fin 512) (h : Fin 4) (e : Fin 512) : scaled u (ix3 i h e)
    = u (ix3 i h e) * Ideal.rsqrt (Ideal.div (∑ k : Fin 512, u (ix3 i h k) * u (ix3 i h k)) (Ideal.ofBits .f32 0x44000000#32) + eps) := by
  pointwise [scaled, eps]
theorem heads_apply (i : Fin 512) (n : Fin 2048) : heads s u gn (ix2 i n)
    = s (ix2 i n) * (u (ix3 i ⟨n.val / 512, by omega⟩ ⟨n.val % 512, by omega⟩) * gn (ix2 0 n)) := by
  pointwise [heads]
theorem mixedRows_apply (i : Fin 512) (d : Fin 1024) :
    mixedRows x a wo (ix2 i d) = yRow (fun d => x (ix2 i d)) (fun n => a (ix2 i n)) (fun n d => wo (ix3 0 n d)) d := by
  pointwise [mixedRows, yRow]
theorem normed_apply (r : Fin 512) (d : Fin 1024) :
    normed x g (ix2 r d) = hnRow (fun d => x (ix2 r d)) (fun d => g (ix2 0 d)) d := by
  pointwise [normed, hnRow, eps]
theorem projected_apply (r : Fin 512) (n : Fin 2816) :
    projected x w (ix2 r n) = ∑ k : Fin 1024, x (ix2 r k) * w (ix3 0 k n) := by
  pointwise [projected]
theorem gated_apply (r : Fin 512) (n : Fin 2816) :
    gated p q (ix2 r n) = p (ix2 r n) * Ideal.logistic (p (ix2 r n)) * q (ix2 r n) := by
  pointwise [gated]
  rfl
theorem rowsOut_apply (r : Fin 512) (d : Fin 1024) :
    rowsOut x wd p (ix2 r d) = x (ix2 r d) + ∑ n : Fin 2816, p (ix2 r n) * wd (ix3 0 n d) := by
  pointwise [rowsOut]

/-- The heads are those of the row function. -/
theorem gatedHeads_apply (i : Fin 512) (n : Fin 2048) : heads s (scaled (centred o)) gn (ix2 i n)
    = actRow (fun n => o (ix2 i n)) (fun n => s (ix2 i n)) (fun n => gn (ix2 0 n)) n := by
  have hn : headCol ⟨n.val / 512, by omega⟩ ⟨n.val % 512, by omega⟩ = n := Fin.ext (by simp only [headCol]; omega)
  refine (heads_apply s _ gn i n).trans ?_
  simp only [scaled_apply, centred_apply]
  unfold actRow gateRow
  dsimp only
  rw [hn]

variable (m : (ℓ : Loc nD τ sig) → Buf (Elt Ideal) ℓ) (c : Dev nD)

/-- The rows after the retention, of the arguments. -/
def mixedOf : FVec Ideal S512x1024 .f32 :=
  mixedRows (m ((c.tc : Thread nD τ).loc main_arg0))
    (heads (m ((c.tc : Thread nD τ).loc main_arg2)) (scaled (centred (m ((c.tc : Thread nD τ).loc main_arg1)))) (m ((c.tc : Thread nD τ).loc main_arg3)))
    (m ((c.tc : Thread nD τ).loc main_arg4))

theorem out_eq : Value.res_main_v62 m c
    = normed (rowsOut (mixedOf m c) (m ((c.tc : Thread nD τ).loc main_arg8))
        (gated (projected (normed (mixedOf m c) (m ((c.tc : Thread nD τ).loc main_arg5))) (m ((c.tc : Thread nD τ).loc main_arg6)))
          (projected (normed (mixedOf m c) (m ((c.tc : Thread nD τ).loc main_arg5))) (m ((c.tc : Thread nD τ).loc main_arg7)))))
      (m ((c.tc : Thread nD τ).loc main_arg9)) := rfl

theorem mixedOf_apply (i : Fin 512) (d : Fin 1024) : mixedOf m c (ix2 i d)
    = yRow (fun d => (m ((c.tc : Thread nD τ).loc main_arg0) : FVec Ideal S512x1024 .f32) (ix2 i d))
        (actRow (fun n => (m ((c.tc : Thread nD τ).loc main_arg1) : FVec Ideal S512x2048 .f32) (ix2 i n))
          (fun n => (m ((c.tc : Thread nD τ).loc main_arg2) : FVec Ideal S512x2048 .f32) (ix2 i n))
          (fun n => (m ((c.tc : Thread nD τ).loc main_arg3) : FVec Ideal S1x2048 .f32) (ix2 0 n)))
        (fun n d => (m ((c.tc : Thread nD τ).loc main_arg4) : FVec Ideal S1x2048x1024 .bf16) (ix3 0 n d)) d := by
  refine (mixedRows_apply _ _ _ i d).trans ?_
  simp only [gatedHeads_apply]

/-- Every row of the result is the row function of its row in. -/
theorem out_apply (i : Fin 512) (d : Fin 1024) : (Value.res_main_v62 m c : FVec Ideal S512x1024 .f32) (ix2 i d)
    = sampleRow (fun d => (m ((c.tc : Thread nD τ).loc main_arg0) : FVec Ideal S512x1024 .f32) (ix2 i d))
        (fun n => (m ((c.tc : Thread nD τ).loc main_arg1) : FVec Ideal S512x2048 .f32) (ix2 i n))
        (fun n => (m ((c.tc : Thread nD τ).loc main_arg2) : FVec Ideal S512x2048 .f32) (ix2 i n))
        (fun n => (m ((c.tc : Thread nD τ).loc main_arg3) : FVec Ideal S1x2048 .f32) (ix2 0 n))
        (fun n d => (m ((c.tc : Thread nD τ).loc main_arg4) : FVec Ideal S1x2048x1024 .bf16) (ix3 0 n d))
        (fun d => (m ((c.tc : Thread nD τ).loc main_arg5) : FVec Ideal S1x1024 .f32) (ix2 0 d))
        (fun d n => (m ((c.tc : Thread nD τ).loc main_arg6) : FVec Ideal S1x1024x2816 .bf16) (ix3 0 d n))
        (fun d n => (m ((c.tc : Thread nD τ).loc main_arg7) : FVec Ideal S1x1024x2816 .bf16) (ix3 0 d n))
        (fun n d => (m ((c.tc : Thread nD τ).loc main_arg8) : FVec Ideal S1x2816x1024 .bf16) (ix3 0 n d))
        (fun d => (m ((c.tc : Thread nD τ).loc main_arg9) : FVec Ideal S1x1024 .f32) (ix2 0 d)) d := by
  rw [out_eq]
  refine (normed_apply _ _ i d).trans ?_
  simp only [rowsOut_apply, gated_apply, projected_apply, normed_apply, mixedOf_apply]
  rfl

end Cert.Sample.Reference
end
-- ==== Proof.Sample.Claims.lean ====
module

public import proofs.«01_k».proof.Defs
public import proofs.«01_k».proof.Proof.Sample.Final
public import proofs.«01_k».proof.Proof.Sample.Reference
public import proofs.«01_k».proof.Proof.Gen.Kernel4.Frame
public import Idealize.ShloMosaic.Lib.Quiescent

@[expose] public section

set_option maxRecDepth 16384

noncomputable section

/-! # The claims of the sampled tokens' last layer -/

namespace Cert.Sample.Claims

open Idealize.ShloMosaic Idealize.SL.Sem Cert.Sample

theorem kernel : Cert.quiescent_Kernel4 := fun m ρ _ => Cert.Kernel4.Gen.frame m ρ
theorem kernelIdeal : Cert.quiescent_Kernel4Ideal := fun m ρ _ => Cert.Kernel4Ideal.Gen.frame m ρ
theorem referenceIdeal : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)
theorem preserves : Cert.preserves_Kernel4_Kernel4Ideal := trivial

theorem algebraic : Cert.algebraic_Kernel4Ideal_Reference4Ideal := by
  intro m ρ m' ρ' _ hagree
  refine ⟨_, run m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3, h4, h5, h6, h7, h8, h9⟩ := hagree c
  funext i
  refine (congrArg _ (ValueIdx.eq_ix2 i)).trans ((Cert.Sample.Reference.out_apply m' c (i 0) (i 1)).trans ?_)
  rw [h0, h1, h2, h3, h4, h5, h6, h7, h8, h9]
  rfl

end Cert.Sample.Claims
end
-- ==== Proof.Step.Rows.lean ====
module

public import proofs.«01_k».proof.Proof.Conv.Rows
public import proofs.«01_k».proof.Proof.Ffn.Rows

@[expose] public section

noncomputable section

namespace Cert.Step

open Idealize.ShloMosaic Cert.Retention Cert.Conv

/-! # Four tokens' rows through the short convolution and the feed-forward part

Each sequence has the two gated rows of its state before the gated rows of its four tokens. -/

/-- The arguments, as functions of their coordinates. -/
structure Args where
  x : Fin 128 → Fin 4 → Fin 1024 → EReal
  s : Fin 128 → Fin 2 → Fin 1024 → EReal
  g : Fin 1024 → EReal
  gf : Fin 1024 → EReal
  w : Fin 1024 → Fin 3072 → EReal
  wc : Fin 3 → Fin 1024 → EReal
  wout : Fin 1024 → Fin 1024 → EReal
  wg : Fin 1024 → Fin 2816 → EReal
  wu : Fin 1024 → Fin 2816 → EReal
  wd : Fin 2816 → Fin 1024 → EReal

namespace Args

variable (A : Args)

/-- A token's gated row. -/
def u (b : Fin 128) (t : Fin 4) : Fin 1024 → EReal := uRow (hnRow (A.x b t) A.g) A.w

/-- The state's rows and the gated rows after them. -/
def full (b : Fin 128) (n : Fin 6) (d : Fin 1024) : EReal :=
  if h : n.val < 2 then A.s b ⟨n.val, h⟩ d else A.u b ⟨n.val - 2, by omega⟩ d

/-- A token's row after the convolution. -/
def mid (b : Fin 128) (t : Fin 4) : Fin 1024 → EReal :=
  outRow (A.x b t)
    (actRow (hnRow (A.x b t) A.g) A.w A.wc (A.full b ⟨t.val, by omega⟩) (A.full b ⟨t.val + 1, by omega⟩) (A.full b ⟨t.val + 2, by omega⟩))
    A.wout

/-- A token's row after the feed-forward part. -/
def out (b : Fin 128) (t : Fin 4) (d : Fin 1024) : EReal :=
  A.mid b t d + ∑ n : Fin 2816, Ffn.hidden (hnRow (A.mid b t) A.gf) A.wg A.wu n * A.wd n d

theorem full_low (b : Fin 128) (n : ℕ) (h : n < 2) (d : Fin 1024) : A.full b ⟨n, by omega⟩ d = A.s b ⟨n, h⟩ d := by
  unfold full; rw [dif_pos h]
theorem full_add_two (b : Fin 128) (t : Fin 4) : A.full b ⟨t.val + 2, by omega⟩ = A.u b t := by
  funext d; unfold full; rw [dif_neg (by simp)]; rfl

end Args

end Cert.Step
end
-- ==== Proof.Step.Tile.lean ====
module

public import proofs.«01_k».proof.Proof.Gen.Kernel5Ideal.Frame
public import proofs.«01_k».proof.Proof.Step.Rows
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.Step

open Cert.Kernel5Ideal Cert.Kernel5Ideal.Gen Cert.Retention
open Idealize.ShloMosaic Idealize.ShloMosaic.TcCoe Idealize.ShloMosaic.Tactic
open Idealize.ShloMosaic.Pipeline (Dat Cfg Window)

/-! # What the body leaves in its four results

The body copies the weights in, stores the hidden rows in eleven blocks of columns and reads them back whole. -/

/-- The weights as copied in. -/
def broughtIn (w : Vec Ideal S1x1024x3072 .bf16) : Vec Ideal S1024x3072 .bf16 :=
  View.read (Elt Ideal) (((View.whole main_v7).slice (Rect.unit ![0, 0, 0] ![1, 1024, 3072] inb_S1x1024x3072_S1x1024x3072_0_0_0)).reshape S1024x3072 (by decide)) w
def broughtOut (w : Vec Ideal S1x1024x1024 .bf16) : Vec Ideal S1024x1024 .bf16 :=
  View.read (Elt Ideal) (((View.whole main_v8).slice (Rect.unit ![0, 0, 0] ![1, 1024, 1024] inb_S1x1024x1024_S1x1024x1024_0_0_0)).reshape S1024x1024 (by decide)) w
def broughtG (w : Vec Ideal S1x1024x2816 .bf16) : Vec Ideal S1024x2816 .bf16 :=
  View.read (Elt Ideal) (((View.whole main_arg7).slice (Rect.unit ![0, 0, 0] ![1, 1024, 2816] inb_S1x1024x2816_S1x1024x2816_0_0_0)).reshape S1024x2816 (by decide)) w
def broughtU (w : Vec Ideal S1x1024x2816 .bf16) : Vec Ideal S1024x2816 .bf16 :=
  View.read (Elt Ideal) (((View.whole main_arg8).slice (Rect.unit ![0, 0, 0] ![1, 1024, 2816] inb_S1x1024x2816_S1x1024x2816_0_0_0)).reshape S1024x2816 (by decide)) w
def broughtD (w : Vec Ideal S1x2816x1024 .bf16) : Vec Ideal S2816x1024 .bf16 :=
  View.read (Elt Ideal) (((View.whole main_arg9).slice (Rect.unit ![0, 0, 0] ![1, 2816, 1024] inb_S1x2816x1024_S1x2816x1024_0_0_0)).reshape S2816x1024 (by decide)) w

/-- A third of the projection's columns, two weights whole and slices of the columns of two more, read back. -/
def keptIn (w : Vec Ideal S1024x3072 .bf16) (j : Fin 3) : Vec Ideal S1024x1024 .bf16 :=
  scM0_0.view.readCov [⟨Rect.whole S1024x3072, w⟩]
    (Rect.unit ![0, 1024 * j.val] ![1024, 1024] (by intro a; fin_cases a <;> simp <;> omega) : Rect S1024x3072).toLoadRect
def keptOut (w : Vec Ideal S1024x1024 .bf16) : Vec Ideal S1024x1024 .bf16 :=
  scM0_1.view.readCov [⟨Rect.whole S1024x1024, w⟩] (Rect.unit ![0, 0] ![1024, 1024] inb_S1024x1024_S1024x1024_0_0 : Rect S1024x1024).toLoadRect
def keptG (w : Vec Ideal S1024x2816 .bf16) (k : Fin 11) : Vec Ideal S1024x256 .bf16 :=
  scM0_2.view.readCov [⟨Rect.whole S1024x2816, w⟩]
    (Rect.unit ![0, 256 * k.val] ![1024, 256] (by intro a; fin_cases a <;> simp <;> omega) : Rect S1024x2816).toLoadRect
def keptU (w : Vec Ideal S1024x2816 .bf16) (k : Fin 11) : Vec Ideal S1024x256 .bf16 :=
  scM0_3.view.readCov [⟨Rect.whole S1024x2816, w⟩]
    (Rect.unit ![0, 256 * k.val] ![1024, 256] (by intro a; fin_cases a <;> simp <;> omega) : Rect S1024x2816).toLoadRect
def keptD (w : Vec Ideal S2816x1024 .bf16) : Vec Ideal S2816x1024 .bf16 :=
  scM0_4.view.readCov [⟨Rect.whole S2816x1024, w⟩] (Rect.unit ![0, 0] ![2816, 1024] inb_S2816x1024_S2816x1024_0_0 : Rect S2816x1024).toLoadRect

section Tile

variable (x pre : Vec Ideal S512x1024 .f32) (g gf : Vec Ideal S1x1024 .f32) (wc : Vec Ideal S1x3x1024 .f32)
  (win : Vec Ideal S1024x3072 .bf16) (wo : Vec Ideal S1024x1024 .bf16) (wg wu : Vec Ideal S1024x2816 .bf16) (wd : Vec Ideal S2816x1024 .bf16)

/-- A row of the convolution's weights. -/
def wcRow (j : Fin 3) : Vec Ideal S1x1x1024 .f32 :=
  View.ld wc (Rect.unit ![0, j.val, 0] ![1, 1, 1024] (by intro a; fin_cases a <;> simp <;> omega))
/-- Where a slice of the hidden rows is stored. -/
def slicePlace (k : Fin 11) : Rect S512x2816 :=
  Rect.unit ![0, 256 * k.val] ![512, 256] (by intro a; fin_cases a <;> simp <;> omega)

/-- The gated rows. -/
def gated : Vec Ideal S512x1024 .f32 :=
  k0_pay11 (k0_pay8 x g) (k0_pay10 x g (keptIn win 1)) (keptIn win 2) (constant S512x1024 .f32 0#32)

/-- The rows after the convolution. -/
def mid : Vec Ideal S512x1024 .f32 :=
  k0_pay13 (k0_pay12 (k0_pay7 x) (k0_pay8 x g) (k0_pay9 x g (keptIn win 0)) (k0_pay10 x g (keptIn win 1)) (keptIn win 2)
    (constant S512x1024 .f32 0#32) pre (wcRow wc 0) (wcRow wc 1) (wcRow wc 2) (keptOut wo))

/-- The stores of the hidden rows of given rows, the last first, and the hidden rows read back. -/
def sliceStores (y : Vec Ideal S512x1024 .f32) : List (View.Piece (Elt Ideal) S512x2816 .bf16) :=
  ([10, 9, 8, 7, 6, 5, 4, 3, 2, 1, 0] : List (Fin 11)).map fun k =>
    ⟨slicePlace k, k0_pay15 (k0_pay14 y gf) (keptG wg k) (keptU wu k)⟩
def hid (y : Vec Ideal S512x1024 .f32) : Vec Ideal S512x2816 .bf16 :=
  scM0_6.view.readCov (sliceStores gf wg wu y) (Rect.unit ![0, 0] ![512, 2816] inb_S512x2816_S512x2816_0_0 : Rect S512x2816).toLoadRect

/-- The rows out, of the rows after the convolution. -/
def tile (y : Vec Ideal S512x1024 .f32) : Vec Ideal S512x1024 .f32 := k0_pay3 y (hid gf wg wu y) (keptD wd)

end Tile

set_option maxHeartbeats 4000000 in
theorem outsAt0_eq (m : (ℓ : Loc nD τ sig) → Buf (Elt Ideal) ℓ) (c : Dev nD) (t : Fin cfg0.N) :
    outsAt0 m c t = (gated (iblk m c 0 t) (iblk m c 2 t) (broughtIn (V m c main_v7)),
      tile (iblk m c 4 t) (broughtG (V m c main_arg7)) (broughtU (V m c main_arg8)) (broughtD (V m c main_arg9))
        (mid (iblk m c 0 t) (iblk m c 1 t) (iblk m c 2 t) (iblk m c 3 t) (broughtIn (V m c main_v7)) (broughtOut (V m c main_v8))),
      k0_pay5 (iblk m c 6 t), k0_pay6 (iblk m c 6 t)) := by
  unfold outsAt0
  frame_open
  frame_out
  rfl

end Cert.Step
end
-- ==== Proof.Step.TileRows.lean ====
module

public import proofs.«01_k».proof.Proof.Step.Tile
public import proofs.«01_k».proof.Proof.Sample.TileRows

@[expose] public section

set_option maxRecDepth 16384

noncomputable section

namespace Cert.Step

open Cert.Kernel5Ideal Cert.Kernel5Ideal.Gen Cert.Retention Cert.Conv
open Idealize.ShloMosaic Idealize.ShloMosaic.TcCoe Idealize.ShloMosaic.Tactic

/-! # The rows that the body leaves -/

/-! The weights, copied in and read back. -/

theorem broughtIn_apply (w : Vec Ideal S1x1024x3072 .bf16) (k : Fin 1024) (n : Fin 3072) : broughtIn w (ix2 k n) = w (ix3 0 k n) := by
  refine (congrFun (show broughtIn w = shapeCast S1024x3072 (View.ld w (Rect.unit ![0, 0, 0] ![1, 1024, 3072] inb_S1x1024x3072_S1x1024x3072_0_0_0)) (by decide) from rfl) _).trans ?_
  pointwise
theorem broughtOut_apply (w : Vec Ideal S1x1024x1024 .bf16) (n : Fin 1024) (d : Fin 1024) : broughtOut w (ix2 n d) = w (ix3 0 n d) := by
  refine (congrFun (show broughtOut w = shapeCast S1024x1024 (View.ld w (Rect.unit ![0, 0, 0] ![1, 1024, 1024] inb_S1x1024x1024_S1x1024x1024_0_0_0)) (by decide) from rfl) _).trans ?_
  pointwise
theorem broughtG_apply (w : Vec Ideal S1x1024x2816 .bf16) (k : Fin 1024) (n : Fin 2816) : broughtG w (ix2 k n) = w (ix3 0 k n) := by
  refine (congrFun (show broughtG w = shapeCast S1024x2816 (View.ld w (Rect.unit ![0, 0, 0] ![1, 1024, 2816] inb_S1x1024x2816_S1x1024x2816_0_0_0)) (by decide) from rfl) _).trans ?_
  pointwise
theorem broughtU_apply (w : Vec Ideal S1x1024x2816 .bf16) (k : Fin 1024) (n : Fin 2816) : broughtU w (ix2 k n) = w (ix3 0 k n) := by
  refine (congrFun (show broughtU w = shapeCast S1024x2816 (View.ld w (Rect.unit ![0, 0, 0] ![1, 1024, 2816] inb_S1x1024x2816_S1x1024x2816_0_0_0)) (by decide) from rfl) _).trans ?_
  pointwise
theorem broughtD_apply (w : Vec Ideal S1x2816x1024 .bf16) (n : Fin 2816) (d : Fin 1024) : broughtD w (ix2 n d) = w (ix3 0 n d) := by
  refine (congrFun (show broughtD w = shapeCast S2816x1024 (View.ld w (Rect.unit ![0, 0, 0] ![1, 2816, 1024] inb_S1x2816x1024_S1x2816x1024_0_0_0)) (by decide) from rfl) _).trans ?_
  pointwise

/-- The column that a third's column is, and the one that a slice's column is. -/
def third (j : Fin 3) (d : Fin 1024) : Fin 3072 := ⟨1024 * j.val + d.val, by omega⟩
def colIn (k : Fin 11) (j : Fin 256) : Fin 2816 := ⟨256 * k.val + j.val, by omega⟩

theorem third_zero (d : Fin 1024) : third 0 d = bCol d := Fin.ext (by simp [third, bCol])

theorem keptIn_apply (w : Vec Ideal S1024x3072 .bf16) (j : Fin 3) (n d : Fin 1024) : keptIn w j (ix2 n d) = w (ix2 n (third j d)) := by
  refine (Sample.readCov_whole _ w _ _).trans (congrArg w ?_)
  funext a; fin_cases a <;> (apply Fin.ext; simp [third])
theorem keptOut_apply (w : Vec Ideal S1024x1024 .bf16) (n d : Fin 1024) : keptOut w (ix2 n d) = w (ix2 n d) := by
  refine (Sample.readCov_whole _ w _ _).trans (congrArg w ?_)
  funext a; fin_cases a <;> (apply Fin.ext; simp)
theorem keptG_apply (w : Vec Ideal S1024x2816 .bf16) (k : Fin 11) (n : Fin 1024) (j : Fin 256) : keptG w k (ix2 n j) = w (ix2 n (colIn k j)) := by
  refine (Sample.readCov_whole _ w _ _).trans (congrArg w ?_)
  funext a; fin_cases a <;> (apply Fin.ext; simp [colIn])
theorem keptU_apply (w : Vec Ideal S1024x2816 .bf16) (k : Fin 11) (n : Fin 1024) (j : Fin 256) : keptU w k (ix2 n j) = w (ix2 n (colIn k j)) := by
  refine (Sample.readCov_whole _ w _ _).trans (congrArg w ?_)
  funext a; fin_cases a <;> (apply Fin.ext; simp [colIn])
theorem keptD_apply (w : Vec Ideal S2816x1024 .bf16) (n : Fin 2816) (d : Fin 1024) : keptD w (ix2 n d) = w (ix2 n d) := by
  refine (Sample.readCov_whole _ w _ _).trans (congrArg w ?_)
  funext a; fin_cases a <;> (apply Fin.ext; simp)

variable (x pre : Vec Ideal S512x1024 .f32) (g gf : Vec Ideal S1x1024 .f32) (wc : Vec Ideal S1x3x1024 .f32)
  (win : Vec Ideal S1024x3072 .bf16) (wo : Vec Ideal S1024x1024 .bf16) (wg wu : Vec Ideal S1024x2816 .bf16) (wd : Vec Ideal S2816x1024 .bf16)

theorem wcRow_apply (j : Fin 3) (d : Fin 1024) : wcRow wc j (ix3 0 0 d) = wc (ix3 0 j d) := by
  unfold wcRow; pointwise

/-! The convolution. -/

theorem pay7_apply (i : Fin 512) (d : Fin 1024) : k0_pay7 x (ix2 i d) = x (ix2 i d) := by
  pointwise [k0_pay7]
theorem pay8_apply (i : Fin 512) (d : Fin 1024) : k0_pay8 x g (ix2 i d) = hnRow (fun d => x (ix2 i d)) (fun d => g (ix2 0 d)) d := by
  pointwise [k0_pay8, k0_pay7, hnRow, eps]
theorem pay9_apply (w : Vec Ideal S1024x1024 .bf16) (i : Fin 512) (d : Fin 1024) :
    k0_pay9 x g w (ix2 i d) = ∑ k : Fin 1024, k0_pay8 x g (ix2 i k) * w (ix2 k d) := by
  pointwise [k0_pay9]
theorem pay10_apply (w : Vec Ideal S1024x1024 .bf16) (i : Fin 512) (d : Fin 1024) :
    k0_pay10 x g w (ix2 i d) = ∑ k : Fin 1024, k0_pay8 x g (ix2 i k) * w (ix2 k d) := by
  pointwise [k0_pay10]
theorem pay11_apply (h : FVec Ideal S512x1024 .bf16) (v : FVec Ideal S512x1024 .f32) (w : Vec Ideal S1024x1024 .bf16) (i : Fin 512) (d : Fin 1024) :
    k0_pay11 h v w (constant S512x1024 .f32 0#32) (ix2 i d) = v (ix2 i d) * ∑ k : Fin 1024, h (ix2 i k) * w (ix2 k d) := by
  pointwise [k0_pay11]

/-- The hidden row and the gated row of each row. -/
def hRow (i : Fin 512) : Fin 1024 → EReal := hnRow (fun d => x (ix2 i d)) (fun d => g (ix2 0 d))
def uOf (i : Fin 512) : Fin 1024 → EReal := uRow (hRow x g i) (fun d n => win (ix2 d n))

theorem gated_apply (i : Fin 512) (d : Fin 1024) : gated x g win (ix2 i d) = uOf x g win i d := by
  refine (pay11_apply _ _ _ i d).trans ?_
  simp only [pay10_apply, pay8_apply, keptIn_apply]
  rfl

/-- What the body takes for the gated rows one and two tokens back. -/
def back1 (u : Vec Ideal S512x1024 .f32) (i : Fin 512) (d : Fin 1024) : EReal :=
  if 1 ≤ i.val % 4 then u (ix2 ⟨(i.val + 512 - 1) % 512, by omega⟩ d) else pre (ix2 ⟨(i.val + 512 - 511) % 512, by omega⟩ d)
def back2 (u : Vec Ideal S512x1024 .f32) (i : Fin 512) (d : Fin 1024) : EReal :=
  if 2 ≤ i.val % 4 then u (ix2 ⟨(i.val + 512 - 2) % 512, by omega⟩ d) else pre (ix2 i d)

theorem mask1 : ∀ i : Fin 512, IntOp.cmpi .sge (IntOp.remsi .vector (BitVec.ofNat 32 i.val) 4#32) 1#32 = BitVec.ofBool (decide (1 ≤ i.val % 4)) := by
  decide +kernel
theorem mask2 : ∀ i : Fin 512, IntOp.cmpi .sge (IntOp.remsi .vector (BitVec.ofNat 32 i.val) 4#32) 2#32 = BitVec.ofBool (decide (2 ≤ i.val % 4)) := by
  decide +kernel

theorem pay12_apply (h : FVec Ideal S512x1024 .bf16) (b v : FVec Ideal S512x1024 .f32) (w : Vec Ideal S1024x1024 .bf16)
    (w0 w1 w2 : Vec Ideal S1x1x1024 .f32) (i : Fin 512) (d : Fin 1024) :
    k0_pay12 x h b v w (constant S512x1024 .f32 0#32) pre w0 w1 w2 wo (ix2 i d)
      = outRow (fun d => x (ix2 i d)) (fun n => b (ix2 i n) * (w0 (ix3 0 0 n) * back2 pre (k0_pay11 h v w (constant S512x1024 .f32 0#32)) i n
          + w1 (ix3 0 0 n) * back1 pre (k0_pay11 h v w (constant S512x1024 .f32 0#32)) i n
          + w2 (ix3 0 0 n) * k0_pay11 h v w (constant S512x1024 .f32 0#32) (ix2 i n))) (fun n d => wo (ix2 n d)) d := by
  pointwise [k0_pay12, outRow, back1, back2, mask1, mask2]

theorem pay13_apply (v : FVec Ideal S512x1024 .f32) (i : Fin 512) (d : Fin 1024) : k0_pay13 v (ix2 i d) = v (ix2 i d) := by
  pointwise [k0_pay13]

theorem mid_apply (i : Fin 512) (d : Fin 1024) : mid x pre g wc win wo (ix2 i d)
    = outRow (fun d => x (ix2 i d)) (fun n => proj (hRow x g i) (fun d n => win (ix2 d n)) (bCol n)
        * (wc (ix3 0 0 n) * back2 pre (gated x g win) i n + wc (ix3 0 1 n) * back1 pre (gated x g win) i n + wc (ix3 0 2 n) * uOf x g win i n))
      (fun n d => wo (ix2 n d)) d := by
  have hg : k0_pay11 (k0_pay8 x g) (k0_pay10 x g (keptIn win 1)) (keptIn win 2) (constant S512x1024 .f32 0#32) = gated x g win := rfl
  unfold mid
  refine (pay13_apply _ i d).trans ?_
  rw [pay12_apply, hg]
  simp only [pay7_apply, pay9_apply, pay8_apply, keptIn_apply, keptOut_apply, wcRow_apply, gated_apply, third_zero]
  rfl

/-! The hidden rows. -/

theorem pay14_apply (v : Vec Ideal S512x1024 .f32) (i : Fin 512) (d : Fin 1024) :
    k0_pay14 v gf (ix2 i d) = hnRow (fun d => v (ix2 i d)) (fun d => gf (ix2 0 d)) d := by
  pointwise [k0_pay14, hnRow, eps]
theorem pay15_apply (h : FVec Ideal S512x1024 .bf16) (a b : Vec Ideal S1024x256 .bf16) (i : Fin 512) (j : Fin 256) :
    k0_pay15 h a b (ix2 i j) = (∑ k : Fin 1024, h (ix2 i k) * a (ix2 k j)) * Ideal.logistic (∑ k : Fin 1024, h (ix2 i k) * a (ix2 k j))
      * ∑ k : Fin 1024, h (ix2 i k) * b (ix2 k j) := by
  pointwise [k0_pay15]
theorem pay3_apply (v : Vec Ideal S512x1024 .f32) (a : Vec Ideal S512x2816 .bf16) (w : Vec Ideal S2816x1024 .bf16) (i : Fin 512) (d : Fin 1024) :
    k0_pay3 v a w (ix2 i d) = v (ix2 i d) + ∑ n : Fin 2816, a (ix2 i n) * w (ix2 n d) := by
  pointwise [k0_pay3]
theorem slicePlace_emb (k : Fin 11) (i : Fin 512) (j : Fin 256) :
    (slicePlace k).emb (ix2 i j : S512x256.Idx) = (ix2 i (colIn k j) : S512x2816.Idx) := by
  funext a; fin_cases a
  · exact Fin.ext (show 0 + 1 * i.val = i.val by omega)
  · exact Fin.ext (show 256 * k.val + 1 * j.val = 256 * k.val + j.val by omega)

/-- The hidden rows of given rows. -/
def hidTile (y : Vec Ideal S512x1024 .f32) : Vec Ideal S512x2816 .bf16 := fun i =>
  Ffn.hidden (hnRow (fun d => y (ix2 (i 0) d)) (fun d => gf (ix2 0 d))) (fun d n => wg (ix2 d n)) (fun d n => wu (ix2 d n)) (i 1)

theorem hidTile_apply (y : Vec Ideal S512x1024 .f32) (i : Fin 512) (n : Fin 2816) : hidTile gf wg wu y (ix2 i n)
    = Ffn.hidden (hnRow (fun d => y (ix2 i d)) (fun d => gf (ix2 0 d))) (fun d n => wg (ix2 d n)) (fun d n => wu (ix2 d n)) n := rfl

theorem sliceStore_eq (y : Vec Ideal S512x1024 .f32) (k : Fin 11) (z : (slicePlace k).shape.Idx) :
    k0_pay15 (k0_pay14 y gf) (keptG wg k) (keptU wu k) z = hidTile gf wg wu y ((slicePlace k).emb z) := by
  obtain ⟨i, j, rfl⟩ : ∃ (i : Fin 512) (j : Fin 256), z = (ix2 i j : S512x256.Idx) := ⟨z 0, z 1, ValueIdx.eq_ix2 z⟩
  rw [slicePlace_emb]
  refine (pay15_apply _ _ _ i j).trans ?_
  simp only [pay14_apply, keptG_apply, keptU_apply]
  rfl

theorem hid_apply (y : Vec Ideal S512x1024 .f32) (i : Fin 512) (n : Fin 2816) :
    hid gf wg wu y (ix2 i n) = hidTile gf wg wu y (ix2 i n) := by
  unfold hid
  rw [View.readCov_eq_canon']
  have hn : (slicePlace ⟨n.val / 256, by omega⟩).emb (ix2 i ⟨n.val % 256, by omega⟩ : S512x256.Idx) = (ix2 i n : S512x2816.Idx) := by
    rw [slicePlace_emb]; congr 1; apply Fin.ext; simp only [colIn]; omega
  have hy : ((Rect.unit ![0, 0] ![512, 2816] inb_S512x2816_S512x2816_0_0 : Rect S512x2816).toLoadRect).idx (ix2 i n : S512x2816.Idx) = (ix2 i n : S512x2816.Idx) := by
    funext a; fin_cases a <;> (apply Fin.ext; simp)
  show View.canon _ _ = _
  rw [hy, ← hn]
  refine View.canon_apply_of_pieces (Val := Elt Ideal) (hidTile gf wg wu y) _ ?_ _ ?_
  · intro p hp z
    obtain ⟨k, -, rfl⟩ := List.mem_map.mp hp
    exact sliceStore_eq gf wg wu y k z
  · refine ⟨_, List.mem_map_of_mem ((by decide : ∀ k : Fin 11, k ∈ ([10, 9, 8, 7, 6, 5, 4, 3, 2, 1, 0] : List (Fin 11))) ⟨n.val / 256, by omega⟩), ?_⟩
    exact LoadRect.idx_mem _ _

theorem tile_apply (y : Vec Ideal S512x1024 .f32) (i : Fin 512) (d : Fin 1024) : tile gf wg wu wd y (ix2 i d)
    = y (ix2 i d) + ∑ n : Fin 2816, Ffn.hidden (hnRow (fun d => y (ix2 i d)) (fun d => gf (ix2 0 d))) (fun d n => wg (ix2 d n))
        (fun d n => wu (ix2 d n)) n * wd (ix2 n d) := by
  refine (pay3_apply _ _ _ i d).trans ?_
  simp only [hid_apply, keptD_apply, hidTile_apply]

/-! The rows, once the arrays read hold the arguments: row `4 b + t` is token `t` of sequence `b`. -/

def seqOf (i : Fin 512) : Fin 128 := ⟨i.val / 4, by omega⟩
def tokOf (i : Fin 512) : Fin 4 := ⟨i.val % 4, by omega⟩

variable (A : Args)

/-- The arrays that the rows after the convolution are made of hold the arguments. -/
structure Holds : Prop where
  x : ∀ i d, x (ix2 i d) = A.x (seqOf i) (tokOf i) d
  pre : ∀ (i : Fin 512) (h : i.val % 4 < 2) d, pre (ix2 i d) = A.s (seqOf i) ⟨i.val % 4, h⟩ d
  g : ∀ d, g (ix2 0 d) = A.g d
  wc : ∀ j d, wc (ix3 0 j d) = A.wc j d
  w : ∀ k n, win (ix2 k n) = A.w k n
  wout : ∀ n d, wo (ix2 n d) = A.wout n d

variable {x pre g wc win wo A} (H : Holds x pre g wc win wo A)
include H

theorem hRow_eq (i : Fin 512) : hRow x g i = hnRow (A.x (seqOf i) (tokOf i)) A.g := by
  unfold hRow
  simp only [H.x, H.g]
theorem uOf_eq (i : Fin 512) : uOf x g win i = A.u (seqOf i) (tokOf i) := by
  unfold uOf
  rw [hRow_eq H]
  simp only [H.w]
  rfl
theorem gated_eq (i : Fin 512) (d : Fin 1024) : gated x g win (ix2 i d) = A.u (seqOf i) (tokOf i) d := by
  rw [gated_apply, uOf_eq H]

theorem back2_eq (i : Fin 512) (d : Fin 1024) : back2 pre (gated x g win) i d = A.full (seqOf i) ⟨(tokOf i).val, by omega⟩ d := by
  unfold back2
  by_cases h : 2 ≤ i.val % 4
  · rw [if_pos h, gated_eq H]
    unfold Args.full
    rw [dif_neg (by simp only [tokOf]; omega)]
    congr 1 <;> (apply Fin.ext; simp only [seqOf, tokOf]; omega)
  · rw [if_neg h, H.pre i (by omega)]
    exact (A.full_low _ _ _ d).symm
theorem back1_eq (i : Fin 512) (d : Fin 1024) : back1 pre (gated x g win) i d = A.full (seqOf i) ⟨(tokOf i).val + 1, by omega⟩ d := by
  unfold back1
  by_cases h : 1 ≤ i.val % 4
  · rw [if_pos h, gated_eq H]
    unfold Args.full
    rw [dif_neg (by simp only [tokOf]; omega)]
    congr 1 <;> (apply Fin.ext; simp only [seqOf, tokOf]; omega)
  · rw [if_neg h, H.pre ⟨(i.val + 512 - 511) % 512, by omega⟩ (by simp only []; omega)]
    refine Eq.trans ?_ (A.full_low (seqOf i) ((tokOf i).val + 1) (by simp only [tokOf]; omega) d).symm
    congr 1 <;> (apply Fin.ext; simp only [seqOf, tokOf]; omega)

theorem mid_eq (i : Fin 512) (d : Fin 1024) : mid x pre g wc win wo (ix2 i d) = A.mid (seqOf i) (tokOf i) d := by
  rw [mid_apply, hRow_eq H, uOf_eq H, ← A.full_add_two]
  simp only [back1_eq H, back2_eq H, H.x, H.wc, H.w, H.wout]
  rfl

end Cert.Step
end
-- ==== Proof.Step.Blocks.lean ====
module

public import proofs.«01_k».proof.Proof.Step.TileRows
public import Idealize.ShloMosaic.Lib.Pipeline.ValueKit.Geometry

@[expose] public section

set_option maxRecDepth 16384

noncomputable section

namespace Cert.Step

open Cert.Kernel5Ideal Cert.Kernel5Ideal.Gen Cert.Retention
open Idealize.ShloMosaic Idealize.ShloMosaic.TcCoe Idealize.SL.Sem
open Idealize.ShloMosaic.Pipeline (Dat)

variable (m : (ℓ : Loc nD τ sig) → Buf (Elt Ideal) ℓ) (c : Dev nD)

/-! # The blocks of the launch, at their coordinates -/

/-- The arguments by coordinates. -/
def args : Args where
  x b t d := (m ((c.tc : Thread nD τ).loc main_arg0) : FVec Ideal S128x4x1024 .f32) (ix3 b t d)
  s b n d := (m ((c.tc : Thread nD τ).loc main_arg1) : FVec Ideal S1x128x2x1024 .f32) (ix4 0 b n d)
  g d := (m ((c.tc : Thread nD τ).loc main_arg2) : FVec Ideal S2x1024 .f32) (ix2 0 d)
  gf d := (m ((c.tc : Thread nD τ).loc main_arg3) : FVec Ideal S2x1024 .f32) (ix2 0 d)
  w k n := (m ((c.tc : Thread nD τ).loc main_arg4) : FVec Ideal S1x1024x3072 .f32) (ix3 0 k n)
  wc j d := (m ((c.tc : Thread nD τ).loc main_arg5) : FVec Ideal S1x3x1024 .f32) (ix3 0 j d)
  wout n d := (m ((c.tc : Thread nD τ).loc main_arg6) : FVec Ideal S1x1024x1024 .f32) (ix3 0 n d)
  wg k n := (m ((c.tc : Thread nD τ).loc main_arg7) : FVec Ideal S1x1024x2816 .bf16) (ix3 0 k n)
  wu k n := (m ((c.tc : Thread nD τ).loc main_arg8) : FVec Ideal S1x1024x2816 .bf16) (ix3 0 k n)
  wd n d := (m ((c.tc : Thread nD τ).loc main_arg9) : FVec Ideal S1x2816x1024 .bf16) (ix3 0 n d)

/-- The rotary frequencies. -/
def freqs : FVec Ideal S128 .f32 :=
  Host.powf (broadcastInDim S128 ![] bcast_S_S128 (constant S_ .f32 0x461C4000#32))
    (Host.divf (Host.negf (sitofp .f32 (iotaInDim S128 32 0))) (broadcastInDim S128 ![] bcast_S_S128 (constant S_ .f32 0x43000000#32)))

/-- The state's rows with two rows of zeros after each sequence's. -/
def padState (s : FVec Ideal S1x128x2x1024 .f32) : FVec Ideal S128x4x1024 .f32 :=
  pad S128x4x1024 ![0, 0, 0] ![0, 2, 0] ![0, 0, 0] (shapeCast S128x2x1024 s shapeCasts_S1x128x2x1024_S128x2x1024)
    (sitofp .f32 (constantI S_ 32 0#32) : FVec Ideal S_ .f32) pads_S128x2x1024_S128x4x1024_000_020_000 h_S_
/-- The first row of an array of two, as a row. -/
def firstRow (g : FVec Ideal S2x1024 .f32) : FVec Ideal S1x1024 .f32 :=
  broadcastInDim S1x1024 ![1] bcast_S1024_S1x1024_1 (shapeCast S1024 (extractStridedSlice S1x1024 ![0, 0] g slices_S2x1024_S1x1024_0_0) shapeCasts_S1x1024_S1024)

/-! The arrays that are computed of the arguments before the launch. -/

theorem V_v6 : V m c main_v6 = (broadcastInDim S1x128 ![1] bcast_S128_S1x128_1 freqs : FVec Ideal S1x128 .f32) := by
  show StableHlo.after (hostOps0 ++ (hostOps0_1 ++ (hostOps0_2 ++ []))) _ (Proc.devRef .tc main_v6) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v7 : V m c main_v7 = (truncf .bf16 (m ((c.tc : Thread nD τ).loc main_arg4) : FVec Ideal S1x1024x3072 .f32) bitsLt_bf16_f32 : FVec Ideal S1x1024x3072 .bf16) := by
  show StableHlo.after (hostOps0 ++ (hostOps0_1 ++ (hostOps0_2 ++ []))) _ (Proc.devRef .tc main_v7) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v8 : V m c main_v8 = (truncf .bf16 (m ((c.tc : Thread nD τ).loc main_arg6) : FVec Ideal S1x1024x1024 .f32) bitsLt_bf16_f32 : FVec Ideal S1x1024x1024 .bf16) := by
  show StableHlo.after (hostOps0 ++ (hostOps0_1 ++ (hostOps0_2 ++ []))) _ (Proc.devRef .tc main_v8) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v9 : V m c main_v9 = (shapeCast S512x1024 (m ((c.tc : Thread nD τ).loc main_arg0) : FVec Ideal S128x4x1024 .f32) shapeCasts_S128x4x1024_S512x1024 : FVec Ideal S512x1024 .f32) := by
  show StableHlo.after (hostOps0 ++ (hostOps0_1 ++ (hostOps0_2 ++ []))) _ (Proc.devRef .tc main_v9) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v13 : V m c main_v13 = firstRow (m ((c.tc : Thread nD τ).loc main_arg2)) := by
  show StableHlo.after (hostOps0 ++ (hostOps0_1 ++ (hostOps0_2 ++ []))) _ (Proc.devRef .tc main_v13) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v16 : V m c main_v16 = firstRow (m ((c.tc : Thread nD τ).loc main_arg3)) := by
  show StableHlo.after (hostOps0 ++ (hostOps0_1 ++ (hostOps0_2 ++ []))) _ (Proc.devRef .tc main_v16) = _
  simp only [hostOps0, hostOps0_1, hostOps0_2, List.cons_append, List.nil_append, StableHlo.TRef.binary, StableHlo.TRef.unary, StableHlo.TRef.toBuf, StableHlo.TRef.ofBuf, cast_eq]
  after_results_simp <;> rfl
theorem V_v19 : V m c main_v19 = (shapeCast S512x1024 (padState (m ((c.tc : Thread nD τ).loc main_arg1))) shapeCasts_S128x4x1024_S512x1024 : FVec Ideal S512x1024 .f32) := by
  show StableHlo.after (hostOps0 ++ (hostOps0_1 ++ (hostOps0_2 ++ []))) _ (Proc.devRef .tc main_v19) = _
  simp only [hostOps0, hostOps0_1, hostOps0_2, List.cons_append, List.nil_append, StableHlo.TRef.binary, StableHlo.TRef.unary, StableHlo.TRef.toBuf, StableHlo.TRef.ofBuf, cast_eq]
  after_results_simp <;> rfl

theorem firstRow_apply (g : FVec Ideal S2x1024 .f32) (d : Fin 1024) : firstRow g (ix2 0 d) = g (ix2 0 d) := by
  pointwise [firstRow]
theorem flat_apply (v : FVec Ideal S128x4x1024 .f32) (i : Fin 512) (d : Fin 1024) :
    shapeCast S512x1024 v shapeCasts_S128x4x1024_S512x1024 (ix2 i d) = v (ix3 (seqOf i) (tokOf i) d) := by
  pointwise [seqOf, tokOf]
theorem padState_apply (s : FVec Ideal S1x128x2x1024 .f32) (b : Fin 128) (t : Fin 4) (h : t.val < 2) (d : Fin 1024) :
    padState s (ix3 b t d) = s (ix4 0 b ⟨t.val, h⟩ d) := by
  pointwise [padState, h]

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem blk0 (t : Fin cfg0.N) (i : Fin 512) (d : Fin 1024) : (iblk m c 0 t : Vec Ideal S512x1024 .f32) (ix2 i d) = (args m c).x (seqOf i) (tokOf i) d := by
  refine Eq.trans (congrArg (V m c main_v9) (?_ : _ = (ix2 i d : S512x1024.Idx))) ((congrFun (V_v9 m c) (ix2 i d)).trans (flat_apply _ i d))
  blk_ext [idx0]
theorem blk1 (t : Fin cfg0.N) (i : Fin 512) (h : i.val % 4 < 2) (d : Fin 1024) :
    (iblk m c 1 t : Vec Ideal S512x1024 .f32) (ix2 i d) = (args m c).s (seqOf i) ⟨i.val % 4, h⟩ d := by
  refine Eq.trans (congrArg (V m c main_v19) (?_ : _ = (ix2 i d : S512x1024.Idx)))
    ((congrFun (V_v19 m c) (ix2 i d)).trans ((flat_apply _ i d).trans (padState_apply _ (seqOf i) (tokOf i) h d)))
  blk_ext [idx1]
theorem blk2 (t : Fin cfg0.N) (d : Fin 1024) : (iblk m c 2 t : Vec Ideal S1x1024 .f32) (ix2 0 d) = (args m c).g d := by
  refine Eq.trans (congrArg (V m c main_v13) (?_ : _ = (ix2 0 d : S1x1024.Idx))) ((congrFun (V_v13 m c) (ix2 0 d)).trans (firstRow_apply _ d))
  blk_ext [idx2]
theorem blk3 (t : Fin cfg0.N) (j : Fin 3) (d : Fin 1024) : (iblk m c 3 t : Vec Ideal S1x3x1024 .f32) (ix3 0 j d) = (args m c).wc j d := by
  refine Eq.trans (congrArg (V m c main_arg5) (?_ : _ = (ix3 0 j d : S1x3x1024.Idx))) (congrFun (V_main_arg5 m c) (ix3 0 j d))
  blk_ext [idx3]
theorem blk4 (t : Fin cfg0.N) (d : Fin 1024) : (iblk m c 4 t : Vec Ideal S1x1024 .f32) (ix2 0 d) = (args m c).gf d := by
  refine Eq.trans (congrArg (V m c main_v16) (?_ : _ = (ix2 0 d : S1x1024.Idx))) ((congrFun (V_v16 m c) (ix2 0 d)).trans (firstRow_apply _ d))
  blk_ext [idx4]
theorem blk6 (t : Fin cfg0.N) (k : Fin 128) : (iblk m c 6 t : Vec Ideal S1x128 .f32) (ix2 0 k) = freqs (ix1 k) := by
  refine Eq.trans (congrArg (V m c main_v6) (?_ : _ = (ix2 0 k : S1x128.Idx))) ((congrFun (V_v6 m c) (ix2 0 k)).trans ?_)
  · blk_ext [idx6]
  · pointwise

theorem holds (t : Fin cfg0.N) : Holds (iblk m c 0 t) (iblk m c 1 t) (iblk m c 2 t) (iblk m c 3 t) (broughtIn (V m c main_v7)) (broughtOut (V m c main_v8)) (args m c) where
  x i d := blk0 m c t i d
  pre i h d := blk1 m c t i h d
  g d := blk2 m c t d
  wc j d := blk3 m c t j d
  w k n := (broughtIn_apply _ k n).trans (congrFun (V_v7 m c) (ix3 0 k n))
  wout n d := (broughtOut_apply _ n d).trans (congrFun (V_v8 m c) (ix3 0 n d))

end Cert.Step
end
-- ==== Proof.Step.Final.lean ====
module

public import proofs.«01_k».proof.Proof.Step.Blocks

@[expose] public section

set_option maxRecDepth 16384

noncomputable section

namespace Cert.Step

open Cert.Kernel5Ideal Cert.Kernel5Ideal.Gen Cert.Retention
open Idealize.ShloMosaic Idealize.ShloMosaic.TcCoe Idealize.SL.Sem
open Idealize.ShloMosaic.Pipeline (Dat)

variable (m : (ℓ : Loc nD τ sig) → Buf (Elt Ideal) ℓ) (c : Dev nD)

/-! # The results after the run -/

/-- The rows out, the gated rows of the launch, the two last gated rows of each sequence, and a table of a function of the angles. -/
def finalY (A : Args) : Vec Ideal S512x1024 .f32 := fun i => A.out (seqOf (i 0)) (tokOf (i 0)) (i 1)
def finalU (A : Args) : Vec Ideal S512x1024 .f32 := fun i => A.u (seqOf (i 0)) (tokOf (i 0)) (i 1)
def finalS (A : Args) : Vec Ideal S128x2x1024 .f32 := fun i =>
  A.full (i 0) ⟨4 + (i 1).val, by have : (i 1).val < 2 := (i 1).isLt; omega⟩ (i 2)
theorem tile_eq (t : Fin cfg0.N) (i : Fin 512) (d : Fin 1024) :
    tile (iblk m c 4 t) (broughtG (V m c main_arg7)) (broughtU (V m c main_arg8)) (broughtD (V m c main_arg9))
      (mid (iblk m c 0 t) (iblk m c 1 t) (iblk m c 2 t) (iblk m c 3 t) (broughtIn (V m c main_v7)) (broughtOut (V m c main_v8))) (ix2 i d)
      = (args m c).out (seqOf i) (tokOf i) d := by
  rw [tile_apply]
  simp only [mid_eq (holds m c t), blk4, broughtG_apply, broughtU_apply, broughtD_apply, V_main_arg7, V_main_arg8, V_main_arg9]
  rfl

theorem final7 : (dats m 0 c).arrAt 7 cfg0.N = finalU (args m c) := by
  refine (dats m 0 c).arrAt_eq_of_covers 7 _ (by decide +kernel) fun t hf y => ?_
  blk_simp
  rw [after0_7, outsAt0_eq]
  dsimp only
  refine (congrArg (gated (iblk m c 0 t) (iblk m c 2 t) (broughtIn (V m c main_v7))) (ValueIdx.eq_ix2 y)).trans
    ((gated_eq (holds m c t) (y 0) (y 1)).trans ?_)
  refine congrArg (finalU (args m c)) (a₁ := (ix2 (y 0) (y 1) : S512x1024.Idx)) (a₂ := _) ?_
  blk_ext [idx7]

theorem final8 : (dats m 0 c).arrAt 8 cfg0.N = finalY (args m c) := by
  refine (dats m 0 c).arrAt_eq_of_covers 8 _ (by decide +kernel) fun t hf y => ?_
  blk_simp
  rw [after0_8, outsAt0_eq]
  dsimp only
  refine (congrArg (tile (iblk m c 4 t) (broughtG (V m c main_arg7)) (broughtU (V m c main_arg8)) (broughtD (V m c main_arg9))
      (mid (iblk m c 0 t) (iblk m c 1 t) (iblk m c 2 t) (iblk m c 3 t) (broughtIn (V m c main_v7)) (broughtOut (V m c main_v8))))
      (ValueIdx.eq_ix2 y)).trans ((tile_eq m c t (y 0) (y 1)).trans ?_)
  refine congrArg (finalY (args m c)) (a₁ := (ix2 (y 0) (y 1) : S512x1024.Idx)) (a₂ := _) ?_
  blk_ext [idx8]

/-- The angle of a position at a frequency. -/
def angle (q : FVec Ideal S128 .f32) (i : Fin 2048) (k : Fin 128) : EReal :=
  (FloatOps.sitofp .f32 (BitVec.ofNat 32 i.val) : Ideal .f32) * q (ix1 k)

/-- The tables of the angles' cosines and sines. -/
def finalCos (q : FVec Ideal S128 .f32) : Vec Ideal S2048x128 .f32 := fun i => Ideal.cos (angle q (i 0) (i 1))
def finalSin (q : FVec Ideal S128 .f32) : Vec Ideal S2048x128 .f32 := fun i => Ideal.sin (angle q (i 0) (i 1))

theorem cosTile_eq (t : Fin cfg0.N) (i : Fin 2048) (k : Fin 128) : k0_pay5 (iblk m c 6 t) (ix2 i k) = Ideal.cos (angle freqs i k) := by
  have e (v : Vec Ideal S1x128 .f32) : k0_pay5 v (ix2 i k) = Ideal.cos ((FloatOps.sitofp .f32 (BitVec.ofNat 32 i.val) : Ideal .f32) * v (ix2 0 k)) := by
    pointwise [k0_pay5, k0_pay4]
  rw [e, blk6]
  rfl
theorem sinTile_eq (t : Fin cfg0.N) (i : Fin 2048) (k : Fin 128) : k0_pay6 (iblk m c 6 t) (ix2 i k) = Ideal.sin (angle freqs i k) := by
  have e (v : Vec Ideal S1x128 .f32) : k0_pay6 v (ix2 i k) = Ideal.sin ((FloatOps.sitofp .f32 (BitVec.ofNat 32 i.val) : Ideal .f32) * v (ix2 0 k)) := by
    pointwise [k0_pay6, k0_pay4]
  rw [e, blk6]
  rfl

theorem final9 : (dats m 0 c).arrAt 9 cfg0.N = finalCos freqs := by
  refine (dats m 0 c).arrAt_eq_of_covers 9 _ (by decide +kernel) fun t hf y => ?_
  blk_simp
  rw [after0_9, outsAt0_eq]
  dsimp only
  refine (congrArg (k0_pay5 (iblk m c 6 t)) (ValueIdx.eq_ix2 y)).trans ((cosTile_eq m c t (y 0) (y 1)).trans ?_)
  refine congrArg (finalCos freqs) (a₁ := (ix2 (y 0) (y 1) : S2048x128.Idx)) (a₂ := _) ?_
  blk_ext [idx9]

theorem final10 : (dats m 0 c).arrAt 10 cfg0.N = finalSin freqs := by
  refine (dats m 0 c).arrAt_eq_of_covers 10 _ (by decide +kernel) fun t hf y => ?_
  blk_simp
  rw [after0_10, outsAt0_eq]
  dsimp only
  refine (congrArg (k0_pay6 (iblk m c 6 t)) (ValueIdx.eq_ix2 y)).trans ((sinTile_eq m c t (y 0) (y 1)).trans ?_)
  refine congrArg (finalSin freqs) (a₁ := (ix2 (y 0) (y 1) : S2048x128.Idx)) (a₂ := _) ?_
  blk_ext [idx10]

theorem lastRows_apply (A : Args) (b : Fin 128) (n : Fin 2) (d : Fin 1024) :
    extractStridedSlice S128x2x1024 ![0, 2, 0] (shapeCast S128x4x1024 (finalU A) shapeCasts_S512x1024_S128x4x1024)
      slices_S128x4x1024_S128x2x1024_0_2_0 (ix3 b n d) = A.full b ⟨4 + n.val, by omega⟩ d := by
  have e (v : FVec Ideal S512x1024 .f32) : extractStridedSlice S128x2x1024 ![0, 2, 0] (shapeCast S128x4x1024 v shapeCasts_S512x1024_S128x4x1024)
      slices_S128x4x1024_S128x2x1024_0_2_0 (ix3 b n d) = v (ix2 ⟨b.val * 4 + (2 + n.val), by omega⟩ d) := by
    pointwise
  refine (e _).trans ?_
  show A.u (seqOf ⟨b.val * 4 + (2 + n.val), _⟩) (tokOf ⟨b.val * 4 + (2 + n.val), _⟩) d = _
  unfold Args.full
  rw [dif_neg (by simp only []; omega)]
  congr 1 <;> (apply Fin.ext; simp only [seqOf, tokOf]; omega)

/-- The state, which the host takes of the gated rows after the launch. -/
theorem final22 : Pipeline.afterTail₀ cfgs (dats m) 0 (V0 m) [hostOps1] c main_v22 = finalS (args m c) := by
  have hA : Pipeline.withArrays (cfgs 0).spec c (V0 m c) (fun w => (dats m 0 c).arrAt w (cfgs 0).N) (Proc.devRef .tc main_v20_0)
      = finalU (args m c) :=
    ((dats m 0 c).withArrays_arrAt (by decide) (V0 m c) (A_eq m c) 7).trans (final7 m c)
  have e : Pipeline.afterTail₀ cfgs (dats m) 0 (V0 m) [hostOps1] c main_v22
      = extractStridedSlice S128x2x1024 ![0, 2, 0] (shapeCast S128x4x1024 (finalU (args m c)) shapeCasts_S512x1024_S128x4x1024)
        slices_S128x4x1024_S128x2x1024_0_2_0 := by
    rw [← hA]
    show StableHlo.after (hostOps1 ++ []) _ (Proc.devRef .tc main_v22) = _
    simp only [hostOps1, List.cons_append, List.nil_append]
    after_results_simp <;> rfl
  rw [e]
  funext i
  exact (congrArg _ (ValueIdx.eq_ix3 i)).trans (lastRows_apply _ (i 0) (i 1) (i 2))

/-- The run: what each result holds, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v20_1) = finalY (args m c)
      ∧ r.2.mem ((c.tc : Thread nD τ).loc main_v22) = finalS (args m c)
      ∧ r.2.mem ((c.tc : Thread nD τ).loc main_v20_2) = finalCos freqs
      ∧ r.2.mem ((c.tc : Thread nD τ).loc main_v20_3) = finalSin freqs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h.2 c).1 8).trans (final8 m c),
      ((h.2 c).2 main_v22 (Pipeline.mem_restRefs_of main_v22 (by decide) (by decide))).trans (final22 m c),
      ((h.2 c).1 9).trans (final9 m c), ((h.2 c).1 10).trans (final10 m c), h.1 c⟩)
    (θ_run_and (unchanged m ρ) (run_main m ρ))

end Cert.Step
end
-- ==== Proof.Step.Reference.lean ====
module

public import proofs.«01_k».proof.Proof.Gen.Reference5Ideal.Run
public import proofs.«01_k».proof.Proof.Step.Rows
public import Idealize.ShloMosaic.Lib.Pointwise

@[expose] public section

set_option maxRecDepth 16384

noncomputable section

namespace Cert.Step.Reference

open Cert.Reference5Ideal Cert.Reference5Ideal.Gen Cert.Retention Cert.Conv
open Idealize.ShloMosaic Idealize.ShloMosaic.TcCoe Idealize.SL.Sem Idealize.ShloMosaic.StableHlo

/-! # The reference, stage by stage -/

variable (x : FVec Ideal S128x4x1024 .f32) (g : FVec Ideal S2x1024 .f32) (w : FVec Ideal S1x1024x3072 .f32) (st : FVec Ideal S1x128x2x1024 .f32)
  (wc : FVec Ideal S1x3x1024 .f32) (wout : FVec Ideal S1x1024x1024 .f32) (wg : FVec Ideal S1x1024x2816 .bf16) (wd : FVec Ideal S1x2816x1024 .bf16)
  (z : FVec Ideal S128x4x3072 .f32) (u a : FVec Ideal S128x4x1024 .f32) (f : FVec Ideal S128x6x1024 .f32) (p q : FVec Ideal S128x4x2816 .f32)

/-- The normalised rows. -/
def normed : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ (extractStridedSlice S1x1024 ![0, 0] g slices_S2x1024_S1x1024_0_0) shapeCasts_S1x1024_S1024)))

/-- The projection. -/
def projected : FVec Ideal S128x4x3072 .f32 :=
  Host.dotGeneral dot_S128x4x1024_S1024x3072_S128x4x3072_2_0_01_1_n_n none x (shapeCast _ w shapeCasts_S1x1024x3072_S1024x3072)

/-- The gated rows. -/
def gatedRows : FVec Ideal S128x4x1024 .f32 :=
  mulf (extractStridedSlice S128x4x1024 ![0, 0, 1024] z slices_S128x4x3072_S128x4x1024_0_0_1024) (extractStridedSlice S128x4x1024 ![0, 0, 2048] z slices_S128x4x3072_S128x4x1024_0_0_2048)

/-- The gated rows after the state's. -/
def padded : FVec Ideal S128x6x1024 .f32 :=
  concatenate S128x6x1024 1 [⟨S128x2x1024, (shapeCast _ st shapeCasts_S1x128x2x1024_S128x2x1024)⟩, ⟨S128x4x1024, u⟩] concatenates_S128x2x1024_S128x4x1024_S128x6x1024_d1

/-- The convolution, gated. -/
def mixed : FVec Ideal S128x4x1024 .f32 :=
  mulf (extractStridedSlice S128x4x1024 ![0, 0, 0] z slices_S128x4x3072_S128x4x1024_0_0_0) (addf (addf (addf (broadcastInDim S128x4x1024 ![] bcast_S_S128x4x1024 (constant S_ .f32 0x00000000#32)) (mulf (broadcastInDim S128x4x1024 ![0, 1, 2] bcast_S1x1x1024_S128x4x1024_0_1_2 (broadcastInDim S1x1x1024 ![2] bcast_S1024_S1x1x1024_2 (shapeCast _ (extractStridedSlice S1x1x1024 ![0, 0, 0] wc slices_S1x3x1024_S1x1x1024_0_0_0) shapeCasts_S1x1x1024_S1024))) (extractStridedSlice S128x4x1024 ![0, 0, 0] f slices_S128x6x1024_S128x4x1024_0_0_0))) (mulf (broadcastInDim S128x4x1024 ![0, 1, 2] bcast_S1x1x1024_S128x4x1024_0_1_2 (broadcastInDim S1x1x1024 ![2] bcast_S1024_S1x1x1024_2 (shapeCast _ (extractStridedSlice S1x1x1024 ![0, 1, 0] wc slices_S1x3x1024_S1x1x1024_0_1_0) shapeCasts_S1x1x1024_S1024))) (extractStridedSlice S128x4x1024 ![0, 1, 0] f slices_S128x6x1024_S128x4x1024_0_1_0))) (mulf (broadcastInDim S128x4x1024 ![0, 1, 2] bcast_S1x1x1024_S128x4x1024_0_1_2 (broadcastInDim S1x1x1024 ![2] bcast_S1024_S1x1x1024_2 (shapeCast _ (extractStridedSlice S1x1x1024 ![0, 2, 0] wc slices_S1x3x1024_S1x1x1024_0_2_0) shapeCasts_S1x1x1024_S1024))) (extractStridedSlice S128x4x1024 ![0, 2, 0] f slices_S128x6x1024_S128x4x1024_0_2_0)))

/-- The rows out. -/
def rowsOut : FVec Ideal S128x4x1024 .f32 :=
  addf x (Host.dotGeneral dot_S128x4x1024_S1024x1024_S128x4x1024_2_0_01_1_n_n none a (shapeCast _ wout shapeCasts_S1x1024x1024_S1024x1024))

/-- A projection to the hidden width, the gated hidden rows and the rows out of the feed-forward part. -/
def widened : FVec Ideal S128x4x2816 .f32 :=
  Host.dotGeneral dot_S128x4x1024_S1024x2816_S128x4x2816_2_0_01_1_n_n none x (extf .f32 (shapeCast _ wg shapeCasts_S1x1024x2816_S1024x2816) bitsLt_bf16_f32)
def hiddenRows : FVec Ideal S128x4x2816 .f32 :=
  mulf (mulf p (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf p))))) q
def narrowed : FVec Ideal S128x4x1024 .f32 :=
  addf x (Host.dotGeneral dot_S128x4x2816_S2816x1024_S128x4x1024_2_0_01_1_n_n none p (extf .f32 (shapeCast _ wd shapeCasts_S1x2816x1024_S2816x1024) bitsLt_bf16_f32))

theorem normed_apply (b : Fin 128) (t : Fin 4) (d : Fin 1024) :
    normed x g (ix3 b t d) = hnRow (fun d => x (ix3 b t d)) (fun d => g (ix2 0 d)) d := by
  pointwise [normed, hnRow, eps]
theorem projected_apply (b : Fin 128) (t : Fin 4) (n : Fin 3072) :
    projected x w (ix3 b t n) = proj (fun d => x (ix3 b t d)) (fun d n => w (ix3 0 d n)) n := by
  pointwise [projected, proj]
theorem gatedRows_apply (b : Fin 128) (t : Fin 4) (d : Fin 1024) :
    gatedRows z (ix3 b t d) = z (ix3 b t (cCol d)) * z (ix3 b t (hCol d)) := by
  pointwise [gatedRows, cCol, hCol]
theorem padded_apply (b : Fin 128) (n : Fin 6) (d : Fin 1024) :
    padded st u (ix3 b n d) = if h : n.val < 2 then st (ix4 0 b ⟨n.val, h⟩ d) else u (ix3 b ⟨n.val - 2, by omega⟩ d) := by
  pointwise [padded]
theorem mixed_apply (b : Fin 128) (t : Fin 4) (d : Fin 1024) :
    mixed wc z f (ix3 b t d) = z (ix3 b t (bCol d)) * (wc (ix3 0 0 d) * f (ix3 b ⟨t.val, by omega⟩ d) + wc (ix3 0 1 d) * f (ix3 b ⟨t.val + 1, by omega⟩ d)
      + wc (ix3 0 2 d) * f (ix3 b ⟨t.val + 2, by omega⟩ d)) := by
  pointwise [mixed, bCol]
  simp only [Nat.add_comm 1, Nat.add_comm 2]
theorem rowsOut_apply (b : Fin 128) (t : Fin 4) (d : Fin 1024) :
    rowsOut x wout a (ix3 b t d) = outRow (fun d => x (ix3 b t d)) (fun d => a (ix3 b t d)) (fun n d => wout (ix3 0 n d)) d := by
  pointwise [rowsOut, outRow]

theorem widened_apply (b : Fin 128) (t : Fin 4) (n : Fin 2816) :
    widened x wg (ix3 b t n) = ∑ k : Fin 1024, x (ix3 b t k) * wg (ix3 0 k n) := by
  pointwise [widened]
theorem hiddenRows_apply (b : Fin 128) (t : Fin 4) (n : Fin 2816) :
    hiddenRows p q (ix3 b t n) = p (ix3 b t n) * Ideal.logistic (p (ix3 b t n)) * q (ix3 b t n) := by
  pointwise [hiddenRows]
  rfl
theorem narrowed_apply (b : Fin 128) (t : Fin 4) (d : Fin 1024) :
    narrowed x wd p (ix3 b t d) = x (ix3 b t d) + ∑ n : Fin 2816, p (ix3 b t n) * wd (ix3 0 n d) := by
  pointwise [narrowed]

variable (m : (ℓ : Loc nD τ sig) → Buf (Elt Ideal) ℓ) (c : Dev nD)

/-- The arguments on a device. -/
def args : Args where
  x b t d := (m ((c.tc : Thread nD τ).loc main_arg0) : FVec Ideal S128x4x1024 .f32) (ix3 b t d)
  s b n d := (m ((c.tc : Thread nD τ).loc main_arg1) : FVec Ideal S1x128x2x1024 .f32) (ix4 0 b n d)
  g d := (m ((c.tc : Thread nD τ).loc main_arg2) : FVec Ideal S2x1024 .f32) (ix2 0 d)
  gf d := (m ((c.tc : Thread nD τ).loc main_arg3) : FVec Ideal S2x1024 .f32) (ix2 0 d)
  w k n := (m ((c.tc : Thread nD τ).loc main_arg4) : FVec Ideal S1x1024x3072 .f32) (ix3 0 k n)
  wc j d := (m ((c.tc : Thread nD τ).loc main_arg5) : FVec Ideal S1x3x1024 .f32) (ix3 0 j d)
  wout n d := (m ((c.tc : Thread nD τ).loc main_arg6) : FVec Ideal S1x1024x1024 .f32) (ix3 0 n d)
  wg k n := (m ((c.tc : Thread nD τ).loc main_arg7) : FVec Ideal S1x1024x2816 .bf16) (ix3 0 k n)
  wu k n := (m ((c.tc : Thread nD τ).loc main_arg8) : FVec Ideal S1x1024x2816 .bf16) (ix3 0 k n)
  wd n d := (m ((c.tc : Thread nD τ).loc main_arg9) : FVec Ideal S1x2816x1024 .bf16) (ix3 0 n d)

/-- The stages of the arguments. -/
def projectedOf : FVec Ideal S128x4x3072 .f32 :=
  projected (normed (m ((c.tc : Thread nD τ).loc main_arg0)) (m ((c.tc : Thread nD τ).loc main_arg2))) (m ((c.tc : Thread nD τ).loc main_arg4))
def paddedOf : FVec Ideal S128x6x1024 .f32 := padded (m ((c.tc : Thread nD τ).loc main_arg1)) (gatedRows (projectedOf m c))
def midOf : FVec Ideal S128x4x1024 .f32 :=
  rowsOut (m ((c.tc : Thread nD τ).loc main_arg0)) (m ((c.tc : Thread nD τ).loc main_arg6))
    (mixed (m ((c.tc : Thread nD τ).loc main_arg5)) (projectedOf m c) (paddedOf m c))
def widenedOf (w : FVec Ideal S1x1024x2816 .bf16) : FVec Ideal S128x4x2816 .f32 :=
  widened (normed (midOf m c) (m ((c.tc : Thread nD τ).loc main_arg3))) w
def outOf : FVec Ideal S128x4x1024 .f32 :=
  narrowed (midOf m c) (m ((c.tc : Thread nD τ).loc main_arg9))
    (hiddenRows (widenedOf m c (m ((c.tc : Thread nD τ).loc main_arg7))) (widenedOf m c (m ((c.tc : Thread nD τ).loc main_arg8))))

set_option maxHeartbeats 4000000 in
theorem out_eq : Value.res_main_v88 m c = shapeCast _ (outOf m c) shapeCasts_S128x4x1024_S512x1024 := rfl

theorem projectedOf_apply (b : Fin 128) (t : Fin 4) (n : Fin 3072) :
    projectedOf m c (ix3 b t n) = proj (hnRow ((args m c).x b t) (args m c).g) (args m c).w n := by
  refine (projected_apply _ _ b t n).trans ?_
  simp only [normed_apply]
  rfl
theorem paddedOf_apply (b : Fin 128) (n : Fin 6) (d : Fin 1024) : paddedOf m c (ix3 b n d) = (args m c).full b n d := by
  refine (padded_apply _ _ b n d).trans ?_
  simp only [gatedRows_apply, projectedOf_apply]
  rfl
theorem midOf_apply (b : Fin 128) (t : Fin 4) (d : Fin 1024) : midOf m c (ix3 b t d) = (args m c).mid b t d := by
  refine (rowsOut_apply _ _ _ b t d).trans ?_
  simp only [mixed_apply, projectedOf_apply, paddedOf_apply]
  rfl
theorem outOf_apply (b : Fin 128) (t : Fin 4) (d : Fin 1024) : outOf m c (ix3 b t d) = (args m c).out b t d := by
  refine (narrowed_apply _ _ _ b t d).trans ?_
  unfold widenedOf
  simp only [hiddenRows_apply, widened_apply, normed_apply, midOf_apply]
  rfl

/-- Every row of the first result is the row function of the arguments. -/
theorem out_apply (i : Fin 512) (d : Fin 1024) :
    (Value.res_main_v88 m c : FVec Ideal S512x1024 .f32) (ix2 i d) = (args m c).out ⟨i.val / 4, by omega⟩ ⟨i.val % 4, by omega⟩ d := by
  rw [out_eq]
  have e (v : FVec Ideal S128x4x1024 .f32) : shapeCast S512x1024 v shapeCasts_S128x4x1024_S512x1024 (ix2 i d)
      = v (ix3 ⟨i.val / 4, by omega⟩ ⟨i.val % 4, by omega⟩ d) := by pointwise
  exact (e _).trans (outOf_apply m c _ _ d)

end Cert.Step.Reference
end
-- ==== Proof.Step.Claims.lean ====
module

public import proofs.«01_k».proof.Defs
public import proofs.«01_k».proof.Proof.Step.Final
public import proofs.«01_k».proof.Proof.Step.Reference
public import proofs.«01_k».proof.Proof.Gen.Kernel5.Frame
public import Idealize.ShloMosaic.Lib.Quiescent

@[expose] public section

set_option maxRecDepth 16384

noncomputable section

/-! # The claims of the short convolution and feed-forward part over four tokens -/

namespace Cert.Step.Claims

open Idealize.ShloMosaic Idealize.SL.Sem Cert.Step Cert.Retention

theorem kernel : Cert.quiescent_Kernel5 := fun m ρ _ => Cert.Kernel5.Gen.frame m ρ
theorem kernelIdeal : Cert.quiescent_Kernel5Ideal := fun m ρ _ => Cert.Kernel5Ideal.Gen.frame m ρ
theorem referenceIdeal : Cert.quiescent_Reference5Ideal := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)
theorem preserves : Cert.preserves_Kernel5_Kernel5Ideal := trivial

section Reference

open Cert.Reference5Ideal Cert.Reference5Ideal.Gen

variable (m : (ℓ : Loc nD τ sig) → Buf (Elt Ideal) ℓ) (c : Dev nD)

/-! The reference's results, as the functions that the kernel's are. -/

theorem rows_reference : (Value.res_main_v88 m c : FVec Ideal S512x1024 .f32) = finalY (Reference.args m c) := by
  funext i
  exact (congrArg _ (ValueIdx.eq_ix2 i)).trans (Reference.out_apply m c (i 0) (i 1))
theorem state_reference : extractStridedSlice S128x2x1024 ![0, 4, 0] (Reference.paddedOf m c) slices_S128x6x1024_S128x2x1024_0_4_0
    = finalS (Reference.args m c) := by
  have e (v : FVec Ideal S128x6x1024 .f32) (b : Fin 128) (n : Fin 2) (d : Fin 1024) :
      extractStridedSlice S128x2x1024 ![0, 4, 0] v slices_S128x6x1024_S128x2x1024_0_4_0 (ix3 b n d) = v (ix3 b ⟨4 + n.val, by omega⟩ d) := by
    pointwise
  funext i
  exact (congrArg _ (ValueIdx.eq_ix3 i)).trans ((e _ (i 0) (i 1) (i 2)).trans (Reference.paddedOf_apply m c _ _ _))

/-- The table of the angles of every position, at given frequencies. -/
def anglesOf (q : FVec Ideal S128 .f32) : FVec Ideal S2048x128 .f32 :=
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1 q))

theorem anglesOf_apply (q : FVec Ideal S128 .f32) (i : Fin 2048) (k : Fin 128) : anglesOf q (ix2 i k) = angle q i k := by
  pointwise [anglesOf, angle]
theorem cos_reference (q : FVec Ideal S128 .f32) : Host.cos (anglesOf q) = finalCos q := by
  funext i
  exact congrArg Ideal.cos ((congrArg _ (ValueIdx.eq_ix2 i)).trans (anglesOf_apply q (i 0) (i 1)))
theorem sin_reference (q : FVec Ideal S128 .f32) : Host.sin (anglesOf q) = finalSin q := by
  funext i
  exact congrArg Ideal.sin ((congrArg _ (ValueIdx.eq_ix2 i)).trans (anglesOf_apply q (i 0) (i 1)))

end Reference

theorem algebraic : Cert.algebraic_Kernel5Ideal_Reference5Ideal := by
  intro m ρ m' ρ' _ hagree
  refine ⟨_, _, _, _, run m ρ, ?_⟩
  refine (θ_run Cert.Reference5Ideal.defs _ _).mono (fun _ h c => ?_) (Cert.Reference5Ideal.Value.run (F := Ideal) m' ρ')
  obtain ⟨h0, h1, h2, h3, h4, h5, h6, h7, h8, h9, h10⟩ := hagree c
  have e : Reference.args m' c = args m c := by
    unfold Reference.args args
    rw [h0, h1, h2, h3, h4, h5, h6, h7, h8, h9]
  obtain ⟨r0, r1, r2, r3, r⟩ := h c
  exact ⟨r0.trans ((rows_reference m' c).trans (congrArg finalY e)), r1.trans ((state_reference m' c).trans (congrArg finalS e)),
    r2.trans (cos_reference freqs), r3.trans (sin_reference freqs), r⟩

end Cert.Step.Claims
end
-- ==== Proof.Proj.Rows.lean ====
module

public import proofs.«01_k».proof.Proof.Value.Rows

@[expose] public section

noncomputable section

namespace Cert.Proj

open Idealize.ShloMosaic Cert.Retention

/-! # The projections of the rows of a step -/

/-- The arguments by coordinates, and the rotary frequencies: the row `i` is the token `i % 4` of its sequence. -/
structure Args where
  x : Fin 512 → Fin 1024 → EReal
  g : Fin 1024 → EReal
  w : Fin 1024 → Fin 6144 → EReal
  f : Fin 128 → EReal

namespace Args

variable (A : Args)

/-- The projection of a row. -/
def z (i : Fin 512) (n : Fin 6144) : EReal := projRow (hnRow (A.x i) A.g) A.w n

/-- The angle of a row at a frequency: the sequences stand behind 16384 tokens. -/
def angle (i : Fin 512) (k : Fin 128) : EReal := (((16384 + i.val % 4 : ℕ) : ℝ) : EReal) * A.f k

/-- A head's part of a row, turned by the row's angles. -/
def turned (col : Fin 256 → Fin 6144) (i : Fin 512) (d : Fin 256) : EReal :=
  rot (fun d => A.z i (col d)) (fun k => Ideal.cos (A.angle i k)) (fun k => Ideal.sin (A.angle i k)) d

/-- The queries, the keys, the values and the gates. -/
def q (i : Fin 512) (h : Fin 4) (d : Fin 256) : EReal := A.turned (qCol h) i d
def k (i : Fin 512) (h : Fin 4) (d : Fin 256) : EReal := A.turned (kCol h) i d * Ideal.ofBits .f32 0x3D800000#32
def v (i : Fin 512) (h : Fin 4) (e : Fin 512) : EReal := A.z i (vCol h e)
def sg (i : Fin 512) (h : Fin 4) (e : Fin 512) : EReal := A.z i (gCol h e) * Ideal.logistic (A.z i (gCol h e))

end Args

/-- The head of a column, and the column's place in the head. -/
def hd (n : Fin 1024) : Fin 4 := ⟨n.val / 256, by omega⟩
def place (n : Fin 1024) : Fin 256 := ⟨n.val % 256, by omega⟩
def hdV (n : Fin 2048) : Fin 4 := ⟨n.val / 512, by omega⟩
def placeV (n : Fin 2048) : Fin 512 := ⟨n.val % 512, by omega⟩

/-- The column of a head's place. -/
def colQ (h : Fin 4) (d : Fin 256) : Fin 1024 := ⟨256 * h.val + d.val, by omega⟩
def colV (h : Fin 4) (e : Fin 512) : Fin 2048 := ⟨512 * h.val + e.val, by omega⟩

theorem hd_colQ (h : Fin 4) (d : Fin 256) : hd (colQ h d) = h := Fin.ext (by simp only [hd, colQ]; omega)
theorem place_colQ (h : Fin 4) (d : Fin 256) : place (colQ h d) = d := Fin.ext (by simp only [place, colQ]; omega)
theorem hdV_colV (h : Fin 4) (e : Fin 512) : hdV (colV h e) = h := Fin.ext (by simp only [hdV, colV]; omega)
theorem placeV_colV (h : Fin 4) (e : Fin 512) : placeV (colV h e) = e := Fin.ext (by simp only [placeV, colV]; omega)

end Cert.Proj
end
-- ==== Proof.Proj.TileRows.lean ====
module

public import proofs.«01_k».proof.Proof.Gen.Kernel6Ideal.Frame
public import proofs.«01_k».proof.Proof.Proj.Rows
public import Idealize.ShloMosaic.Lib.Pipeline.Value
public import Idealize.ShloMosaic.Lib.Pointwise

@[expose] public section

set_option maxRecDepth 16384

noncomputable section

namespace Cert.Proj

open Cert.Kernel6Ideal Cert.Kernel6Ideal.Gen Cert.Retention
open Idealize.ShloMosaic Idealize.ShloMosaic.TcCoe Idealize.ShloMosaic.Tactic

/-! # The rows that the body leaves -/

variable (x : Vec Ideal S512x1024 .f32) (g : Vec Ideal S1x1024 .f32) (w : Vec Ideal S1x1024x6144 .bf16) (f : Vec Ideal S1x128 .f32)

/-- The blocks by coordinates. -/
def blocks : Args where
  x i d := x (ix2 i d)
  g d := g (ix2 0 d)
  w k n := w (ix3 0 k n)
  f k := f (ix2 0 k)

theorem ld_x : (View.ld x r0_0 : Vec Ideal S512x1024 .f32) = x :=
  funext fun y => congrArg x (by funext a; fin_cases a <;> (apply Fin.ext; simp))
theorem ld_g : (View.ld g r0_1 : Vec Ideal S1x1024 .f32) = g :=
  funext fun y => congrArg g (by funext a; fin_cases a <;> (apply Fin.ext; simp))
theorem ld_f : (View.ld f r0_2 : Vec Ideal S1x128 .f32) = f :=
  funext fun y => congrArg f (by funext a; fin_cases a <;> (apply Fin.ext; simp))

/-- A row's position as the body counts it. -/
theorem position (i : Fin 512) : (FloatOps.sitofp .f32 (IntOp.addi 16384#32 (IntOp.remsi .vector (BitVec.ofNat 32 i.val) 4#32)) : Ideal .f32)
    = (((16384 + i.val % 4 : ℕ) : ℝ) : EReal) := by
  have e : ∀ i : Fin 512, (IntOp.addi 16384#32 (IntOp.remsi .vector (BitVec.ofNat 32 i.val) 4#32)).toInt = ((16384 + i.val % 4 : ℕ) : ℤ) := by
    decide +kernel
  show (((IntOp.addi 16384#32 (IntOp.remsi .vector (BitVec.ofNat 32 i.val) 4#32)).toInt : ℝ) : EReal) = _
  rw [e i, Int.cast_natCast]

theorem normed_apply (i : Fin 512) (d : Fin 1024) : k0_pay29 x g w f (ix2 i d) = hnRow (fun d => x (ix2 i d)) (fun d => g (ix2 0 d)) d := by
  unfold k0_pay29
  rw [ld_x, ld_g]
  pointwise [k0_pay1, hnRow, eps]
theorem angle_apply (i : Fin 512) (k : Fin 128) : k0_pay2 f (ix2 i k) = (blocks x g w f).angle i k := by
  refine Eq.trans ?_ (congrArg (fun p : EReal => p * f (ix2 0 k)) (position i))
  pointwise [k0_pay2]
theorem cos_apply (i : Fin 512) (k : Fin 128) : k0_pay30 x g w f (ix2 i k) = Ideal.cos ((blocks x g w f).angle i k) := by
  unfold k0_pay30
  rw [ld_f]
  exact congrArg Ideal.cos (angle_apply x g w f i k)
theorem sin_apply (i : Fin 512) (k : Fin 128) : k0_pay31 x g w f (ix2 i k) = Ideal.sin ((blocks x g w f).angle i k) := by
  unfold k0_pay31
  rw [ld_f]
  exact congrArg Ideal.sin (angle_apply x g w f i k)

theorem pay25_apply (hn : FVec Ideal S512x1024 .bf16) (C S : FVec Ideal S512x128 .f32) (u : Vec Ideal S1x1024x256 .bf16) (W : Fin 1024 → Fin 256 → EReal)
    (hu : ∀ k d, u (ix3 0 k d) = W k d) (i : Fin 512) (d : Fin 256) :
    k0_pay25 hn C S u (ix2 i d) = rot (fun d => ∑ k : Fin 1024, hn (ix2 i k) * W k d) (fun k => C (ix2 i k)) (fun k => S (ix2 i k)) d := by
  simp only [← hu]
  pointwise [k0_pay25, rot]
theorem pay26_apply (hn : FVec Ideal S512x1024 .bf16) (C S : FVec Ideal S512x128 .f32) (u : Vec Ideal S1x1024x256 .bf16) (W : Fin 1024 → Fin 256 → EReal)
    (hu : ∀ k d, u (ix3 0 k d) = W k d) (i : Fin 512) (d : Fin 256) :
    k0_pay26 hn C S u (ix2 i d) = rot (fun d => ∑ k : Fin 1024, hn (ix2 i k) * W k d) (fun k => C (ix2 i k)) (fun k => S (ix2 i k)) d
      * Ideal.ofBits .f32 0x3D800000#32 := by
  simp only [← hu]
  pointwise [k0_pay26, rot]
theorem pay27_apply (hn : FVec Ideal S512x1024 .bf16) (u : Vec Ideal S1x1024x512 .bf16) (W : Fin 1024 → Fin 512 → EReal)
    (hu : ∀ k e, u (ix3 0 k e) = W k e) (i e : Fin 512) :
    k0_pay27 hn u (ix2 i e) = ∑ k : Fin 1024, hn (ix2 i k) * W k e := by
  simp only [← hu]
  pointwise [k0_pay27]
theorem pay28_apply (hn : FVec Ideal S512x1024 .bf16) (u : Vec Ideal S1x1024x512 .bf16) (W : Fin 1024 → Fin 512 → EReal)
    (hu : ∀ k e, u (ix3 0 k e) = W k e) (i e : Fin 512) :
    k0_pay28 hn u (ix2 i e) = (∑ k : Fin 1024, hn (ix2 i k) * W k e) * Ideal.logistic (∑ k : Fin 1024, hn (ix2 i k) * W k e) := by
  simp only [← hu]
  pointwise [k0_pay28]

/-! Where a head's columns of the weights are read, and where its columns of the results are stored. -/

theorem inb_q (h : Fin 4) : ∀ a, (![0, 0, 256 * h.val] : Fin 3 → ℕ) a + S1x1024x256.size a ≤ S1x1024x6144.size a := by revert h; decide
theorem inb_k (h : Fin 4) : ∀ a, (![0, 0, 1024 + 256 * h.val] : Fin 3 → ℕ) a + S1x1024x256.size a ≤ S1x1024x6144.size a := by revert h; decide
theorem inb_v (h : Fin 4) : ∀ a, (![0, 0, 2048 + 512 * h.val] : Fin 3 → ℕ) a + S1x1024x512.size a ≤ S1x1024x6144.size a := by revert h; decide
theorem inb_g (h : Fin 4) : ∀ a, (![0, 0, 4096 + 512 * h.val] : Fin 3 → ℕ) a + S1x1024x512.size a ≤ S1x1024x6144.size a := by revert h; decide
theorem inb_o (h : Fin 4) : ∀ a, (![0, 256 * h.val] : Fin 2 → ℕ) a + S512x256.size a ≤ S512x1024.size a := by revert h; decide
theorem inb_e (h : Fin 4) : ∀ a, (![0, 512 * h.val] : Fin 2 → ℕ) a + S512x512.size a ≤ S512x2048.size a := by revert h; decide

abbrev rectQ (h : Fin 4) : Rect S1x1024x6144 := Rect.unit (s := S1x1024x6144) ![0, 0, 256 * h.val] S1x1024x256.size (inb_q h)
abbrev rectK (h : Fin 4) : Rect S1x1024x6144 := Rect.unit (s := S1x1024x6144) ![0, 0, 1024 + 256 * h.val] S1x1024x256.size (inb_k h)
abbrev rectV (h : Fin 4) : Rect S1x1024x6144 := Rect.unit (s := S1x1024x6144) ![0, 0, 2048 + 512 * h.val] S1x1024x512.size (inb_v h)
abbrev rectG (h : Fin 4) : Rect S1x1024x6144 := Rect.unit (s := S1x1024x6144) ![0, 0, 4096 + 512 * h.val] S1x1024x512.size (inb_g h)
abbrev rectO (h : Fin 4) : Rect S512x1024 := Rect.unit (s := S512x1024) ![0, 256 * h.val] S512x256.size (inb_o h)
abbrev rectE (h : Fin 4) : Rect S512x2048 := Rect.unit (s := S512x2048) ![0, 512 * h.val] S512x512.size (inb_e h)

theorem ldQ (h : Fin 4) (k : Fin 1024) (d : Fin 256) : (View.ld w (rectQ h) : Vec Ideal S1x1024x256 .bf16) (ix3 0 k d) = w (ix3 0 k (qCol h d)) :=
  congrArg w (by funext a; fin_cases a <;> (apply Fin.ext; simp [qCol]))
theorem ldK (h : Fin 4) (k : Fin 1024) (d : Fin 256) : (View.ld w (rectK h) : Vec Ideal S1x1024x256 .bf16) (ix3 0 k d) = w (ix3 0 k (kCol h d)) :=
  congrArg w (by funext a; fin_cases a <;> (apply Fin.ext; simp [kCol]))
theorem ldV (h : Fin 4) (k : Fin 1024) (e : Fin 512) : (View.ld w (rectV h) : Vec Ideal S1x1024x512 .bf16) (ix3 0 k e) = w (ix3 0 k (vCol h e)) :=
  congrArg w (by funext a; fin_cases a <;> (apply Fin.ext; simp [vCol]))
theorem ldG (h : Fin 4) (k : Fin 1024) (e : Fin 512) : (View.ld w (rectG h) : Vec Ideal S1x1024x512 .bf16) (ix3 0 k e) = w (ix3 0 k (gCol h e)) :=
  congrArg w (by funext a; fin_cases a <;> (apply Fin.ext; simp [gCol]))
theorem rectO_emb (h : Fin 4) (i : Fin 512) (d : Fin 256) : (rectO h).emb (ix2 i d : S512x256.Idx) = (ix2 i (colQ h d) : S512x1024.Idx) := by
  funext a; fin_cases a
  · exact Fin.ext (show 0 + 1 * i.val = i.val by omega)
  · exact Fin.ext (show 256 * h.val + 1 * d.val = 256 * h.val + d.val by omega)
theorem rectE_emb (h : Fin 4) (i e : Fin 512) : (rectE h).emb (ix2 i e : S512x512.Idx) = (ix2 i (colV h e) : S512x2048.Idx) := by
  funext a; fin_cases a
  · exact Fin.ext (show 0 + 1 * i.val = i.val by omega)
  · exact Fin.ext (show 512 * h.val + 1 * e.val = 512 * h.val + e.val by omega)

/-! The results of the rows, as arrays. -/

def arrQ (A : Args) : Vec Ideal S512x1024 .f32 := fun y => A.q (y 0) (hd (y 1)) (place (y 1))
def arrK (A : Args) : Vec Ideal S512x1024 .f32 := fun y => A.k (y 0) (hd (y 1)) (place (y 1))
def arrV (A : Args) : Vec Ideal S512x2048 .f32 := fun y => A.v (y 0) (hdV (y 1)) (placeV (y 1))
def arrG (A : Args) : Vec Ideal S512x2048 .f32 := fun y => A.sg (y 0) (hdV (y 1)) (placeV (y 1))

theorem arrQ_col (A : Args) (h : Fin 4) (i : Fin 512) (d : Fin 256) : arrQ A (ix2 i (colQ h d)) = A.q i h d := by
  show A.q i (hd (colQ h d)) (place (colQ h d)) = _
  rw [hd_colQ, place_colQ]
theorem arrK_col (A : Args) (h : Fin 4) (i : Fin 512) (d : Fin 256) : arrK A (ix2 i (colQ h d)) = A.k i h d := by
  show A.k i (hd (colQ h d)) (place (colQ h d)) = _
  rw [hd_colQ, place_colQ]
theorem arrV_col (A : Args) (h : Fin 4) (i e : Fin 512) : arrV A (ix2 i (colV h e)) = A.v i h e := by
  show A.v i (hdV (colV h e)) (placeV (colV h e)) = _
  rw [hdV_colV, placeV_colV]
theorem arrG_col (A : Args) (h : Fin 4) (i e : Fin 512) : arrG A (ix2 i (colV h e)) = A.sg i h e := by
  show A.sg i (hdV (colV h e)) (placeV (colV h e)) = _
  rw [hdV_colV, placeV_colV]

/-! A head's store. -/

theorem storeQ (h : Fin 4) (y : (rectO h).shape.Idx) :
    k0_pay25 (k0_pay29 x g w f) (k0_pay30 x g w f) (k0_pay31 x g w f) (View.ld w (rectQ h)) y = arrQ (blocks x g w f) ((rectO h).emb y) := by
  obtain ⟨i, d, rfl⟩ : ∃ (i : Fin 512) (d : Fin 256), y = (ix2 i d : S512x256.Idx) := ⟨y 0, y 1, ValueIdx.eq_ix2 y⟩
  rw [rectO_emb, arrQ_col]
  refine (pay25_apply _ _ _ _ _ (ldQ w h) i d).trans ?_
  simp only [normed_apply, cos_apply, sin_apply]
  rfl
theorem storeK (h : Fin 4) (y : (rectO h).shape.Idx) :
    k0_pay26 (k0_pay29 x g w f) (k0_pay30 x g w f) (k0_pay31 x g w f) (View.ld w (rectK h)) y = arrK (blocks x g w f) ((rectO h).emb y) := by
  obtain ⟨i, d, rfl⟩ : ∃ (i : Fin 512) (d : Fin 256), y = (ix2 i d : S512x256.Idx) := ⟨y 0, y 1, ValueIdx.eq_ix2 y⟩
  rw [rectO_emb, arrK_col]
  refine (pay26_apply _ _ _ _ _ (ldK w h) i d).trans ?_
  simp only [normed_apply, cos_apply, sin_apply]
  rfl
theorem storeV (h : Fin 4) (y : (rectE h).shape.Idx) :
    k0_pay27 (k0_pay29 x g w f) (View.ld w (rectV h)) y = arrV (blocks x g w f) ((rectE h).emb y) := by
  obtain ⟨i, e, rfl⟩ : ∃ (i e : Fin 512), y = (ix2 i e : S512x512.Idx) := ⟨y 0, y 1, ValueIdx.eq_ix2 y⟩
  rw [rectE_emb, arrV_col]
  refine (pay27_apply _ _ _ (ldV w h) i e).trans ?_
  simp only [normed_apply]
  rfl
theorem storeG (h : Fin 4) (y : (rectE h).shape.Idx) :
    k0_pay28 (k0_pay29 x g w f) (View.ld w (rectG h)) y = arrG (blocks x g w f) ((rectE h).emb y) := by
  obtain ⟨i, e, rfl⟩ : ∃ (i e : Fin 512), y = (ix2 i e : S512x512.Idx) := ⟨y 0, y 1, ValueIdx.eq_ix2 y⟩
  rw [rectE_emb, arrG_col]
  refine (pay28_apply _ _ _ (ldG w h) i e).trans ?_
  simp only [normed_apply]
  rfl

/-! The four outputs after the body: all heads' stores together. -/

theorem queries_eq : out0_4 x g w f = arrQ (blocks x g w f) := by
  funext y
  unfold out0_4
  refine View.canon_apply_of_pieces (Val := Elt Ideal) (arrQ (blocks x g w f)) _ ?_ y (cover0_4 _ _ _ _ y)
  rw [List.forall_mem_cons, List.forall_mem_cons, List.forall_mem_cons, List.forall_mem_cons]
  exact ⟨storeQ x g w f 3, storeQ x g w f 2, storeQ x g w f 1, storeQ x g w f 0, fun _ h => absurd h List.not_mem_nil⟩
theorem keys_eq : out0_5 x g w f = arrK (blocks x g w f) := by
  funext y
  unfold out0_5
  refine View.canon_apply_of_pieces (Val := Elt Ideal) (arrK (blocks x g w f)) _ ?_ y (cover0_5 _ _ _ _ y)
  rw [List.forall_mem_cons, List.forall_mem_cons, List.forall_mem_cons, List.forall_mem_cons]
  exact ⟨storeK x g w f 3, storeK x g w f 2, storeK x g w f 1, storeK x g w f 0, fun _ h => absurd h List.not_mem_nil⟩
theorem values_eq : out0_6 x g w f = arrV (blocks x g w f) := by
  funext y
  unfold out0_6
  refine View.canon_apply_of_pieces (Val := Elt Ideal) (arrV (blocks x g w f)) _ ?_ y (cover0_6 _ _ _ _ y)
  rw [List.forall_mem_cons, List.forall_mem_cons, List.forall_mem_cons, List.forall_mem_cons]
  exact ⟨storeV x g w f 3, storeV x g w f 2, storeV x g w f 1, storeV x g w f 0, fun _ h => absurd h List.not_mem_nil⟩
theorem gates_eq : out0_7 x g w f = arrG (blocks x g w f) := by
  funext y
  unfold out0_7
  refine View.canon_apply_of_pieces (Val := Elt Ideal) (arrG (blocks x g w f)) _ ?_ y (cover0_7 _ _ _ _ y)
  rw [List.forall_mem_cons, List.forall_mem_cons, List.forall_mem_cons, List.forall_mem_cons]
  exact ⟨storeG x g w f 3, storeG x g w f 2, storeG x g w f 1, storeG x g w f 0, fun _ h => absurd h List.not_mem_nil⟩

end Cert.Proj
end
-- ==== Proof.Proj.Final.lean ====
module

public import proofs.«01_k».proof.Proof.Proj.TileRows
public import Idealize.ShloMosaic.Lib.Pipeline.ValueKit.Geometry

@[expose] public section

set_option maxRecDepth 16384

noncomputable section

namespace Cert.Proj

open Cert.Kernel6Ideal Cert.Kernel6Ideal.Gen Cert.Retention
open Idealize.ShloMosaic Idealize.ShloMosaic.TcCoe Idealize.SL.Sem
open Idealize.ShloMosaic.Pipeline (Dat)

variable (m : (ℓ : Loc nD τ sig) → Buf (Elt Ideal) ℓ) (c : Dev nD)

/-! # The results after the run -/

/-- The rotary frequencies. -/
def freqs : FVec Ideal S128 .f32 :=
  Host.powf (broadcastInDim S128 ![] bcast_S_S128 (constant S_ .f32 0x461C4000#32))
    (Host.divf (Host.negf (sitofp .f32 (iotaInDim S128 32 0))) (broadcastInDim S128 ![] bcast_S_S128 (constant S_ .f32 0x43000000#32)))

/-- The arguments by coordinates. -/
def args : Args where
  x i d := (m ((c.tc : Thread nD τ).loc main_arg0) : FVec Ideal S512x1024 .f32) (ix2 i d)
  g d := (m ((c.tc : Thread nD τ).loc main_arg1) : FVec Ideal S1x1024 .f32) (ix2 0 d)
  w k n := (m ((c.tc : Thread nD τ).loc main_arg2) : FVec Ideal S1x1024x6144 .bf16) (ix3 0 k n)
  f k := freqs (ix1 k)

theorem V_v6 : V m c main_v6 = (broadcastInDim S1x128 ![1] bcast_S128_S1x128_1 freqs : FVec Ideal S1x128 .f32) := by
  show StableHlo.after hostOps0 _ (Proc.devRef .tc main_v6) = _
  simp only [hostOps0]
  after_results_simp <;> rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem blk0 (t : Fin cfg0.N) (i : Fin 512) (d : Fin 1024) : (iblk m c 0 t : Vec Ideal S512x1024 .f32) (ix2 i d) = (args m c).x i d := by
  refine Eq.trans (congrArg (V m c main_arg0) (?_ : _ = (ix2 i d : S512x1024.Idx))) (congrFun (V_main_arg0 m c) (ix2 i d))
  blk_ext [idx0]
theorem blk1 (t : Fin cfg0.N) (d : Fin 1024) : (iblk m c 1 t : Vec Ideal S1x1024 .f32) (ix2 0 d) = (args m c).g d := by
  refine Eq.trans (congrArg (V m c main_arg1) (?_ : _ = (ix2 0 d : S1x1024.Idx))) (congrFun (V_main_arg1 m c) (ix2 0 d))
  blk_ext [idx1]
theorem blk2 (t : Fin cfg0.N) (k : Fin 1024) (n : Fin 6144) : (iblk m c 2 t : Vec Ideal S1x1024x6144 .bf16) (ix3 0 k n) = (args m c).w k n := by
  refine Eq.trans (congrArg (V m c main_arg2) (?_ : _ = (ix3 0 k n : S1x1024x6144.Idx))) (congrFun (V_main_arg2 m c) (ix3 0 k n))
  blk_ext [idx2]
theorem blk3 (t : Fin cfg0.N) (k : Fin 128) : (iblk m c 3 t : Vec Ideal S1x128 .f32) (ix2 0 k) = (args m c).f k := by
  refine Eq.trans (congrArg (V m c main_v6) (?_ : _ = (ix2 0 k : S1x128.Idx))) ((congrFun (V_v6 m c) (ix2 0 k)).trans ?_)
  · blk_ext [idx3]
  · have e (v : FVec Ideal S128 .f32) : broadcastInDim S1x128 ![1] bcast_S128_S1x128_1 v (ix2 0 k) = v (ix1 k) := by pointwise
    exact e freqs

theorem blocks_eq (t : Fin cfg0.N) : blocks (iblk m c 0 t) (iblk m c 1 t) (iblk m c 2 t) (iblk m c 3 t) = args m c := by
  unfold blocks
  simp only [blk0, blk1, blk2, blk3]

theorem final4 : (dats m 0 c).arrAt 4 cfg0.N = arrQ (args m c) := by
  refine (dats m 0 c).arrAt_eq_of_covers 4 _ (by decide +kernel) fun t hf y => ?_
  blk_simp
  rw [after0_4, queries_eq, blocks_eq]
  refine congrArg (arrQ (args m c)) (a₁ := (y : S512x1024.Idx)) (a₂ := _) ?_
  blk_ext [idx4]
theorem final5 : (dats m 0 c).arrAt 5 cfg0.N = arrK (args m c) := by
  refine (dats m 0 c).arrAt_eq_of_covers 5 _ (by decide +kernel) fun t hf y => ?_
  blk_simp
  rw [after0_5, keys_eq, blocks_eq]
  refine congrArg (arrK (args m c)) (a₁ := (y : S512x1024.Idx)) (a₂ := _) ?_
  blk_ext [idx5]
theorem final6 : (dats m 0 c).arrAt 6 cfg0.N = arrV (args m c) := by
  refine (dats m 0 c).arrAt_eq_of_covers 6 _ (by decide +kernel) fun t hf y => ?_
  blk_simp
  rw [after0_6, values_eq, blocks_eq]
  refine congrArg (arrV (args m c)) (a₁ := (y : S512x2048.Idx)) (a₂ := _) ?_
  blk_ext [idx6]
theorem final7 : (dats m 0 c).arrAt 7 cfg0.N = arrG (args m c) := by
  refine (dats m 0 c).arrAt_eq_of_covers 7 _ (by decide +kernel) fun t hf y => ?_
  blk_simp
  rw [after0_7, gates_eq, blocks_eq]
  refine congrArg (arrG (args m c)) (a₁ := (y : S512x2048.Idx)) (a₂ := _) ?_
  blk_ext [idx7]

/-- The run: what each result holds, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7_0) = arrQ (args m c)
      ∧ r.2.mem ((c.tc : Thread nD τ).loc main_v7_1) = arrK (args m c)
      ∧ r.2.mem ((c.tc : Thread nD τ).loc main_v7_2) = arrV (args m c)
      ∧ r.2.mem ((c.tc : Thread nD τ).loc main_v7_3) = arrG (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.2 c).1 4).trans (final4 m c), ((h.2 c).1 5).trans (final5 m c),
      ((h.2 c).1 6).trans (final6 m c), ((h.2 c).1 7).trans (final7 m c), h.1 c⟩)
    (θ_run_and (unchanged m ρ) (run_main m ρ))

end Cert.Proj
end
-- ==== Proof.Proj.Reference.lean ====
module

public import proofs.«01_k».proof.Proof.Gen.Reference6Ideal.Run
public import proofs.«01_k».proof.Proof.Proj.Rows
public import proofs.«01_k».proof.Proof.Value.Weights
public import Idealize.ShloMosaic.Lib.Pointwise

@[expose] public section

set_option maxRecDepth 16384

noncomputable section

namespace Cert.Proj.Reference

open Cert.Reference6Ideal Cert.Reference6Ideal.Gen Cert.Retention
open Idealize.ShloMosaic Idealize.ShloMosaic.TcCoe Idealize.SL.Sem Idealize.ShloMosaic.StableHlo

/-! # The reference, stage by stage -/

variable (x hn : FVec Ideal S512x1024 .f32) (g : FVec Ideal S1x1024 .f32) (w : FVec Ideal S1x1024x6144 .bf16) (z : FVec Ideal S128x4x6144 .f32)
  (f : FVec Ideal S128 .f32) (u : FVec Ideal S128x4x4x256 .f32) (cs sn t : FVec Ideal S4x128 .f32) (r : FVec Ideal S128x4x2048 .f32)

/-- The normalised rows. -/
def normed : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 g)
/-- The projection, by sequences. -/
def projected : FVec Ideal S128x4x6144 .f32 :=
  shapeCast _ (Host.dotGeneral dot_S512x1024_S1024x6144_S512x6144_1_0_0_1_n_n none hn (extf .f32 (shapeCast _ w shapeCasts_S1x1024x6144_S1024x6144) bitsLt_bf16_f32)) shapeCasts_S512x6144_S128x4x6144
/-- The queries and the keys, by heads. -/
def queries : FVec Ideal S128x4x4x256 .f32 :=
  shapeCast _ (extractStridedSlice S128x4x1024 ![0, 0, 0] z slices_S128x4x6144_S128x4x1024_0_0_0) shapeCasts_S128x4x1024_S128x4x4x256
def keys : FVec Ideal S128x4x4x256 .f32 :=
  shapeCast _ (extractStridedSlice S128x4x1024 ![0, 0, 1024] z slices_S128x4x6144_S128x4x1024_0_0_1024) shapeCasts_S128x4x1024_S128x4x4x256
/-- The frequencies and the angles. -/
def freqs : FVec Ideal S128 .f32 :=
  Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))
def angles : FVec Ideal S4x128 .f32 :=
  mulf (broadcastInDim S4x128 ![0, 1] bcast_S4x1_S4x128_0_1 (broadcastInDim S4x1 ![0] bcast_S4_S4x1_0 (addf (broadcastInDim S4 ![] bcast_S_S4 (constant S_ .f32 0x46800000#32)) (sitofp .f32 (iotaInDim S4 32 0))))) (broadcastInDim S4x128 ![0, 1] bcast_S1x128_S4x128_0_1 (broadcastInDim S1x128 ![1] bcast_S128_S1x128_1 f))
/-- A table of the tokens, for every sequence and head. -/
def table : FVec Ideal S128x4x4x128 .f32 :=
  broadcastInDim S128x4x4x128 ![0, 1, 2, 3] bcast_S1x4x1x128_S128x4x4x128_0_1_2_3 (broadcastInDim S1x4x1x128 ![1, 2, 3] bcast_S4x1x128_S1x4x1x128_1_2_3 (broadcastInDim S4x1x128 ![0, 2] bcast_S4x128_S4x1x128_0_2 t))
/-- The rotation. -/
def rotated : FVec Ideal S128x4x4x256 .f32 :=
  concatenate S128x4x4x256 3 [⟨S128x4x4x128, (subf (mulf (extractStridedSlice S128x4x4x128 ![0, 0, 0, 0] u slices_S128x4x4x256_S128x4x4x128_0_0_0_0) (table cs)) (mulf (extractStridedSlice S128x4x4x128 ![0, 0, 0, 128] u slices_S128x4x4x256_S128x4x4x128_0_0_0_128) (table sn)))⟩, ⟨S128x4x4x128, (addf (mulf (extractStridedSlice S128x4x4x128 ![0, 0, 0, 0] u slices_S128x4x4x256_S128x4x4x128_0_0_0_0) (table sn)) (mulf (extractStridedSlice S128x4x4x128 ![0, 0, 0, 128] u slices_S128x4x4x256_S128x4x4x128_0_0_0_128) (table cs)))⟩] concatenates_S128x4x4x128_S128x4x4x128_S128x4x4x256_d3
/-- The scaled keys. -/
def scaled : FVec Ideal S128x4x4x256 .f32 := mulf u (broadcastInDim S128x4x4x256 ![] bcast_S_S128x4x4x256 (constant S_ .f32 0x3D800000#32))
/-- The values and the gates, by sequences; the rows again. -/
def values : FVec Ideal S128x4x2048 .f32 := extractStridedSlice S128x4x2048 ![0, 0, 2048] z slices_S128x4x6144_S128x4x2048_0_0_2048
def gates : FVec Ideal S128x4x2048 .f32 := extractStridedSlice S128x4x2048 ![0, 0, 4096] z slices_S128x4x6144_S128x4x2048_0_0_4096
def silu : FVec Ideal S128x4x2048 .f32 :=
  mulf r (Host.divf (broadcastInDim S128x4x2048 ![] bcast_S_S128x4x2048 (constant S_ .f32 0x3F800000#32)) (addf (broadcastInDim S128x4x2048 ![] bcast_S_S128x4x2048 (constant S_ .f32 0x3F800000#32)) (Host.exp (Host.negf r))))
def heads : FVec Ideal S512x1024 .f32 := shapeCast _ u shapeCasts_S128x4x4x256_S512x1024
def rows : FVec Ideal S512x2048 .f32 := shapeCast _ r shapeCasts_S128x4x2048_S512x2048

/-- A row's sequence and token, and the row of a token. -/
def seqOf (i : Fin 512) : Fin 128 := ⟨i.val / 4, by omega⟩
def tokOf (i : Fin 512) : Fin 4 := ⟨i.val % 4, by omega⟩
def rowOf (b : Fin 128) (t : Fin 4) : Fin 512 := ⟨b.val * 4 + t.val, by omega⟩

theorem rowOf_seqOf (i : Fin 512) : rowOf (seqOf i) (tokOf i) = i := Fin.ext (by simp only [rowOf, seqOf, tokOf]; omega)

theorem normed_apply (i : Fin 512) (d : Fin 1024) : normed x g (ix2 i d) = hnRow (fun d => x (ix2 i d)) (fun d => g (ix2 0 d)) d := by
  pointwise [normed, hnRow, eps]
theorem projected_apply (b : Fin 128) (t : Fin 4) (n : Fin 6144) :
    projected hn w (ix3 b t n) = projRow (fun d => hn (ix2 (rowOf b t) d)) (fun d n => w (ix3 0 d n)) n := by
  pointwise [projected, projRow, rowOf]
theorem queries_apply (b : Fin 128) (t h : Fin 4) (d : Fin 256) : queries z (ix4 b t h d) = z (ix3 b t (qCol h d)) := by
  pointwise [queries, qCol]
  exact congrArg (fun n => z (ix3 b t n)) (Fin.ext (by simp only; omega))
theorem keys_apply (b : Fin 128) (t h : Fin 4) (d : Fin 256) : keys z (ix4 b t h d) = z (ix3 b t (kCol h d)) := by
  pointwise [keys, kCol]
  exact congrArg (fun n => z (ix3 b t n)) (Fin.ext (by simp only; omega))
theorem angles_apply (t : Fin 4) (k : Fin 128) : angles f (ix2 t k) = (((16384 + t.val : ℕ) : ℝ) : EReal) * f (ix1 k) := by
  pointwise [angles]
  rw [sitofp_coord _ (by omega), show Ideal.ofBits .f32 0x46800000#32 = ((16384 : ℝ) : EReal) by
    simp [Ideal.ofBits, Ideal.ieee, -EReal.coe_mul]; norm_num, ← EReal.coe_add]
  push_cast; rfl
theorem rotated_apply (b : Fin 128) (t h : Fin 4) (d : Fin 256) :
    rotated u cs sn (ix4 b t h d) = rot (fun d => u (ix4 b t h d)) (fun j => cs (ix2 t j)) (fun j => sn (ix2 t j)) d := by
  pointwise [rotated, table, rot]
theorem scaled_apply (b : Fin 128) (t h : Fin 4) (d : Fin 256) : scaled u (ix4 b t h d) = u (ix4 b t h d) * Ideal.ofBits .f32 0x3D800000#32 := by
  pointwise [scaled]
theorem values_apply (b : Fin 128) (t : Fin 4) (n : Fin 2048) : values z (ix3 b t n) = z (ix3 b t (vCol (hdV n) (placeV n))) := by
  pointwise [values, vCol, hdV, placeV]
  exact congrArg (fun n => z (ix3 b t n)) (Fin.ext (by simp only; omega))
theorem gates_apply (b : Fin 128) (t : Fin 4) (n : Fin 2048) : gates z (ix3 b t n) = z (ix3 b t (gCol (hdV n) (placeV n))) := by
  pointwise [gates, gCol, hdV, placeV]
  exact congrArg (fun n => z (ix3 b t n)) (Fin.ext (by simp only; omega))
theorem silu_apply (b : Fin 128) (t : Fin 4) (n : Fin 2048) : silu r (ix3 b t n) = r (ix3 b t n) * Ideal.logistic (r (ix3 b t n)) := by
  pointwise [silu]
  rfl
theorem heads_apply (i : Fin 512) (n : Fin 1024) : heads u (ix2 i n) = u (ix4 (seqOf i) (tokOf i) (hd n) (place n)) := by
  pointwise [heads, seqOf, tokOf, hd, place]
theorem rows_apply (i : Fin 512) (n : Fin 2048) : rows r (ix2 i n) = r (ix3 (seqOf i) (tokOf i) n) := by
  pointwise [rows, seqOf, tokOf]

variable (m : (ℓ : Loc nD τ sig) → Buf (Elt Ideal) ℓ) (c : Dev nD)

/-- The arguments on a device. -/
def args : Args where
  x i d := (m ((c.tc : Thread nD τ).loc main_arg0) : FVec Ideal S512x1024 .f32) (ix2 i d)
  g d := (m ((c.tc : Thread nD τ).loc main_arg1) : FVec Ideal S1x1024 .f32) (ix2 0 d)
  w k n := (m ((c.tc : Thread nD τ).loc main_arg2) : FVec Ideal S1x1024x6144 .bf16) (ix3 0 k n)
  f k := freqs (ix1 k)

/-- The stages of the arguments. -/
def zOf : FVec Ideal S128x4x6144 .f32 :=
  projected (normed (m ((c.tc : Thread nD τ).loc main_arg0)) (m ((c.tc : Thread nD τ).loc main_arg1))) (m ((c.tc : Thread nD τ).loc main_arg2))
def turnedOf (u : FVec Ideal S128x4x4x256 .f32) : FVec Ideal S128x4x4x256 .f32 := rotated u (Host.cos (angles freqs)) (Host.sin (angles freqs))

theorem queries_eq : Value.res_main_v76 m c = heads (turnedOf (queries (zOf m c))) := rfl
theorem keys_eq : Value.res_main_v77 m c = heads (scaled (turnedOf (keys (zOf m c)))) := rfl

theorem zOf_apply (i : Fin 512) (n : Fin 6144) : zOf m c (ix3 (seqOf i) (tokOf i) n) = (args m c).z i n := by
  refine (projected_apply _ _ _ _ n).trans ?_
  rw [rowOf_seqOf]
  simp only [normed_apply]
  rfl
theorem turnedOf_apply (u : FVec Ideal S128x4x4x256 .f32) (col : Fin 256 → Fin 6144) (i : Fin 512) (h : Fin 4) (d : Fin 256)
    (hu : ∀ d, u (ix4 (seqOf i) (tokOf i) h d) = (args m c).z i (col d)) :
    turnedOf u (ix4 (seqOf i) (tokOf i) h d) = (args m c).turned col i d := by
  refine (rotated_apply _ _ _ _ _ h d).trans ?_
  simp only [hu]
  unfold Args.turned
  congr 1
  · exact funext fun k => congrArg Ideal.cos (angles_apply freqs (tokOf i) k)
  · exact funext fun k => congrArg Ideal.sin (angles_apply freqs (tokOf i) k)

/-- The four results. -/
theorem q_apply (i : Fin 512) (n : Fin 1024) : (Value.res_main_v76 m c : FVec Ideal S512x1024 .f32) (ix2 i n) = (args m c).q i (hd n) (place n) := by
  rw [queries_eq]
  refine (heads_apply _ i n).trans (turnedOf_apply m c _ (qCol (hd n)) i (hd n) (place n) fun d => ?_)
  rw [queries_apply, zOf_apply]
theorem k_apply (i : Fin 512) (n : Fin 1024) : (Value.res_main_v77 m c : FVec Ideal S512x1024 .f32) (ix2 i n) = (args m c).k i (hd n) (place n) := by
  rw [keys_eq]
  refine (heads_apply _ i n).trans ((scaled_apply _ _ _ _ _).trans ?_)
  refine congrArg (· * _) (turnedOf_apply m c _ (kCol (hd n)) i (hd n) (place n) fun d => ?_)
  rw [keys_apply, zOf_apply]
theorem v_apply (i : Fin 512) (n : Fin 2048) : rows (values (zOf m c)) (ix2 i n) = (args m c).v i (hdV n) (placeV n) := by
  rw [rows_apply, values_apply, zOf_apply]
  rfl
theorem sg_apply (i : Fin 512) (n : Fin 2048) : rows (silu (gates (zOf m c))) (ix2 i n) = (args m c).sg i (hdV n) (placeV n) := by
  rw [rows_apply, silu_apply, gates_apply, zOf_apply]
  rfl

end Cert.Proj.Reference
end
-- ==== Proof.Proj.Claims.lean ====
module

public import proofs.«01_k».proof.Defs
public import proofs.«01_k».proof.Proof.Proj.Final
public import proofs.«01_k».proof.Proof.Proj.Reference
public import proofs.«01_k».proof.Proof.Gen.Kernel6.Frame
public import Idealize.ShloMosaic.Lib.Quiescent

@[expose] public section

set_option maxRecDepth 16384

noncomputable section

/-! # The claims of the projections of a step -/

namespace Cert.Proj.Claims

open Idealize.ShloMosaic Idealize.SL.Sem Cert.Proj Cert.Retention

theorem kernel : Cert.quiescent_Kernel6 := fun m ρ _ => Cert.Kernel6.Gen.frame m ρ
theorem kernelIdeal : Cert.quiescent_Kernel6Ideal := fun m ρ _ => Cert.Kernel6Ideal.Gen.frame m ρ
theorem referenceIdeal : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)
theorem preserves : Cert.preserves_Kernel6_Kernel6Ideal := trivial

section Reference

open Cert.Reference6Ideal Cert.Reference6Ideal.Gen

variable (m : (ℓ : Loc nD τ sig) → Buf (Elt Ideal) ℓ) (c : Dev nD)

/-! The reference's results, as the functions that the kernel's are. -/

theorem queries_reference : (Value.res_main_v76 m c : FVec Ideal S512x1024 .f32) = arrQ (Reference.args m c) := by
  funext y
  exact (congrArg _ (ValueIdx.eq_ix2 y)).trans (Reference.q_apply m c (y 0) (y 1))
theorem keys_reference : (Value.res_main_v77 m c : FVec Ideal S512x1024 .f32) = arrK (Reference.args m c) := by
  funext y
  exact (congrArg _ (ValueIdx.eq_ix2 y)).trans (Reference.k_apply m c (y 0) (y 1))
theorem values_reference : Reference.rows (Reference.values (Reference.zOf m c)) = arrV (Reference.args m c) := by
  funext y
  exact (congrArg _ (ValueIdx.eq_ix2 y)).trans (Reference.v_apply m c (y 0) (y 1))
theorem gates_reference : Reference.rows (Reference.silu (Reference.gates (Reference.zOf m c))) = arrG (Reference.args m c) := by
  funext y
  exact (congrArg _ (ValueIdx.eq_ix2 y)).trans (Reference.sg_apply m c (y 0) (y 1))

end Reference

theorem algebraic : Cert.algebraic_Kernel6Ideal_Reference6Ideal := by
  intro m ρ m' ρ' _ hagree
  refine ⟨_, _, _, _, run m ρ, ?_⟩
  refine (θ_run Cert.Reference6Ideal.defs _ _).mono (fun _ h c => ?_) (Cert.Reference6Ideal.Value.run (F := Ideal) m' ρ')
  obtain ⟨h0, h1, h2⟩ := hagree c
  have e : Reference.args m' c = args m c := by
    unfold Reference.args args
    rw [h0, h1, h2]
    rfl
  obtain ⟨r0, r1, r2, r3, r⟩ := h c
  exact ⟨r0.trans ((queries_reference m' c).trans (congrArg arrQ e)), r1.trans ((keys_reference m' c).trans (congrArg arrK e)),
    r2.trans ((values_reference m' c).trans (congrArg arrV e)), r3.trans ((gates_reference m' c).trans (congrArg arrG e)), r⟩

end Cert.Proj.Claims
end
-- ==== Proof.lean ====
module

public import proofs.«01_k».proof.Defs
public import proofs.«01_k».proof.Proof.Value.Claims
public import proofs.«01_k».proof.Proof.Ffn.Claims
public import proofs.«01_k».proof.Proof.Conv.Claims
public import proofs.«01_k».proof.Proof.Sample.Claims
public import proofs.«01_k».proof.Proof.Step.Claims
public import proofs.«01_k».proof.Proof.Proj.Claims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Kernel3.Frame
public import proofs.«01_k».proof.Proof.Gen.Kernel3Ideal
public import proofs.«01_k».proof.Proof.Gen.Reference3Ideal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Pre_finite.facts,
    Retention.Claims.kernel, Retention.Claims.kernelIdeal, Retention.Claims.kernelIdealPre, Retention.Claims.referenceIdeal,
    Retention.Claims.referenceIdealPre, Ffn.Claims.kernel, Ffn.Claims.kernelIdeal, Ffn.Claims.referenceIdeal,
    Conv.Claims.kernel, Conv.Claims.kernelIdeal, Conv.Claims.referenceIdeal,
    Sample.Claims.kernel, Sample.Claims.kernelIdeal, Sample.Claims.referenceIdeal,
    Step.Claims.kernel, Step.Claims.kernelIdeal, Step.Claims.referenceIdeal,
    Proj.Claims.kernel, Proj.Claims.kernelIdeal, Proj.Claims.referenceIdeal,
    Retention.Claims.preserves, Retention.Claims.algebraic, Ffn.Claims.preserves, Ffn.Claims.algebraic,
    Conv.Claims.preserves, Conv.Claims.algebraic, Sample.Claims.preserves, Sample.Claims.algebraic,
    Step.Claims.preserves, Step.Claims.algebraic, Proj.Claims.preserves, Proj.Claims.algebraic⟩

end Cert.Proof

end
